-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v104_1)) (v1 : (c : Dev Cert.Kernel4Ideal.nD) → Buf (Elt Ideal) ((c.tc : Thread Cert.Kernel4Ideal.nD Cert.Kernel4Ideal.τ).loc Cert.Kernel4Ideal.main_v104_2)) (v2 : (c : Dev Cert.Kernel4Ideal.nD) → Buf (Elt Ideal) ((c.tc : Thread Cert.Kernel4Ideal.nD Cert.Kernel4Ideal.τ).loc Cert.Kernel4Ideal.main_v104_4)) (v3 : (c : Dev Cert.Kernel4Ideal.nD) → Buf (Elt Ideal) ((c.tc : Thread Cert.Kernel4Ideal.nD Cert.Kernel4Ideal.τ).loc Cert.Kernel4Ideal.main_v104_5)) (v4 : (c : Dev Cert.Kernel4Ideal.nD) → Buf (Elt Ideal) ((c.tc : Thread Cert.Kernel4Ideal.nD Cert.Kernel4Ideal.τ).loc Cert.Kernel4Ideal.main_v104_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v104_1) = v0 c
          ∧ r.2.mem ((c.tc : Thread Cert.Kernel4Ideal.nD Cert.Kernel4Ideal.τ).loc Cert.Kernel4Ideal.main_v104_2) = v1 c
          ∧ r.2.mem ((c.tc : Thread Cert.Kernel4Ideal.nD Cert.Kernel4Ideal.τ).loc Cert.Kernel4Ideal.main_v104_4) = v2 c
          ∧ r.2.mem ((c.tc : Thread Cert.Kernel4Ideal.nD Cert.Kernel4Ideal.τ).loc Cert.Kernel4Ideal.main_v104_5) = v3 c
          ∧ r.2.mem ((c.tc : Thread Cert.Kernel4Ideal.nD Cert.Kernel4Ideal.τ).loc Cert.Kernel4Ideal.main_v104_8) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v81) = v2 c
          ∧ r.2.mem ((c.tc : Thread Cert.Reference4Ideal.nD Cert.Reference4Ideal.τ).loc Cert.Reference4Ideal.main_v82) = v3 c
          ∧ r.2.mem ((c.tc : Thread Cert.Reference4Ideal.nD Cert.Reference4Ideal.τ).loc Cert.Reference4Ideal.main_v83) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_pre.lean ====
abbrev S8x2048x4x2x64 : Shape := ⟨5, ![8, 2048, 4, 2, 64]⟩
abbrev S2x8x2048x4x2x64 : Shape := ⟨6, ![2, 8, 2048, 4, 2, 64]⟩
abbrev S2x8x2048x4x128 : Shape := ⟨5, ![2, 8, 2048, 4, 128]⟩
abbrev S4x64 : Shape := ⟨2, ![4, 64]⟩
abbrev S128 : Shape := ⟨1, ![128]⟩
abbrev S_ : Shape := ⟨0, ![]⟩
abbrev S1x8x2048x4x2x64 : Shape := ⟨6, ![1, 8, 2048, 4, 2, 64]⟩
abbrev S1x8x2048x4x128 : Shape := ⟨5, ![1, 8, 2048, 4, 128]⟩
abbrev S8x2048x4x128 : Shape := ⟨4, ![8, 2048, 4, 128]⟩

class Facts : Prop where
  bcast_S_S8x2048x4x2x64 : S_.BroadcastsInDim S8x2048x4x2x64 (![] : Fin 0 → Fin S8x2048x4x2x64.rank)
  reducesTo_S8x2048x4x2x64_S_d0_1_2_3_4 : S8x2048x4x2x64.ReducesTo [0, 1, 2, 3, 4] S_
  h_S_ : 0 < S_.numel
  slices_S2x8x2048x4x2x64_S1x8x2048x4x2x64_0_0_0_0_0_0 : S2x8x2048x4x2x64.Slices ![0, 0, 0, 0, 0, 0] S1x8x2048x4x2x64
  shapeCasts_S1x8x2048x4x2x64_S8x2048x4x2x64 : S1x8x2048x4x2x64.ShapeCasts S8x2048x4x2x64
  slices_S2x8x2048x4x128_S1x8x2048x4x128_0_0_0_0_0 : S2x8x2048x4x128.Slices ![0, 0, 0, 0, 0] S1x8x2048x4x128
  shapeCasts_S1x8x2048x4x128_S8x2048x4x128 : S1x8x2048x4x128.ShapeCasts S8x2048x4x128
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg3 : FVec F S4x64 .f32) (main_v17 : IVec S_ 1) : IVec S_ 1 :=
  let main_v18 : FVec F S4x64 .f32 := Host.absf main_arg3
  let main_cst_4 : FVec F S_ .f32 := constant S_ .f32 0x7F800000#32
  let main_v19 : FVec F S4x64 .f32 := broadcastInDim S4x64 ![] bcast_S_S4x64 main_cst_4
  let main_v20 : IVec S4x64 1 := cmpf .olt main_v18 main_v19
  let main_c_5 : IVec S_ 1 := constantI S_ 1 1#1
  let main_v21 : IVec S_ 1 := (fun x v => Host.reduce IntOp.andi x v reducesTo_S4x64_S_d0_1 h_S_) main_v20 main_c_5
  let main_v22 : IVec S_ 1 := andi main_v17 main_v21
  main_v22

def fn {F : FTy → Type} [FloatOps F] (main_arg0 : FVec F S8x2048x4x2x64 .f32) (main_arg1 : FVec F S2x8x2048x4x2x64 .f32) (main_arg2 : FVec F S2x8x2048x4x128 .f32) (main_arg3 : FVec F S4x64 .f32) (main_arg4 : FVec F S128 .f32) : IVec S_ 1 :=
  let main_v0 : FVec F S8x2048x4x2x64 .f32 := Host.absf main_arg0
  let main_cst : FVec F S_ .f32 := constant S_ .f32 0x7F800000#32
  let main_v1 : FVec F S8x2048x4x2x64 .f32 := broadcastInDim S8x2048x4x2x64 ![] bcast_S_S8x2048x4x2x64 main_cst
  let main_v2 : IVec S8x2048x4x2x64 1 := cmpf .olt main_v0 main_v1
  let main_c : IVec S_ 1 := constantI S_ 1 1#1
  let main_v3 : IVec S_ 1 := (fun x v => Host.reduce IntOp.andi x v reducesTo_S8x2048x4x2x64_S_d0_1_2_3_4 h_S_) main_v2 main_c
  let main_v4 : FVec F S1x8x2048x4x2x64 .f32 := (extractStridedSlice S1x8x2048x4x2x64 ![0, 0, 0, 0, 0, 0] · slices_S2x8x2048x4x2x64_S1x8x2048x4x2x64_0_0_0_0_0_0) main_arg1
  let main_v5 : FVec F S8x2048x4x2x64 .f32 := shapeCast S8x2048x4x2x64 main_v4 shapeCasts_S1x8x2048x4x2x64_S8x2048x4x2x64
  let main_v6 : FVec F S8x2048x4x2x64 .f32 := Host.absf main_v5
  let main_cst_0 : FVec F S_ .f32 := constant S_ .f32 0x7F800000#32
  let main_v7 : FVec F S8x2048x4x2x64 .f32 := broadcastInDim S8x2048x4x2x64 ![] bcast_S_S8x2048x4x2x64 main_cst_0
  let main_v8 : IVec S8x2048x4x2x64 1 := cmpf .olt main_v6 main_v7
  let main_c_1 : IVec S_ 1 := constantI S_ 1 1#1
  let main_v9 : IVec S_ 1 := (fun x v => Host.reduce IntOp.andi x v reducesTo_S8x2048x4x2x64_S_d0_1_2_3_4 h_S_) main_v8 main_c_1
  let main_v10 : IVec S_ 1 := andi main_v3 main_v9
  let main_v11 : FVec F S1x8x2048x4x128 .f32 := (extractStridedSlice S1x8x2048x4x128 ![0, 0, 0, 0, 0] · slices_S2x8x2048x4x128_S1x8x2048x4x128_0_0_0_0_0) main_arg2
  let main_v12 : FVec F S8x2048x4x128 .f32 := shapeCast S8x2048x4x128 main_v11 shapeCasts_S1x8x2048x4x128_S8x2048x4x128
  let main_v13 : FVec F S8x2048x4x128 .f32 := Host.absf main_v12
  let main_cst_2 : FVec F S_ .f32 := constant S_ .f32 0x7F800000#32
  let main_v14 : FVec F S8x2048x4x128 .f32 := broadcastInDim S8x2048x4x128 ![] bcast_S_S8x2048x4x128 main_cst_2
  let main_v15 : IVec S8x2048x4x128 1 := cmpf .olt main_v13 main_v14
  let main_c_3 : IVec S_ 1 := constantI S_ 1 1#1
  let main_v16 : IVec S_ 1 := (fun x v => Host.reduce IntOp.andi x v reducesTo_S8x2048x4x128_S_d0_1_2_3 h_S_) main_v15 main_c_3
  let main_v17 : IVec S_ 1 := andi main_v10 main_v16
  fn_part1 (F := F) main_arg3 main_v17
-- ==== Kernel.lean ====
abbrev S8x2048x4x2x64 : Shape := ⟨5, ![8, 2048, 4, 2, 64]⟩
abbrev S2x8x2048x4x2x64 : Shape := ⟨6, ![2, 8, 2048, 4, 2, 64]⟩
abbrev S2x8x2048x4x128 : Shape := ⟨5, ![2, 8, 2048, 4, 128]⟩
abbrev S4x64 : Shape := ⟨2, ![4, 64]⟩
abbrev S128 : Shape := ⟨1, ![128]⟩
abbrev S8x2048x512 : Shape := ⟨3, ![8, 2048, 512]⟩
abbrev S2x8x4x2x64x2048 : Shape := ⟨6, ![2, 8, 4, 2, 64, 2048]⟩
abbrev S2x8x512x2048 : Shape := ⟨4, ![2, 8, 512, 2048]⟩
abbrev S2x8x8192x128 : Shape := ⟨4, ![2, 8, 8192, 128]⟩
abbrev S4 : Shape := ⟨1, ![4]⟩
abbrev S_ : Shape := ⟨0, ![]⟩
abbrev S1x128 : Shape := ⟨2, ![1, 128]⟩
abbrev S1x512x128 : Shape := ⟨3, ![1, 512, 128]⟩
abbrev S1x1x128x2048 : Shape := ⟨4, ![1, 1, 128, 2048]⟩
abbrev S1x1x8192x128 : Shape := ⟨4, ![1, 1, 8192, 128]⟩
abbrev S128x2048 : Shape := ⟨2, ![128, 2048]⟩
abbrev S2048x128 : Shape := ⟨2, ![2048, 128]⟩
abbrev S1x1x2048x128 : Shape := ⟨4, ![1, 1, 2048, 128]⟩
abbrev S512x128 : Shape := ⟨2, ![512, 128]⟩
abbrev S1024x128 : Shape := ⟨2, ![1024, 128]⟩
abbrev S512x1 : Shape := ⟨2, ![512, 1]⟩
abbrev S1024x1 : Shape := ⟨2, ![1024, 1]⟩
abbrev S1 : Shape := ⟨1, ![1]⟩
abbrev S128x512 : Shape := ⟨2, ![128, 512]⟩
abbrev S1x512 : Shape := ⟨2, ![1, 512]⟩
abbrev S1024x512 : Shape := ⟨2, ![1024, 512]⟩
abbrev S1024 : Shape := ⟨1, ![1024]⟩
abbrev S1x64 : Shape := ⟨2, ![1, 64]⟩
abbrev S1x1 : Shape := ⟨2, ![1, 1]⟩
abbrev S512 : Shape := ⟨1, ![512]⟩

abbrev nBuf : Space → Nat
  | .hbm => 24
  | .vmem => 12
  | .smem => 1
  | _ => 0

abbrev bufTy : (tb : Table) → Fin (tcTables nBuf tb) → BufTy
  | .hbm, ⟨0, _⟩ => ⟨S8x2048x4x2x64, .f32⟩
  | .hbm, ⟨1, _⟩ => ⟨S2x8x2048x4x2x64, .f32⟩
  | .hbm, ⟨2, _⟩ => ⟨S2x8x2048x4x128, .f32⟩
  | .hbm, ⟨3, _⟩ => ⟨S4x64, .f32⟩
  | .hbm, ⟨4, _⟩ => ⟨S128, .f32⟩
  | .hbm, ⟨5, _⟩ => ⟨S8x2048x512, .f32⟩
  | .hbm, ⟨6, _⟩ => ⟨S2x8x4x2x64x2048, .f32⟩
  | .hbm, ⟨7, _⟩ => ⟨S2x8x512x2048, .f32⟩
  | .hbm, ⟨8, _⟩ => ⟨S2x8x8192x128, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S1x128, .f32⟩
  | .hbm, ⟨23, _⟩ => ⟨S8x2048x512, .bf16⟩
  | .local _ .vmem, ⟨0, _⟩ => ⟨S1x512x128, .f32⟩
  | .local _ .vmem, ⟨1, _⟩ => ⟨S1x512x128, .f32⟩
  | .local _ .vmem, ⟨2, _⟩ => ⟨S1x1x128x2048, .f32⟩
  | .local _ .vmem, ⟨3, _⟩ => ⟨S1x1x128x2048, .f32⟩
  | .local _ .vmem, ⟨4, _⟩ => ⟨S1x1x8192x128, .f32⟩
  | .local _ .vmem, ⟨5, _⟩ => ⟨S1x1x8192x128, .f32⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S128x2048, .bf16⟩
  | .local _ .vmem, ⟨11, _⟩ => ⟨S2048x128, .bf16⟩
  | .local _ .smem, ⟨0, _⟩ => ⟨S4, .f32⟩
  | _, _ => ⟨S8x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let c0_53 : Index := 0#32
  let c0_54 : Index := 0#32
  let arg1 : BitVec 32 := BitVec.ofNat 32 (i 1).val
  let c1_i32_51 : BitVec 32 := 1#32
  let v156 : BitVec 32 := Scalar.muli arg1 c1_i32_51
  let c0_i32_52 : BitVec 32 := 0#32
  let v157 : BitVec 32 := Scalar.addi v156 c0_i32_52
  let v158 : Index := Scalar.indexCast v157
  let c0_55 : Index := 0#32
  ![0, 0, v158.toNat, 0]
def k0_off2 (i : grid0.Coords) : Fin 1 → Nat :=
  let arg1 : BitVec 32 := BitVec.ofNat 32 (i 1).val
  let c1_i32 : BitVec 32 := 1#32
  let v33 : BitVec 32 := Scalar.muli arg1 c1_i32
  let c0_i32_7 : BitVec 32 := 0#32
  let v34 : BitVec 32 := Scalar.addi v33 c0_i32_7
  let v35 : Index := Scalar.indexCast v34
  ![v35.toNat]
def k0_mult1 (i : grid0.Coords) : BitVec 32 :=
  let arg2 : BitVec 32 := BitVec.ofNat 32 (i 2).val
  let c512_i32_15 : BitVec 32 := 512#32
  let v49 : BitVec 32 := Scalar.muli arg2 c512_i32_15
  v49
def k0_off3 (i : grid0.Coords) : Fin 2 → Nat :=
  let c0_16 : Index := 0#32
  let arg2 : BitVec 32 := BitVec.ofNat 32 (i 2).val
  let c512_i32_15 : BitVec 32 := 512#32
  let v49 : BitVec 32 := Scalar.muli arg2 c512_i32_15
  let v50 : BitVec 32 := v49
  let v51 : Index := Scalar.indexCast v50
  ![0, v51.toNat]
def k0_off4 (i : grid0.Coords) : Fin 2 → Nat :=
  let arg2 : BitVec 32 := BitVec.ofNat 32 (i 2).val
  let c512_i32_15 : BitVec 32 := 512#32
  let v49 : BitVec 32 := Scalar.muli arg2 c512_i32_15
  let v50 : BitVec 32 := v49
  let v53 : Index := Scalar.indexCast v50
  let c0_17 : Index := 0#32
  ![v53.toNat, 0]
@[reducible] def k0_t1_loop (i : grid0.Coords) : Scf.Loop 32 :=
  let c0_i32_27 : BitVec 32 := 0#32
  let arg2 : BitVec 32 := BitVec.ofNat 32 (i 2).val
  let c1_i32_26 : BitVec 32 := 1#32
  let v95 : BitVec 32 := Scalar.muli arg2 c1_i32_26
  let v96 : BitVec 32 := Scalar.subi v95 c0_i32_27
  let c1_i32_28 : BitVec 32 := 1#32
  let v98 : BitVec 32 := Scalar.divsi v96 c1_i32_28
  let v99 : BitVec 32 := Scalar.muli v98 c1_i32_28
  let v100 : BitVec 32 := Scalar.addi c0_i32_27 v99
  let c1_i32_29 : BitVec 32 := 1#32
  ⟨c0_i32_27, v100, c1_i32_29⟩
def k0_mult2 (i : grid0.Coords) (k0_t1 : Fin (k0_t1_loop i).trips) : BitVec 32 :=
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let c1_i32_29 : BitVec 32 := 1#32
  let arg12 : BitVec 32 := Scf.iv c0_i32_27 c1_i32_29 k0_t1
  let v151 : BitVec 32 := Scalar.subi v150 arg12
  let c512_i32_46 : BitVec 32 := 512#32
  let v152 : BitVec 32 := Scalar.muli v151 c512_i32_46
  v152
def k0_off5 (i : grid0.Coords) (k0_t1 : Fin (k0_t1_loop i).trips) : Fin 2 → Nat :=
  let c0_47 : Index := 0#32
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let c1_i32_29 : BitVec 32 := 1#32
  let arg12 : BitVec 32 := Scf.iv c0_i32_27 c1_i32_29 k0_t1
  let v151 : BitVec 32 := Scalar.subi v150 arg12
  let c512_i32_46 : BitVec 32 := 512#32
  let v152 : BitVec 32 := Scalar.muli v151 c512_i32_46
  let v153 : BitVec 32 := v152
  let v154 : Index := Scalar.indexCast v153
  ![0, v154.toNat]
def k0_off6 (i : grid0.Coords) (k0_t1 : Fin (k0_t1_loop i).trips) : Fin 2 → Nat :=
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let c1_i32_29 : BitVec 32 := 1#32
  let arg12 : BitVec 32 := Scf.iv c0_i32_27 c1_i32_29 k0_t1
  let v151 : BitVec 32 := Scalar.subi v150 arg12
  let c512_i32_46 : BitVec 32 := 512#32
  let v152 : BitVec 32 := Scalar.muli v151 c512_i32_46
  let v153 : BitVec 32 := v152
  let v156 : Index := Scalar.indexCast v153
  let c0_48 : Index := 0#32
  ![v156.toNat, 0]
@[reducible] def k0_t2_loop (i : grid0.Coords) : Scf.Loop 32 :=
  let c0_i32_27 : BitVec 32 := 0#32
  let arg2 : BitVec 32 := BitVec.ofNat 32 (i 2).val
  let c1_i32_26 : BitVec 32 := 1#32
  let v95 : BitVec 32 := Scalar.muli arg2 c1_i32_26
  let v96 : BitVec 32 := Scalar.subi v95 c0_i32_27
  let c1_i32_28 : BitVec 32 := 1#32
  let v98 : BitVec 32 := Scalar.divsi v96 c1_i32_28
  let v99 : BitVec 32 := Scalar.muli v98 c1_i32_28
  let v100 : BitVec 32 := Scalar.addi c0_i32_27 v99
  let v97 : BitVec 32 := Scalar.addi c0_i32_27 v96
  let c1_i32_30 : BitVec 32 := 1#32
  ⟨v100, v97, c1_i32_30⟩
def k0_mult3 (i : grid0.Coords) (k0_t2 : Fin (k0_t2_loop i).trips) : BitVec 32 :=
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let v96 : BitVec 32 := Scalar.subi v95 c0_i32_27
  let c1_i32_28 : BitVec 32 := 1#32
  let v98 : BitVec 32 := Scalar.divsi v96 c1_i32_28
  let v99 : BitVec 32 := Scalar.muli v98 c1_i32_28
  let v100 : BitVec 32 := Scalar.addi c0_i32_27 v99
  let c1_i32_30 : BitVec 32 := 1#32
  let arg12 : BitVec 32 := Scf.iv v100 c1_i32_30 k0_t2
  let v151 : BitVec 32 := Scalar.subi v150 arg12
  let c512_i32_46 : BitVec 32 := 512#32
  let v152 : BitVec 32 := Scalar.muli v151 c512_i32_46
  v152
def k0_off7 (i : grid0.Coords) (k0_t2 : Fin (k0_t2_loop i).trips) : Fin 2 → Nat :=
  let c0_47 : Index := 0#32
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let v96 : BitVec 32 := Scalar.subi v95 c0_i32_27
  let c1_i32_28 : BitVec 32 := 1#32
  let v98 : BitVec 32 := Scalar.divsi v96 c1_i32_28
  let v99 : BitVec 32 := Scalar.muli v98 c1_i32_28
  let v100 : BitVec 32 := Scalar.addi c0_i32_27 v99
  let c1_i32_30 : BitVec 32 := 1#32
  let arg12 : BitVec 32 := Scf.iv v100 c1_i32_30 k0_t2
  let v151 : BitVec 32 := Scalar.subi v150 arg12
  let c512_i32_46 : BitVec 32 := 512#32
  let v152 : BitVec 32 := Scalar.muli v151 c512_i32_46
  let v153 : BitVec 32 := v152
  let v154 : Index := Scalar.indexCast v153
  ![0, v154.toNat]
def k0_off8 (i : grid0.Coords) (k0_t2 : Fin (k0_t2_loop i).trips) : Fin 2 → Nat :=
  let arg2 : BitVec 32 := BitVec.ofNat 32 (i 2).val
  let c1_i32_26 : BitVec 32 := 1#32
  let v95 : BitVec 32 := Scalar.muli arg2 c1_i32_26
  let c1_i32_45 : BitVec 32 := 1#32
  let v150 : BitVec 32 := Scalar.subi v95 c1_i32_45
  let c0_i32_27 : BitVec 32 := 0#32
  let v96 : BitVec 32 := Scalar.subi v95 c0_i32_27
  let c1_i32_28 : BitVec 32 := 1#32
  let v98 : BitVec 32 := Scalar.divsi v96 c1_i32_28
  let v99 : BitVec 32 := Scalar.muli v98 c1_i32_28
  let v100 : BitVec 32 := Scalar.addi c0_i32_27 v99
  let c1_i32_30 : BitVec 32 := 1#32
  let arg12 : BitVec 32 := Scf.iv v100 c1_i32_30 k0_t2
  let v151 : BitVec 32 := Scalar.subi v150 arg12
  let c512_i32_46 : BitVec 32 := 512#32
  let v152 : BitVec 32 := Scalar.muli v151 c512_i32_46
  let v153 : BitVec 32 := v152
  let v156 : Index := Scalar.indexCast v153
  let c0_48 : Index := 0#32
  ![v156.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x2048x4x2x64 : Shape := ⟨5, ![8, 2048, 4, 2, 64]⟩
abbrev S2x8x2048x4x2x64 : Shape := ⟨6, ![2, 8, 2048, 4, 2, 64]⟩
abbrev S2x8x2048x4x128 : Shape := ⟨5, ![2, 8, 2048, 4, 128]⟩
abbrev S4x64 : Shape := ⟨2, ![4, 64]⟩
abbrev S128 : Shape := ⟨1, ![128]⟩
abbrev S1x8x2048x4x2x64 : Shape := ⟨6, ![1, 8, 2048, 4, 2, 64]⟩
abbrev S1x8x2048x4x128 : Shape := ⟨5, ![1, 8, 2048, 4, 128]⟩
abbrev S8x2048x4x128 : Shape := ⟨4, ![8, 2048, 4, 128]⟩
abbrev S2048 : Shape := ⟨1, ![2048]⟩
abbrev S8x4x2x2048x2048 : Shape := ⟨5, ![8, 4, 2, 2048, 2048]⟩
abbrev S_ : Shape := ⟨0, ![]⟩
abbrev S4 : Shape := ⟨1, ![4]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S1x64 : Shape := ⟨2, ![1, 64]⟩
abbrev S64 : Shape := ⟨1, ![64]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x512 : Shape := ⟨3, ![8, 2048, 512]⟩

abbrev nBuf : Space → Nat
  | .hbm => 151
  | .vmem => 0
  | .smem => 0
  | _ => 0

abbrev hbmTy0_0 (i : Nat) : BufTy := match i % 128 with
  | 0 => ⟨S8x2048x4x2x64, .f32⟩
  | 1 => ⟨S2x8x2048x4x2x64, .f32⟩
  | 2 => ⟨S2x8x2048x4x128, .f32⟩
  | 3 => ⟨S4x64, .f32⟩
  | 4 => ⟨S128, .f32⟩
  | 5 => ⟨S1x8x2048x4x2x64, .f32⟩
  | 6 => ⟨S8x2048x4x2x64, .f32⟩
  | 7 => ⟨S1x8x2048x4x128, .f32⟩
  | 8 => ⟨S8x2048x4x128, .f32⟩
  | 9 => ⟨S2048, .i32⟩
  | 10 => ⟨S8x4x2x2048x2048, .f32⟩
  | 11 => ⟨S_, .f32⟩
  | 12 => ⟨S8x4x2x2048x2048, .f32⟩
  | 13 => ⟨S8x4x2x2048x2048, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S2048x1, .i32⟩
  | 28 => ⟨S1x2048, .i32⟩
  | 29 => ⟨S2048x2048, .i32⟩
  | 30 => ⟨S2048x2048, .i32⟩
  | 31 => ⟨S2048x2048, .i32⟩
  | 32 => ⟨S2048x2048, .i32⟩
  | 33 => ⟨S2048x2048, .f32⟩
  | 34 => ⟨S4x1x1x1, .f32⟩
  | 35 => ⟨S1x1x2048x2048, .f32⟩
  | 36 => ⟨S4x1x2048x2048, .f32⟩
  | 37 => ⟨S4x1x2048x2048, .f32⟩
  | 38 => ⟨S4x1x2048x2048, .f32⟩
  | 39 => ⟨S1x4x1x2048x2048, .f32⟩
  | 40 => ⟨S8x4x2x2048x2048, .f32⟩
  | 41 => ⟨S8x4x2x2048x2048, .f32⟩
  | 42 => ⟨S1x2048, .i32⟩
  | 43 => ⟨S_, .i32⟩
  | 44 => ⟨S_, .i32⟩
  | 45 => ⟨S1x2048, .i32⟩
  | 46 => ⟨S1x2048, .i32⟩
  | 47 => ⟨S1x2048, .i32⟩
  | 48 => ⟨S_, .i32⟩
  | 49 => ⟨S1x2048, .i32⟩
  | 50 => ⟨S1x2048, .i1⟩
  | 51 => ⟨S1x2048, .i32⟩
  | 52 => ⟨S1x2048, .i32⟩
  | 53 => ⟨S_, .i32⟩
  | 54 => ⟨S1x2048, .i32⟩
  | 55 => ⟨S1x2048, .i1⟩
  | 56 => ⟨S1x2048, .i1⟩
  | 57 => ⟨S_, .i32⟩
  | 58 => ⟨S1x2048, .i32⟩
  | 59 => ⟨S1x2048, .i32⟩
  | 60 => ⟨S1x2048, .i32⟩
  | 61 => ⟨S2048x1, .i32⟩
  | 62 => ⟨S_, .i32⟩
  | 63 => ⟨S_, .i32⟩
  | 64 => ⟨S2048x1, .i32⟩
  | 65 => ⟨S2048x1, .i32⟩
  | 66 => ⟨S2048x1, .i32⟩
  | 67 => ⟨S_, .i32⟩
  | 68 => ⟨S2048x1, .i32⟩
  | 69 => ⟨S2048x1, .i1⟩
  | 70 => ⟨S2048x1, .i32⟩
  | 71 => ⟨S2048x1, .i32⟩
  | 72 => ⟨S_, .i32⟩
  | 73 => ⟨S2048x1, .i32⟩
  | 74 => ⟨S2048x1, .i1⟩
  | 75 => ⟨S2048x1, .i1⟩
  | 76 => ⟨S_, .i32⟩
  | 77 => ⟨S2048x1, .i32⟩
  | 78 => ⟨S2048x1, .i32⟩
  | 79 => ⟨S2048x1, .i32⟩
  | 80 => ⟨S2048x2048, .i32⟩
  | 81 => ⟨S2048x2048, .i32⟩
  | 82 => ⟨S2048x2048, .i1⟩
  | 83 => ⟨S_, .f32⟩
  | 84 => ⟨S_, .f32⟩
  | 85 => ⟨S8x4x2x2048x2048, .i1⟩
  | 86 => ⟨S8x4x2x2048x2048, .f32⟩
  | 87 => ⟨S8x4x2x2048x2048, .f32⟩
  | 88 => ⟨S_, .f32⟩
  | 89 => ⟨S8x4x2x2048, .f32⟩
  | 90 => ⟨S_, .f32⟩
  | 91 => ⟨S8x4x2x2048, .f32⟩
  | 92 => ⟨S8x4x2x2048, .f32⟩
  | 93 => ⟨S8x4x2x2048x1, .f32⟩
  | 94 => ⟨S8x4x2x2048x2048, .f32⟩
  | 95 => ⟨S8x4x2x2048x2048, .f32⟩
  | 96 => ⟨S8x4x2x2048x2048, .f32⟩
  | 97 => ⟨S_, .f32⟩
  | 98 => ⟨S8x4x2x2048, .f32⟩
  | 99 => ⟨S8x4x2x2048x1, .f32⟩
  | 100 => ⟨S8x4x2x2048x2048, .f32⟩
  | 101 => ⟨S8x4x2x2048x2048, .f32⟩
  | 102 => ⟨S1x64, .f32⟩
  | 103 => ⟨S64, .f32⟩
  | 104 => ⟨S1x64, .f32⟩
  | 105 => ⟨S64, .f32⟩
  | 106 => ⟨S64, .f32⟩
  | 107 => ⟨S_, .f32⟩
  | 108 => ⟨S_, .f32⟩
  | 109 => ⟨S_, .f32⟩
  | 110 => ⟨S1x64, .f32⟩
  | 111 => ⟨S64, .f32⟩
  | 112 => ⟨S1x64, .f32⟩
  | 113 => ⟨S64, .f32⟩
  | 114 => ⟨S64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8x4x1x2048x2048, .f32⟩
  | 122 => ⟨S8x4x2048x2048, .f32⟩
  | 123 => ⟨S8x4x1x2048x2048, .f32⟩
  | 124 => ⟨S8x4x2048x2048, .f32⟩
  | 125 => ⟨S8x4x2048x2048, .f32⟩
  | 126 => ⟨S8x4x2048x2048, .f32⟩
  | 127 => ⟨S8x4x2048x2048, .f32⟩
  | _ => ⟨S8x2048x4x2x64, .f32⟩

abbrev hbmTy0_1 (i : Nat) : BufTy := match i % 128 with
  | 0 => ⟨S8x4x128x2048, .f32⟩
  | 1 => ⟨S8x2048x4x128, .f32⟩
  | 2 => ⟨S8x2048x4x128, .f32⟩
  | 3 => ⟨S_, .f32⟩
  | 4 => ⟨S8x2048x4, .f32⟩
  | 5 => ⟨S8x2048x4x1, .f32⟩
  | 6 => ⟨S_, .f32⟩
  | 7 => ⟨S8x2048x4x1, .f32⟩
  | 8 => ⟨S8x2048x4x1, .f32⟩
  | 9 => ⟨S_, .f32⟩
  | 10 => ⟨S8x2048x4x1, .f32⟩
  | 11 => ⟨S8x2048x4x1, .f32⟩
  | 12 => ⟨S8x2048x4x1, .f32⟩
  | 13 => ⟨S8x2048x4x128, .f32⟩
  | 14 => ⟨S8x2048x4x128, .f32⟩
  | 15 => ⟨S1x1x1x128, .f32⟩
  | 16 => ⟨S8x2048x4x128, .f32⟩
  | 17 => ⟨S8x2048x4x128, .f32⟩
  | 18 => ⟨S_, .f32⟩
  | 19 => ⟨S8x2048x4x128, .f32⟩
  | 20 => ⟨S8x2048x4x128, .f32⟩
  | 21 => ⟨S8x2048x4x128, .bf16⟩
  | 22 => ⟨S8x2048x512, .bf16⟩
  | _ => ⟨S8x2048x4x2x64, .f32⟩

abbrev hbmTy (i : Nat) : BufTy := match i / 128 with
  | 0 => hbmTy0_0 i
  | 1 => hbmTy0_1 i
  | _ => ⟨S8x2048x4x2x64, .f32⟩

abbrev bufTy : (tb : Table) → Fin (tcTables nBuf tb) → BufTy
  | .hbm, ⟨i, _⟩ => hbmTy i
  | _, _ => ⟨S8x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v39 : Ref sig .tc := ⟨.hbm, 87, rfl⟩
abbrev main_cst_6 : Ref sig .tc := ⟨.hbm, 88, rfl⟩
abbrev main_v40 : Ref sig .tc := ⟨.hbm, 89, rfl⟩
abbrev main_cst_7 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_8 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_9 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_10 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_11 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_12 : Ref sig .tc := ⟨.hbm, 131, rfl⟩
abbrev main_v77 : Ref sig .tc := ⟨.hbm, 132, rfl⟩
abbrev main_v78 : Ref sig .tc := ⟨.hbm, 133, rfl⟩
abbrev main_cst_13 : Ref sig .tc := ⟨.hbm, 134, rfl⟩
abbrev main_v79 : Ref sig .tc := ⟨.hbm, 135, rfl⟩
abbrev main_v80 : Ref sig .tc := ⟨.hbm, 136, rfl⟩
abbrev main_cst_14 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_15 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x6560 : Shape := ⟨2, ![1024, 6560]⟩
abbrev S8x2048x512 : Shape := ⟨3, ![8, 2048, 512]⟩
abbrev S512x1024 : Shape := ⟨2, ![512, 1024]⟩
abbrev S1024x1024 : Shape := ⟨2, ![1024, 1024]⟩
abbrev S1x1024 : Shape := ⟨2, ![1, 1024]⟩
abbrev S1024x3072 : Shape := ⟨2, ![1024, 3072]⟩
abbrev S1x512x1024 : Shape := ⟨3, ![1, 512, 1024]⟩
abbrev S3x512x1024 : Shape := ⟨3, ![3, 512, 1024]⟩
abbrev S16384x1024 : Shape := ⟨2, ![16384, 1024]⟩
abbrev S16384x512 : Shape := ⟨2, ![16384, 512]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6560, .f32⟩
  | .hbm, ⟨3, _⟩ => ⟨S8x2048x512, .bf16⟩
  | .hbm, ⟨4, _⟩ => ⟨S8x2048x512, .bf16⟩
  | .hbm, ⟨5, _⟩ => ⟨S8x2048x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S3x512x1024, .f32⟩
  | .hbm, ⟨17, _⟩ => ⟨S3x512x1024, .bf16⟩
  | .hbm, ⟨18, _⟩ => ⟨S1024x1024, .bf16⟩
  | .hbm, ⟨19, _⟩ => ⟨S16384x1024, .f32⟩
  | .hbm, ⟨20, _⟩ => ⟨S16384x512, .bf16⟩
  | .hbm, ⟨21, _⟩ => ⟨S16384x512, .bf16⟩
  | .hbm, ⟨22, _⟩ => ⟨S16384x512, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024 : Shape := ⟨1, ![1024]⟩
abbrev S1024x6560 : Shape := ⟨2, ![1024, 6560]⟩
abbrev S8x2048x512 : Shape := ⟨3, ![8, 2048, 512]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6560 : Shape := ⟨3, ![8, 2048, 6560]⟩
abbrev S8x2048x3072 : Shape := ⟨3, ![8, 2048, 3072]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6560, .f32⟩
  | .hbm, ⟨3, _⟩ => ⟨S8x2048x512, .bf16⟩
  | .hbm, ⟨4, _⟩ => ⟨S8x2048x512, .bf16⟩
  | .hbm, ⟨5, _⟩ => ⟨S8x2048x512, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x6560, .f32⟩
  | .hbm, ⟨27, _⟩ => ⟨S8x2048x3072, .f32⟩
  | .hbm, ⟨28, _⟩ => ⟨S8x2048x3072, .f32⟩
  | .hbm, ⟨29, _⟩ => ⟨S8x2048x3072, .f32⟩
  | .hbm, ⟨30, _⟩ => ⟨S_, .f32⟩
  | .hbm, ⟨31, _⟩ => ⟨S8x2048x3072, .f32⟩
  | .hbm, ⟨32, _⟩ => ⟨S8x2048x3072, .f32⟩
  | .hbm, ⟨33, _⟩ => ⟨S_, .f32⟩
  | .hbm, ⟨34, _⟩ => ⟨S8x2048x3072, .f32⟩
  | .hbm, ⟨35, _⟩ => ⟨S8x2048x3072, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x512, .f32⟩
  | .hbm, ⟨40, _⟩ => ⟨S8x2048x1024, .f32⟩
  | .hbm, ⟨41, _⟩ => ⟨S8x2048x1024, .f32⟩
  | .hbm, ⟨42, _⟩ => ⟨S8x2048x512, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x512, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S16384x1024 : Shape := ⟨2, ![16384, 1024]⟩
abbrev S8x2x2816 : Shape := ⟨3, ![8, 2, 2816]⟩
abbrev S512x1024 : Shape := ⟨2, ![512, 1024]⟩
abbrev S1x2x2816 : Shape := ⟨3, ![1, 2, 2816]⟩
abbrev S8x2816 : Shape := ⟨2, ![8, 2816]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S3x512 : Shape := ⟨2, ![3, 512]⟩
abbrev S8x512 : Shape := ⟨2, ![8, 512]⟩
abbrev S1024x256 : Shape := ⟨2, ![1024, 256]⟩
abbrev S512x256 : Shape := ⟨2, ![512, 256]⟩
abbrev S1x256 : Shape := ⟨2, ![1, 256]⟩
abbrev S3x256 : Shape := ⟨2, ![3, 256]⟩
abbrev S8x256 : Shape := ⟨2, ![8, 256]⟩
abbrev S256x1024 : Shape := ⟨2, ![256, 1024]⟩
abbrev S2x2816 : Shape := ⟨2, ![2, 2816]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S16384x1024, .f32⟩
  | .hbm, ⟨11, _⟩ => ⟨S16384x1024, .f32⟩
  | .hbm, ⟨12, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S1x2x2816, .f32⟩
  | .local _ .vmem, ⟨10, _⟩ => ⟨S1x2x2816, .f32⟩
  | .local _ .vmem, ⟨11, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c4_i32_108 : BitVec 32 := 4#32
  let c0_i32_109 : BitVec 32 := 0#32
  let v410 : BitVec 1 := Scalar.cmpi .eq c4_i32_108 c0_i32_109
  let c1_i32_110 : BitVec 32 := 1#32
  let v411 : BitVec 32 := Scalar.select v410 c1_i32_110 c4_i32_108
  let v412 : BitVec 32 := Scalar.remsi arg0 v411
  let c0_i32_112 : BitVec 32 := 0#32
  let v414 : BitVec 1 := Scalar.cmpi .slt v412 c0_i32_112
  let c0_i32_113 : BitVec 32 := 0#32
  let v415 : BitVec 1 := Scalar.cmpi .slt v411 c0_i32_113
  let v416 : BitVec 1 := Scalar.xori v414 v415
  let c0_i32_111 : BitVec 32 := 0#32
  let v413 : BitVec 1 := Scalar.cmpi .ne v412 c0_i32_111
  let v417 : BitVec 1 := Scalar.andi v416 v413
  let v418 : BitVec 32 := Scalar.addi v412 v411
  let v419 : BitVec 32 := Scalar.select v417 v418 v412
  let c3_i32 : BitVec 32 := 3#32
  let v420 : BitVec 1 := Scalar.cmpi .eq v419 c3_i32
  let v421 : BitVec 32 := Scalar.extui v420
  let c0_i32_114 : BitVec 32 := 0#32
  let v422 : BitVec 1 := Scalar.cmpi .ne v421 c0_i32_114
  v422

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x5632, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2x2816, .f32⟩
  | .hbm, ⟨27, _⟩ => ⟨S8x2050x2816, .f32⟩
  | .hbm, ⟨28, _⟩ => ⟨S8x2048x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S1x1x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | .hbm, ⟨64, _⟩ => ⟨S8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel4.lean ====
abbrev S16x32x1024 : Shape := ⟨3, ![16, 32, 1024]⟩
abbrev S1024 : Shape := ⟨1, ![1024]⟩
abbrev S1024x6560 : Shape := ⟨2, ![1024, 6560]⟩
abbrev S256 : Shape := ⟨1, ![256]⟩
abbrev S256x768 : Shape := ⟨2, ![256, 768]⟩
abbrev S128 : Shape := ⟨1, ![128]⟩
abbrev S64 : Shape := ⟨1, ![64]⟩
abbrev S32 : Shape := ⟨1, ![32]⟩
abbrev S1024x416 : Shape := ⟨2, ![1024, 416]⟩
abbrev S_ : Shape := ⟨0, ![]⟩
abbrev S1024x512 : Shape := ⟨2, ![1024, 512]⟩
abbrev S1024x3072 : Shape := ⟨2, ![1024, 3072]⟩
abbrev S1024x3584 : Shape := ⟨2, ![1024, 3584]⟩
abbrev S1x1024 : Shape := ⟨2, ![1, 1024]⟩
abbrev S1024x1 : Shape := ⟨2, ![1024, 1]⟩
abbrev S256x1024 : Shape := ⟨2, ![256, 1024]⟩
abbrev S96 : Shape := ⟨1, ![96]⟩
abbrev S256x1 : Shape := ⟨2, ![256, 1]⟩
abbrev S1x256 : Shape := ⟨2, ![1, 256]⟩
abbrev S256x256 : Shape := ⟨2, ![256, 256]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x64 : Shape := ⟨2, ![32, 64]⟩
abbrev S32x96 : Shape := ⟨2, ![32, 96]⟩
abbrev S32x512 : Shape := ⟨2, ![32, 512]⟩
abbrev S1x32x1x512 : Shape := ⟨4, ![1, 32, 1, 512]⟩
abbrev S16x32x1x512 : Shape := ⟨4, ![16, 32, 1, 512]⟩
abbrev S512x512 : Shape := ⟨2, ![512, 512]⟩
abbrev S16x32 : Shape := ⟨2, ![16, 32]⟩
abbrev S32x32 : Shape := ⟨2, ![32, 32]⟩
abbrev S512x1024 : Shape := ⟨2, ![512, 1024]⟩
abbrev S512x128 : Shape := ⟨2, ![512, 128]⟩
abbrev S512x32 : Shape := ⟨2, ![512, 32]⟩
abbrev S512x1 : Shape := ⟨2, ![512, 1]⟩
abbrev S512x256 : Shape := ⟨2, ![512, 256]⟩
abbrev S1024x1536 : Shape := ⟨2, ![1024, 1536]⟩
abbrev S512x1536 : Shape := ⟨2, ![512, 1536]⟩

abbrev nBuf : Space → Nat
  | .hbm => 261
  | .vmem => 22
  | .smem => 0
  | _ => 0

abbrev hbmTy0_0 (i : Nat) : BufTy := match i % 128 with
  | 0 => ⟨S16x32x1024, .f32⟩
  | 1 => ⟨S1024, .f32⟩
  | 2 => ⟨S1024x6560, .f32⟩
  | 3 => ⟨S256, .f32⟩
  | 4 => ⟨S256x768, .f32⟩
  | 5 => ⟨S128, .f32⟩
  | 6 => ⟨S64, .f32⟩
  | 7 => ⟨S32, .f32⟩
  | 8 => ⟨S32, .f32⟩
  | 9 => ⟨S64, .f32⟩
  | 10 => ⟨S64, .f32⟩
  | 11 => ⟨S1024, .i1⟩
  | 12 => ⟨S1024, .i32⟩
  | 13 => ⟨S1024, .i1⟩
  | 14 => ⟨S1024, .i32⟩
  | 15 => ⟨S1024, .i1⟩
  | 16 => ⟨S1024x416, .f32⟩
  | 17 => ⟨S_, .i32⟩
  | 18 => ⟨S_, .f32⟩
  | 19 => ⟨S1024x512, .f32⟩
  | 20 => ⟨S1024x3072, .f32⟩
  | 21 => ⟨S1024x3584, .f32⟩
  | 22 => ⟨S1024x3584, .bf16⟩
  | 23 => ⟨S1x1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S256x1024, .f32⟩
  | 30 => ⟨S_, .f32⟩
  | 31 => ⟨S_, .f32⟩
  | 32 => ⟨S256x1024, .i1⟩
  | 33 => ⟨S256x1024, .f32⟩
  | 34 => ⟨S256x1024, .f32⟩
  | 35 => ⟨S256x1024, .bf16⟩
  | 36 => ⟨S96, .f32⟩
  | 37 => ⟨S_, .i32⟩
  | 38 => ⟨S1024, .i32⟩
  | 39 => ⟨S1024, .i32⟩
  | 40 => ⟨S1024, .i32⟩
  | 41 => ⟨S1024x1, .i32⟩
  | 42 => ⟨S1024, .f32⟩
  | 43 => ⟨S_, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S256, .i32⟩
  | 51 => ⟨S_, .i32⟩
  | 52 => ⟨S256, .i32⟩
  | 53 => ⟨S256, .i1⟩
  | 54 => ⟨S_, .i32⟩
  | 55 => ⟨S256, .i32⟩
  | 56 => ⟨S256, .i1⟩
  | 57 => ⟨S_, .i32⟩
  | 58 => ⟨S_, .i32⟩
  | 59 => ⟨S256, .i32⟩
  | 60 => ⟨S256, .i32⟩
  | 61 => ⟨S256, .i32⟩
  | 62 => ⟨S_, .i32⟩
  | 63 => ⟨S256, .i32⟩
  | 64 => ⟨S256, .i1⟩
  | 65 => ⟨S256, .i32⟩
  | 66 => ⟨S256, .i32⟩
  | 67 => ⟨S_, .i32⟩
  | 68 => ⟨S256, .i32⟩
  | 69 => ⟨S256, .i1⟩
  | 70 => ⟨S256, .i1⟩
  | 71 => ⟨S_, .i32⟩
  | 72 => ⟨S256, .i32⟩
  | 73 => ⟨S256, .i32⟩
  | 74 => ⟨S256, .i32⟩
  | 75 => ⟨S_, .i32⟩
  | 76 => ⟨S_, .i32⟩
  | 77 => ⟨S256, .i32⟩
  | 78 => ⟨S256, .i32⟩
  | 79 => ⟨S256, .i32⟩
  | 80 => ⟨S_, .i32⟩
  | 81 => ⟨S256, .i32⟩
  | 82 => ⟨S256, .i1⟩
  | 83 => ⟨S256, .i32⟩
  | 84 => ⟨S256, .i32⟩
  | 85 => ⟨S_, .i32⟩
  | 86 => ⟨S256, .i32⟩
  | 87 => ⟨S256, .i1⟩
  | 88 => ⟨S256, .i1⟩
  | 89 => ⟨S_, .i32⟩
  | 90 => ⟨S256, .i32⟩
  | 91 => ⟨S256, .i32⟩
  | 92 => ⟨S256, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S256, .i32⟩
  | 100 => ⟨S256, .i32⟩
  | 101 => ⟨S_, .i32⟩
  | 102 => ⟨S256, .i32⟩
  | 103 => ⟨S256, .i1⟩
  | 104 => ⟨S_, .i32⟩
  | 105 => ⟨S256, .i32⟩
  | 106 => ⟨S256, .i1⟩
  | 107 => ⟨S_, .i32⟩
  | 108 => ⟨S_, .i1⟩
  | 109 => ⟨S256, .i1⟩
  | 110 => ⟨S256, .i1⟩
  | 111 => ⟨S256, .i1⟩
  | 112 => ⟨S256, .i32⟩
  | 113 => ⟨S256, .i32⟩
  | 114 => ⟨S256, .i32⟩
  | 115 => ⟨S_, .i32⟩
  | 116 => ⟨S256, .i32⟩
  | 117 => ⟨S256, .i32⟩
  | 118 => ⟨S_, .i32⟩
  | 119 => ⟨S_, .i32⟩
  | 120 => ⟨S256, .i32⟩
  | 121 => ⟨S256, .i32⟩
  | 122 => ⟨S256, .i32⟩
  | 123 => ⟨S_, .i32⟩
  | 124 => ⟨S256, .i32⟩
  | 125 => ⟨S256, .i1⟩
  | 126 => ⟨S_, .f32⟩
  | 127 => ⟨S_, .f32⟩
  | _ => ⟨S16x32x1024, .f32⟩

abbrev hbmTy0_1 (i : Nat) : BufTy := match i % 128 with
  | 0 => ⟨S256, .f32⟩
  | 1 => ⟨S256, .f32⟩
  | 2 => ⟨S256, .f32⟩
  | 3 => ⟨S_, .f32⟩
  | 4 => ⟨S256, .f32⟩
  | 5 => ⟨S256, .f32⟩
  | 6 => ⟨S256, .f32⟩
  | 7 => ⟨S256x1, .i32⟩
  | 8 => ⟨S1x256, .i32⟩
  | 9 => ⟨S256x256, .i32⟩
  | 10 => ⟨S256x256, .i32⟩
  | 11 => ⟨S256x256, .i1⟩
  | 12 => ⟨S256x1, .f32⟩
  | 13 => ⟨S_, .f32⟩
  | 14 => ⟨S_, .f32⟩
  | 15 => ⟨S256x256, .f32⟩
  | 16 => ⟨S256x256, .f32⟩
  | 17 => ⟨S256x256, .f32⟩
  | 18 => ⟨S256x256, .bf16⟩
  | 19 => ⟨S_, .i32⟩
  | 20 => ⟨S_, .i32⟩
  | 21 => ⟨S256, .i32⟩
  | 22 => ⟨S256, .i32⟩
  | 23 => ⟨S256, .i32⟩
  | 24 => ⟨S_, .i32⟩
  | 25 => ⟨S256, .i32⟩
  | 26 => ⟨S256, .i1⟩
  | 27 => ⟨S256, .i32⟩
  | 28 => ⟨S256, .i32⟩
  | 29 => ⟨S_, .i32⟩
  | 30 => ⟨S256, .i32⟩
  | 31 => ⟨S256, .i1⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S_, .i32⟩
  | 39 => ⟨S_, .i32⟩
  | 40 => ⟨S256, .i32⟩
  | 41 => ⟨S256, .i32⟩
  | 42 => ⟨S256, .i32⟩
  | 43 => ⟨S_, .i32⟩
  | 44 => ⟨S256, .i32⟩
  | 45 => ⟨S256, .i1⟩
  | 46 => ⟨S256, .i32⟩
  | 47 => ⟨S256, .i32⟩
  | 48 => ⟨S_, .i32⟩
  | 49 => ⟨S256, .i32⟩
  | 50 => ⟨S256, .i1⟩
  | 51 => ⟨S256, .i1⟩
  | 52 => ⟨S_, .i32⟩
  | 53 => ⟨S256, .i32⟩
  | 54 => ⟨S256, .i32⟩
  | 55 => ⟨S256, .i32⟩
  | 56 => ⟨S1x256, .i32⟩
  | 57 => ⟨S256x256, .i32⟩
  | 58 => ⟨S256x256, .i32⟩
  | 59 => ⟨S256x256, .i1⟩
  | 60 => ⟨S_, .f32⟩
  | 61 => ⟨S_, .f32⟩
  | 62 => ⟨S256x256, .f32⟩
  | 63 => ⟨S256x256, .f32⟩
  | 64 => ⟨S256x256, .f32⟩
  | 65 => ⟨S256x256, .bf16⟩
  | 66 => ⟨S1x1024, .f32⟩
  | 67 => ⟨S1x256, .f32⟩
  | 68 => ⟨S1x1024, .f32⟩
  | 69 => ⟨S1x128, .f32⟩
  | 70 => ⟨S_, .i32⟩
  | 71 => ⟨S_, .f32⟩
  | 72 => ⟨S128, .f32⟩
  | 73 => ⟨S1x128, .f32⟩
  | 74 => ⟨S1x64, .f32⟩
  | 75 => ⟨S8x64, .f32⟩
  | 76 => ⟨S512, .f32⟩
  | 77 => ⟨S_, .f32⟩
  | 78 => ⟨S512, .f32⟩
  | 79 => ⟨S512, .f32⟩
  | 80 => ⟨S1x512, .f32⟩
  | 81 => ⟨S1x64, .f32⟩
  | 82 => ⟨S8x64, .f32⟩
  | 83 => ⟨S512, .f32⟩
  | 84 => ⟨S1x512, .f32⟩
  | 85 => ⟨S32, .i32⟩
  | 86 => ⟨S_, .i32⟩
  | 87 => ⟨S32, .i32⟩
  | 88 => ⟨S32, .i32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S32, .f32⟩
  | 98 => ⟨S32x1, .f32⟩
  | 99 => ⟨S1x16, .f32⟩
  | 100 => ⟨S32x16, .f32⟩
  | 101 => ⟨S32x16, .f32⟩
  | 102 => ⟨S32x16, .f32⟩
  | 103 => ⟨S32x16, .f32⟩
  | 104 => ⟨S32x16, .f32⟩
  | 105 => ⟨S_, .f32⟩
  | 106 => ⟨S32x64, .f32⟩
  | 107 => ⟨S32x16, .f32⟩
  | 108 => ⟨S32x16, .f32⟩
  | 109 => ⟨S_, .f32⟩
  | 110 => ⟨S32x64, .f32⟩
  | 111 => ⟨S_, .f32⟩
  | 112 => ⟨S32x96, .f32⟩
  | 113 => ⟨S32x16, .f32⟩
  | 114 => ⟨S_, .f32⟩
  | 115 => ⟨S32x96, .f32⟩
  | 116 => ⟨S32x512, .f32⟩
  | 117 => ⟨S1x32x1x512, .f32⟩
  | 118 => ⟨S16x32x1x512, .f32⟩
  | 119 => ⟨S512x512, .f32⟩
  | 120 => ⟨S16x32, .f32⟩
  | 121 => ⟨S16x32, .f32⟩
  | 122 => ⟨S32x32, .f32⟩
  | 123 => ⟨S512x1024, .f32⟩
  | 124 => ⟨S512x1024, .bf16⟩
  | 125 => ⟨S512x128, .f32⟩
  | 126 => ⟨S512x32, .f32⟩
  | 127 => ⟨S512x512, .bf16⟩
  | _ => ⟨S16x32x1024, .f32⟩

abbrev hbmTy0_2 (i : Nat) : BufTy := match i % 128 with
  | 0 => ⟨S512x512, .f32⟩
  | 1 => ⟨S512x512, .f32⟩
  | 2 => ⟨S512x512, .bf16⟩
  | 3 => ⟨S512x512, .f32⟩
  | 4 => ⟨S512x512, .f32⟩
  | _ => ⟨S16x32x1024, .f32⟩

abbrev hbmTy (i : Nat) : BufTy := match i / 128 with
  | 0 => hbmTy0_0 i
  | 1 => hbmTy0_1 i
  | 2 => hbmTy0_2 i
  | _ => ⟨S16x32x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1x1024, .f32⟩
  | .local _ .vmem, ⟨2, _⟩ => ⟨S1024x3584, .bf16⟩
  | .local _ .vmem, ⟨3, _⟩ => ⟨S1x256, .f32⟩
  | .local _ .vmem, ⟨4, _⟩ => ⟨S256x1024, .bf16⟩
  | .local _ .vmem, ⟨5, _⟩ => ⟨S256x256, .bf16⟩
  | .local _ .vmem, ⟨6, _⟩ => ⟨S1x1024, .f32⟩
  | .local _ .vmem, ⟨7, _⟩ => ⟨S1x128, .f32⟩
  | .local _ .vmem, ⟨8, _⟩ => ⟨S1x128, .f32⟩
  | .local _ .vmem, ⟨9, _⟩ => ⟨S512x512, .f32⟩
  | .local _ .vmem, ⟨10, _⟩ => ⟨S256x256, .bf16⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x128, .f32⟩
  | .local _ .vmem, ⟨15, _⟩ => ⟨S512x32, .f32⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .f32⟩
  | .local _ .vmem, ⟨21, _⟩ => ⟨S512x512, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v0 : Ref sig .tc := ⟨.hbm, 16, rfl⟩
abbrev main_c_4 : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_6 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v19 : Ref sig .tc := ⟨.hbm, 46, rfl⟩
abbrev main_cst_8 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_9 : Ref sig .tc := ⟨.hbm, 51, rfl⟩
abbrev main_v23 : Ref sig .tc := ⟨.hbm, 52, rfl⟩
abbrev main_v24 : Ref sig .tc := ⟨.hbm, 53, rfl⟩
abbrev main_c_10 : Ref sig .tc := ⟨.hbm, 54, rfl⟩
abbrev main_v25 : Ref sig .tc := ⟨.hbm, 55, rfl⟩
abbrev main_v26 : Ref sig .tc := ⟨.hbm, 56, rfl⟩
abbrev main_c_11 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v27 : Ref sig .tc := ⟨.hbm, 74, rfl⟩
abbrev main_c_12 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_c : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_0 : Ref sig .tc := ⟨.hbm, 89, rfl⟩
abbrev main_call4_v12 : Ref sig .tc := ⟨.hbm, 90, rfl⟩
abbrev main_call4_v13 : Ref sig .tc := ⟨.hbm, 91, rfl⟩
abbrev main_v28 : Ref sig .tc := ⟨.hbm, 92, rfl⟩
abbrev main_c_13 : Ref sig .tc := ⟨.hbm, 93, rfl⟩
abbrev main_call5_v0 : Ref sig .tc := ⟨.hbm, 94, rfl⟩
abbrev main_call5_c : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_v5 : Ref sig .tc := ⟨.hbm, 102, rfl⟩
abbrev main_call5_v6 : Ref sig .tc := ⟨.hbm, 103, rfl⟩
abbrev main_call5_c_2 : Ref sig .tc := ⟨.hbm, 104, rfl⟩
abbrev main_call5_v7 : Ref sig .tc := ⟨.hbm, 105, rfl⟩
abbrev main_call5_v8 : Ref sig .tc := ⟨.hbm, 106, rfl⟩
abbrev main_call5_c_3 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_v14 : Ref sig .tc := ⟨.hbm, 113, rfl⟩
abbrev main_v29 : Ref sig .tc := ⟨.hbm, 114, rfl⟩
abbrev main_c_14 : Ref sig .tc := ⟨.hbm, 115, rfl⟩
abbrev main_v30 : Ref sig .tc := ⟨.hbm, 116, rfl⟩
abbrev main_v31 : Ref sig .tc := ⟨.hbm, 117, rfl⟩
abbrev main_c_15 : Ref sig .tc := ⟨.hbm, 118, rfl⟩
abbrev main_call6_v0 : Ref sig .tc := ⟨.hbm, 119, rfl⟩
abbrev main_call6_v1 : Ref sig .tc := ⟨.hbm, 120, rfl⟩
abbrev main_v32 : Ref sig .tc := ⟨.hbm, 121, rfl⟩
abbrev main_v33 : Ref sig .tc := ⟨.hbm, 122, rfl⟩
abbrev main_c_16 : Ref sig .tc := ⟨.hbm, 123, rfl⟩
abbrev main_v34 : Ref sig .tc := ⟨.hbm, 124, rfl⟩
abbrev main_v35 : Ref sig .tc := ⟨.hbm, 125, rfl⟩
abbrev main_cst_17 : Ref sig .tc := ⟨.hbm, 126, rfl⟩
abbrev main_cst_18 : Ref sig .tc := ⟨.hbm, 127, rfl⟩
abbrev main_call8_v0 : Ref sig .tc := ⟨.hbm, 128, rfl⟩
abbrev main_call8_v1 : Ref sig .tc := ⟨.hbm, 129, rfl⟩
abbrev main_v36 : Ref sig .tc := ⟨.hbm, 130, rfl⟩
abbrev main_cst_19 : Ref sig .tc := ⟨.hbm, 131, rfl⟩
abbrev main_call9_v0 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_cst_20 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_v45 : Ref sig .tc := ⟨.hbm, 145, rfl⟩
abbrev main_v46 : Ref sig .tc := ⟨.hbm, 146, rfl⟩
abbrev main_c_21 : Ref sig .tc := ⟨.hbm, 147, rfl⟩
abbrev main_call11_v0 : Ref sig .tc := ⟨.hbm, 148, rfl⟩
abbrev main_call11_v1 : Ref sig .tc := ⟨.hbm, 149, rfl⟩
abbrev main_call11_v2 : Ref sig .tc := ⟨.hbm, 150, rfl⟩
abbrev main_call11_v3 : Ref sig .tc := ⟨.hbm, 151, rfl⟩
abbrev main_call11_v4 : Ref sig .tc := ⟨.hbm, 152, rfl⟩
abbrev main_call11_v5 : Ref sig .tc := ⟨.hbm, 153, rfl⟩
abbrev main_call11_v6 : Ref sig .tc := ⟨.hbm, 154, rfl⟩
abbrev main_call11_v7 : Ref sig .tc := ⟨.hbm, 155, rfl⟩
abbrev main_call11_v8 : Ref sig .tc := ⟨.hbm, 156, rfl⟩
abbrev main_call11_c : Ref sig .tc := ⟨.hbm, 157, rfl⟩
abbrev main_call11_v9 : Ref sig .tc := ⟨.hbm, 158, rfl⟩
abbrev main_call11_v10 : Ref sig .tc := ⟨.hbm, 159, rfl⟩
abbrev main_call11_v11 : Ref sig .tc := ⟨.hbm, 160, rfl⟩
abbrev main_call11_c_0 : Ref sig .tc := ⟨.hbm, 161, rfl⟩
abbrev main_call11_v12 : Ref sig .tc := ⟨.hbm, 162, rfl⟩
abbrev main_call11_v13 : Ref sig .tc := ⟨.hbm, 163, rfl⟩
abbrev main_v47 : Ref sig .tc := ⟨.hbm, 164, rfl⟩
abbrev main_v48 : Ref sig .tc := ⟨.hbm, 165, rfl⟩
abbrev main_c_22 : Ref sig .tc := ⟨.hbm, 166, rfl⟩
abbrev main_call12_v0 : Ref sig .tc := ⟨.hbm, 167, rfl⟩
abbrev main_call12_v1 : Ref sig .tc := ⟨.hbm, 168, rfl⟩
abbrev main_call12_v2 : Ref sig .tc := ⟨.hbm, 169, rfl⟩
abbrev main_call12_v3 : Ref sig .tc := ⟨.hbm, 170, rfl⟩
abbrev main_call12_v4 : Ref sig .tc := ⟨.hbm, 171, rfl⟩
abbrev main_call12_v5 : Ref sig .tc := ⟨.hbm, 172, rfl⟩
abbrev main_call12_v6 : Ref sig .tc := ⟨.hbm, 173, rfl⟩
abbrev main_call12_v7 : Ref sig .tc := ⟨.hbm, 174, rfl⟩
abbrev main_call12_v8 : Ref sig .tc := ⟨.hbm, 175, rfl⟩
abbrev main_call12_c : Ref sig .tc := ⟨.hbm, 176, rfl⟩
abbrev main_call12_v9 : Ref sig .tc := ⟨.hbm, 177, rfl⟩
abbrev main_call12_v10 : Ref sig .tc := ⟨.hbm, 178, rfl⟩
abbrev main_call12_v11 : Ref sig .tc := ⟨.hbm, 179, rfl⟩
abbrev main_call12_c_0 : Ref sig .tc := ⟨.hbm, 180, rfl⟩
abbrev main_call12_v12 : Ref sig .tc := ⟨.hbm, 181, rfl⟩
abbrev main_call12_v13 : Ref sig .tc := ⟨.hbm, 182, rfl⟩
abbrev main_v49 : Ref sig .tc := ⟨.hbm, 183, rfl⟩
abbrev main_v50 : Ref sig .tc := ⟨.hbm, 184, rfl⟩
abbrev main_v51 : Ref sig .tc := ⟨.hbm, 185, rfl⟩
abbrev main_v52 : Ref sig .tc := ⟨.hbm, 186, rfl⟩
abbrev main_v53 : Ref sig .tc := ⟨.hbm, 187, rfl⟩
abbrev main_cst_23 : Ref sig .tc := ⟨.hbm, 188, rfl⟩
abbrev main_cst_24 : Ref sig .tc := ⟨.hbm, 189, rfl⟩
abbrev main_call13_v0 : Ref sig .tc := ⟨.hbm, 190, rfl⟩
abbrev main_call13_v1 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_c_25 : Ref sig .tc := ⟨.hbm, 198, rfl⟩
abbrev main_call14_v0 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_v63 : Ref sig .tc := ⟨.hbm, 203, rfl⟩
abbrev main_v64 : Ref sig .tc := ⟨.hbm, 204, rfl⟩
abbrev main_cst_26 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_c_27 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_cst_28 : Ref sig .tc := ⟨.hbm, 219, rfl⟩
abbrev main_v77 : Ref sig .tc := ⟨.hbm, 220, rfl⟩
abbrev main_v78 : Ref sig .tc := ⟨.hbm, 221, rfl⟩
abbrev main_cst_29 : Ref sig .tc := ⟨.hbm, 222, rfl⟩
abbrev main_v79 : Ref sig .tc := ⟨.hbm, 223, rfl⟩
abbrev main_v80 : Ref sig .tc := ⟨.hbm, 224, rfl⟩
abbrev main_v81 : Ref sig .tc := ⟨.hbm, 225, rfl⟩
abbrev main_v82 : Ref sig .tc := ⟨.hbm, 226, rfl⟩
abbrev main_v83 : Ref sig .tc := ⟨.hbm, 227, rfl⟩
abbrev main_v84 : Ref sig .tc := ⟨.hbm, 228, rfl⟩
abbrev main_v85 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩
abbrev main_cst_30 : Ref sig .tc := ⟨.hbm, 233, rfl⟩
abbrev main_v89 : Ref sig .tc := ⟨.hbm, 234, rfl⟩
abbrev main_v90 : Ref sig .tc := ⟨.hbm, 235, rfl⟩
abbrev main_v91 : Ref sig .tc := ⟨.hbm, 236, rfl⟩
abbrev main_cst_31 : Ref sig .tc := ⟨.hbm, 237, rfl⟩
abbrev main_v92 : Ref sig .tc := ⟨.hbm, 238, rfl⟩
abbrev main_cst_32 : Ref sig .tc := ⟨.hbm, 239, rfl⟩
abbrev main_v93 : Ref sig .tc := ⟨.hbm, 240, rfl⟩
abbrev main_v94 : Ref sig .tc := ⟨.hbm, 241, rfl⟩
abbrev main_cst_33 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104_0 : Ref sig .tc := ⟨.hbm, 252, rfl⟩
abbrev main_v104_1 : Ref sig .tc := ⟨.hbm, 253, rfl⟩
abbrev main_v104_2 : Ref sig .tc := ⟨.hbm, 254, rfl⟩
abbrev main_v104_3 : Ref sig .tc := ⟨.hbm, 255, rfl⟩
abbrev main_v104_4 : Ref sig .tc := ⟨.hbm, 256, rfl⟩
abbrev main_v104_5 : Ref sig .tc := ⟨.hbm, 257, rfl⟩
abbrev main_v104_6 : Ref sig .tc := ⟨.hbm, 258, rfl⟩
abbrev main_v104_7 : Ref sig .tc := ⟨.hbm, 259, rfl⟩
abbrev main_v104_8 : Ref sig .tc := ⟨.hbm, 260, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference4Ideal.lean ====
abbrev S16x32x1024 : Shape := ⟨3, ![16, 32, 1024]⟩
abbrev S1024 : Shape := ⟨1, ![1024]⟩
abbrev S1024x6560 : Shape := ⟨2, ![1024, 6560]⟩
abbrev S256 : Shape := ⟨1, ![256]⟩
abbrev S256x768 : Shape := ⟨2, ![256, 768]⟩
abbrev S128 : Shape := ⟨1, ![128]⟩
abbrev S64 : Shape := ⟨1, ![64]⟩
abbrev S32 : Shape := ⟨1, ![32]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x6560 : Shape := ⟨3, ![16, 32, 6560]⟩
abbrev S16x32x128 : Shape := ⟨3, ![16, 32, 128]⟩
abbrev S16x32x32 : Shape := ⟨3, ![16, 32, 32]⟩
abbrev S16x32x512 : Shape := ⟨3, ![16, 32, 512]⟩
abbrev S32x1 : Shape := ⟨2, ![32, 1]⟩
abbrev S16 : Shape := ⟨1, ![16]⟩
abbrev S1x16 : Shape := ⟨2, ![1, 16]⟩
abbrev S32x16 : Shape := ⟨2, ![32, 16]⟩
abbrev S1x1x32 : Shape := ⟨3, ![1, 1, 32]⟩
abbrev S16x32x16 : Shape := ⟨3, ![16, 32, 16]⟩
abbrev S1x32x16 : Shape := ⟨3, ![1, 32, 16]⟩
abbrev S1x1x128 : Shape := ⟨3, ![1, 1, 128]⟩
abbrev S512x128 : Shape := ⟨2, ![512, 128]⟩
abbrev S512x32 : Shape := ⟨2, ![512, 32]⟩
abbrev S512x512 : Shape := ⟨2, ![512, 512]⟩

abbrev nBuf : Space → Nat
  | .hbm => 107
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S1024x6560, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S64, .f32⟩
  | .hbm, ⟨7, _⟩ => ⟨S32, .f32⟩
  | .hbm, ⟨8, _⟩ => ⟨S32, .f32⟩
  | .hbm, ⟨9, _⟩ => ⟨S64, .f32⟩
  | .hbm, ⟨10, _⟩ => ⟨S64, .f32⟩
  | .hbm, ⟨11, _⟩ => ⟨S16x32x1024, .f32⟩
  | .hbm, ⟨12, _⟩ => ⟨S_, .f32⟩
  | .hbm, ⟨13, _⟩ => ⟨S16x32, .f32⟩
  | .hbm, ⟨14, _⟩ => ⟨S16x32x1, .f32⟩
  | .hbm, ⟨15, _⟩ => ⟨S_, .f32⟩
  | .hbm, ⟨16, _⟩ => ⟨S16x32x1, .f32⟩
  | .hbm, ⟨17, _⟩ => ⟨S16x32x1, .f32⟩
  | .hbm, ⟨18, _⟩ => ⟨S_, .f32⟩
  | .hbm, ⟨19, _⟩ => ⟨S16x32x1, .f32⟩
  | .hbm, ⟨20, _⟩ => ⟨S16x32x1, .f32⟩
  | .hbm, ⟨21, _⟩ => ⟨S16x32x1, .f32⟩
  | .hbm, ⟨22, _⟩ => ⟨S16x32x1024, .f32⟩
  | .hbm, ⟨23, _⟩ => ⟨S16x32x1024, .f32⟩
  | .hbm, ⟨24, _⟩ => ⟨S1x1x1024, .f32⟩
  | .hbm, ⟨25, _⟩ => ⟨S16x32x1024, .f32⟩
  | .hbm, ⟨26, _⟩ => ⟨S16x32x1024, .f32⟩
  | .hbm, ⟨27, _⟩ => ⟨S16x32x6560, .f32⟩
  | .hbm, ⟨28, _⟩ => ⟨S16x32x128, .f32⟩
  | .hbm, ⟨29, _⟩ => ⟨S16x32x32, .f32⟩
  | .hbm, ⟨30, _⟩ => ⟨S16x32x512, .f32⟩
  | .hbm, ⟨31, _⟩ => ⟨S16x32x512, .f32⟩
  | .hbm, ⟨32, _⟩ => ⟨S16x32x512, .f32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .f32⟩
  | .hbm, ⟨38, _⟩ => ⟨S32x1, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S1x16, .f32⟩
  | .hbm, ⟨48, _⟩ => ⟨S32x16, .f32⟩
  | .hbm, ⟨49, _⟩ => ⟨S32x16, .f32⟩
  | .hbm, ⟨50, _⟩ => ⟨S32x16, .f32⟩
  | .hbm, ⟨51, _⟩ => ⟨S32x16, .f32⟩
  | .hbm, ⟨52, _⟩ => ⟨S32x16, .f32⟩
  | .hbm, ⟨53, _⟩ => ⟨S16x32x32, .f32⟩
  | .hbm, ⟨54, _⟩ => ⟨S_, .f32⟩
  | .hbm, ⟨55, _⟩ => ⟨S16x32, .f32⟩
  | .hbm, ⟨56, _⟩ => ⟨S16x32x1, .f32⟩
  | .hbm, ⟨57, _⟩ => ⟨S_, .f32⟩
  | .hbm, ⟨58, _⟩ => ⟨S16x32x1, .f32⟩
  | .hbm, ⟨59, _⟩ => ⟨S16x32x1, .f32⟩
  | .hbm, ⟨60, _⟩ => ⟨S_, .f32⟩
  | .hbm, ⟨61, _⟩ => ⟨S16x32x1, .f32⟩
  | .hbm, ⟨62, _⟩ => ⟨S16x32x1, .f32⟩
  | .hbm, ⟨63, _⟩ => ⟨S16x32x1, .f32⟩
  | .hbm, ⟨64, _⟩ => ⟨S16x32x32, .f32⟩
  | .hbm, ⟨65, _⟩ => ⟨S16x32x32, .f32⟩
  | .hbm, ⟨66, _⟩ => ⟨S1x1x32, .f32⟩
  | .hbm, ⟨67, _⟩ => ⟨S16x32x32, .f32⟩
  | .hbm, ⟨68, _⟩ => ⟨S16x32x32, .f32⟩
  | .hbm, ⟨69, _⟩ => ⟨S16x32x16, .f32⟩
  | .hbm, ⟨70, _⟩ => ⟨S16x32x16, .f32⟩
  | .hbm, ⟨71, _⟩ => ⟨S1x32x16, .f32⟩
  | .hbm, ⟨72, _⟩ => ⟨S16x32x16, .f32⟩
  | .hbm, ⟨73, _⟩ => ⟨S16x32x16, .f32⟩
  | .hbm, ⟨74, _⟩ => ⟨S1x32x16, .f32⟩
  | .hbm, ⟨75, _⟩ => ⟨S16x32x16, .f32⟩
  | .hbm, ⟨76, _⟩ => ⟨S16x32x16, .f32⟩
  | .hbm, ⟨77, _⟩ => ⟨S16x32x16, .f32⟩
  | .hbm, ⟨78, _⟩ => ⟨S1x32x16, .f32⟩
  | .hbm, ⟨79, _⟩ => ⟨S16x32x16, .f32⟩
  | .hbm, ⟨80, _⟩ => ⟨S16x32x16, .f32⟩
  | .hbm, ⟨81, _⟩ => ⟨S1x32x16, .f32⟩
  | .hbm, ⟨82, _⟩ => ⟨S16x32x16, .f32⟩
  | .hbm, ⟨83, _⟩ => ⟨S16x32x16, .f32⟩
  | .hbm, ⟨84, _⟩ => ⟨S16x32x16, .f32⟩
  | .hbm, ⟨85, _⟩ => ⟨S16x32x32, .f32⟩
  | .hbm, ⟨86, _⟩ => ⟨S16x32x128, .f32⟩
  | .hbm, ⟨87, _⟩ => ⟨S_, .f32⟩
  | .hbm, ⟨88, _⟩ => ⟨S16x32, .f32⟩
  | .hbm, ⟨89, _⟩ => ⟨S16x32x1, .f32⟩
  | .hbm, ⟨90, _⟩ => ⟨S_, .f32⟩
  | .hbm, ⟨91, _⟩ => ⟨S16x32x1, .f32⟩
  | .hbm, ⟨92, _⟩ => ⟨S16x32x1, .f32⟩
  | .hbm, ⟨93, _⟩ => ⟨S_, .f32⟩
  | .hbm, ⟨94, _⟩ => ⟨S16x32x1, .f32⟩
  | .hbm, ⟨95, _⟩ => ⟨S16x32x1, .f32⟩
  | .hbm, ⟨96, _⟩ => ⟨S16x32x1, .f32⟩
  | .hbm, ⟨97, _⟩ => ⟨S16x32x128, .f32⟩
  | .hbm, ⟨98, _⟩ => ⟨S16x32x128, .f32⟩
  | .hbm, ⟨99, _⟩ => ⟨S1x1x128, .f32⟩
  | .hbm, ⟨100, _⟩ => ⟨S16x32x128, .f32⟩
  | .hbm, ⟨101, _⟩ => ⟨S16x32x128, .f32⟩
  | .hbm, ⟨102, _⟩ => ⟨S512x128, .f32⟩
  | .hbm, ⟨103, _⟩ => ⟨S512x32, .f32⟩
  | .hbm, ⟨104, _⟩ => ⟨S512x512, .f32⟩
  | .hbm, ⟨105, _⟩ => ⟨S512x512, .f32⟩
  | .hbm, ⟨106, _⟩ => ⟨S512x512, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Proof.Read.lean ====
/-
  What one grid point of the attention kernel stores, as a function of the query rows, of the whole key and value planes
  held in scratch, of the slopes, the λ vectors and the gain: the run's named terms opened into one recursion over key tiles.
-/
module

public import proofs.«01_k».proof.Proof.Gen.KernelIdeal.Value
public import Idealize.ShloMosaic.Lib.Pipeline.ValueKit
public import Idealize.ShloMosaic.Lib.Pipeline.ReadBack
public import Idealize.ShloMosaic.Lib.LoopRemainder

@[expose] public section

set_option maxRecDepth 16384

noncomputable section

namespace Cert.Attn

open Idealize.ShloMosaic Idealize.ShloMosaic.TcCoe Idealize.SL.Sem
open Cert.KernelIdeal Cert.KernelIdeal.Gen Cert.KernelIdeal.Value

/-- The running maximum, the running sum and the running weighted sum of 1024 rows. -/
abbrev Acc : Type := FVec Ideal S1024x1 .f32 × FVec Ideal S1024x1 .f32 × FVec Ideal S1024x128 .f32

/-- The third grid coordinate, the query tile, as a word. -/
abbrev qw (i : grid0.Coords) : BitVec 32 := BitVec.ofNat 32 (i 2).val

/-- One trip of the loop over the key tiles before the diagonal one, over the key plane `K` and the value plane `V`. -/
def trip (i : grid0.Coords) (a2 : BitVec 32) (Q : FVec Ideal S1024x128 .bf16) (P : IVec S1024x1 32) (sl : FVec Ideal S1024x1 .f32)
    (K : Vec Ideal S128x2048 .bf16) (V : Vec Ideal S2048x128 .bf16) (k : Fin (k0_t1_loop i).trips) (a : Acc) : Acc :=
  (k0_pay19 i a2 Q P sl k a.1 (View.ld K (Rect.unit (s := S128x2048) (k0_off5 i k) ![128, 512] (k0_off5_inb i k))),
   k0_pay22 i a2 Q P sl k a.1 a.2.1 (View.ld K (Rect.unit (s := S128x2048) (k0_off5 i k) ![128, 512] (k0_off5_inb i k))),
   k0_pay23 i a2 Q P sl k a.1 a.2.2 (View.ld K (Rect.unit (s := S128x2048) (k0_off5 i k) ![128, 512] (k0_off5_inb i k)))
     (View.ld V (Rect.unit (s := S2048x128) (k0_off6 i k) ![512, 128] (k0_off6_inb i k))))

/-- The state after `n` trips. -/
def state (i : grid0.Coords) (a2 : BitVec 32) (Q : FVec Ideal S1024x128 .bf16) (P : IVec S1024x1 32) (sl : FVec Ideal S1024x1 .f32)
    (K : Vec Ideal S128x2048 .bf16) (V : Vec Ideal S2048x128 .bf16) (init : Acc) : ℕ → Acc
  | 0 => init
  | n + 1 => if h : n < (k0_t1_loop i).trips then trip i a2 Q P sl K V ⟨n, h⟩ (state i a2 Q P sl K V init n)
      else state i a2 Q P sl K V init n

/-- The generated trip is `trip` over what the two scratch buffers read as. -/
theorem trip_eq (c : Dev nD) (i : grid0.Coords) (arg3 : Memref sig .tc .smem S4 .f32) (harg3 : arg3.IsWhole) (arg4 : Memref sig .tc .vmem S1x512x128 .f32) (harg4 : arg4.IsWhole) (arg5 : Memref sig .tc .vmem S1x1x128x2048 .f32) (harg5 : arg5.IsWhole) (arg6 : Memref sig .tc .vmem S1x1x8192x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S128x2048 .bf16) (harg10 : arg10.IsWhole) (arg11 : Memref sig .tc .vmem S2048x128 .bf16) (harg11 : arg11.IsWhole) (arg2 : BitVec 32) (v26 : FVec Ideal S1024x128 .bf16) (v32 : IVec S1024x1 32) (v45 : FVec Ideal S1024x1 .f32) (v47 : FVec Ideal S1024x1 .f32) (v48 : FVec Ideal S1024x128 .f32) (v54 : Vec Ideal S512x128 .bf16) (v77 : FVec Ideal S1024x512 .f32) (v80 : FVec Ideal S1024x1 .f32) (v82 : FVec Ideal S1024x1 .f32) (v83 : FVec Ideal S1024x512 .f32) (X10 : BufTy.Contents (Elt Ideal) arg10.view.ty) (X11 : BufTy.Contents (Elt Ideal) arg11.view.ty) (k : Fin (k0_t1_loop i).trips) (a : Acc) :
    (trip_k0_t1 (F := Ideal) Variants.none c none i arg3 harg3 arg4 harg4 arg5 harg5 arg6 harg6 arg7 harg7 arg8 harg8 arg9 harg9 arg10 harg10 arg11 harg11 arg2 v26 v32 v45 v47 v48 v54 v77 v80 v82 v83 X10 X11 k).1 a
      = trip i arg2 v26 v32 v45 (arg10.view.read (Elt Ideal) X10) (arg11.view.read (Elt Ideal) X11) k a := by
  unfold trip_k0_t1
  dsimp only
  rfl

/-- The generated recursion is `state`. -/
theorem st_eq (c : Dev nD) (i : grid0.Coords) (arg3 : Memref sig .tc .smem S4 .f32) (harg3 : arg3.IsWhole) (arg4 : Memref sig .tc .vmem S1x512x128 .f32) (harg4 : arg4.IsWhole) (arg5 : Memref sig .tc .vmem S1x1x128x2048 .f32) (harg5 : arg5.IsWhole) (arg6 : Memref sig .tc .vmem S1x1x8192x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S128x2048 .bf16) (harg10 : arg10.IsWhole) (arg11 : Memref sig .tc .vmem S2048x128 .bf16) (harg11 : arg11.IsWhole) (arg2 : BitVec 32) (v26 : FVec Ideal S1024x128 .bf16) (v32 : IVec S1024x1 32) (v45 : FVec Ideal S1024x1 .f32) (v47 : FVec Ideal S1024x1 .f32) (v48 : FVec Ideal S1024x128 .f32) (v54 : Vec Ideal S512x128 .bf16) (v77 : FVec Ideal S1024x512 .f32) (v80 : FVec Ideal S1024x1 .f32) (v82 : FVec Ideal S1024x1 .f32) (v83 : FVec Ideal S1024x512 .f32) (X10 : BufTy.Contents (Elt Ideal) arg10.view.ty) (X11 : BufTy.Contents (Elt Ideal) arg11.view.ty) (init : Acc) (n : ℕ) :
    st_k0_t1 (F := Ideal) Variants.none c none i arg3 harg3 arg4 harg4 arg5 harg5 arg6 harg6 arg7 harg7 arg8 harg8 arg9 harg9 arg10 harg10 arg11 harg11 arg2 v26 v32 v45 v47 v48 v54 v77 v80 v82 v83 X10 X11 init n
      = state i arg2 v26 v32 v45 (arg10.view.read (Elt Ideal) X10) (arg11.view.read (Elt Ideal) X11) init n := by
  induction n with
  | zero => rw [st_k0_t1_zero]; rfl
  | succ n ih =>
    rw [st_k0_t1.eq_2]
    unfold st_k0_t1Step
    rw [state]
    by_cases h : n < (k0_t1_loop i).trips
    · rw [dif_pos h, dif_pos h, ← ih]; exact trip_eq ..
    · rw [dif_neg h, dif_neg h, ih]

/-- The slope of the point's head group. -/
abbrev sread (i : grid0.Coords) (x0 : Vec Ideal S4 .f32) : Elt Ideal .f32 :=
  View.ld x0 (Rect.unit (s := S4) (k0_off2 i) ![1] (k0_off2_inb i)) (Shape.Idx.first (show 0 < S1.numel by rw [numel1_S1]; exact Nat.one_pos))

/-- The slope spread over the first 512 rows. -/
abbrev slopes (i : grid0.Coords) (x0 : Vec Ideal S4 .f32) : FVec Ideal S512x1 .f32 := k0_pay6 (sread i x0)

/-- The diagonal key tile. -/
abbrev ktile (i : grid0.Coords) (K : Vec Ideal S128x2048 .bf16) : Vec Ideal S128x512 .bf16 :=
  View.ld K (Rect.unit (s := S128x2048) (k0_off3 i) ![128, 512] (k0_off3_inb i))

/-- The diagonal value tile. -/
abbrev vtile (i : grid0.Coords) (V : Vec Ideal S2048x128 .bf16) : Vec Ideal S512x128 .bf16 :=
  View.ld V (Rect.unit (s := S2048x128) (k0_off4 i) ![512, 128] (k0_off4_inb i))

/-- The state the diagonal tile leaves. -/
abbrev start (i : grid0.Coords) (x0 : Vec Ideal S4 .f32) (x1 : Vec Ideal S1x512x128 .f32) (K : Vec Ideal S128x2048 .bf16) (V : Vec Ideal S2048x128 .bf16) : Acc :=
  (k0_pay12 (qw i) (k0_pay4 x1) (k0_pay5 i) (slopes i x0) (sread i x0) (ktile i K),
   k0_pay16 k0_pay9 (k0_pay11 (qw i) (k0_pay4 x1) (k0_pay5 i) (slopes i x0) (sread i x0) (ktile i K))
     (k0_pay13 (qw i) (k0_pay4 x1) (k0_pay5 i) (slopes i x0) (sread i x0) (ktile i K)) (k0_pay14 (qw i) (k0_pay4 x1) (k0_pay5 i) (slopes i x0) (sread i x0) (ktile i K)),
   k0_pay17 k0_pay10 (vtile i V) (k0_pay11 (qw i) (k0_pay4 x1) (k0_pay5 i) (slopes i x0) (sread i x0) (ktile i K))
     (k0_pay13 (qw i) (k0_pay4 x1) (k0_pay5 i) (slopes i x0) (sread i x0) (ktile i K)) (k0_pay14 (qw i) (k0_pay4 x1) (k0_pay5 i) (slopes i x0) (sread i x0) (ktile i K)))

/-- The state after every key tile. -/
abbrev final (i : grid0.Coords) (x0 : Vec Ideal S4 .f32) (x1 : Vec Ideal S1x512x128 .f32) (K : Vec Ideal S128x2048 .bf16) (V : Vec Ideal S2048x128 .bf16) : Acc :=
  state i (qw i) (k0_pay4 x1) (k0_pay5 i) (k0_pay7 (slopes i x0) (sread i x0)) K V (start i x0 x1 K V) (k0_t1_loop i).trips

/-- What the point stores, from its final state. -/
abbrev tail (l : FVec Ideal S1024x1 .f32) (a : FVec Ideal S1024x128 .f32) (x4 : Vec Ideal S4x64 .f32) (x5 : Vec Ideal S1x128 .f32) : FVec Ideal S1x512x128 .bf16 :=
  k0_pay1 (k0_pay30 l a x4) x5

/-- At a point that does not fill the scratch, the stored block is `tail` of `final` over what the scratch holds. -/
theorem out_held (m : (ℓ : Loc nD τ sig) → Buf (Elt Ideal) ℓ) (c : Dev nD) (t : Fin grid0.N) (h0 : ¬ t.val % 4 = 0) :
    (outsAt0 m c t.val t.isLt).1
      = tail (final (grid0.coords t) (iblk m c 0 t) (iblk m c 1 t) (outsAt0 m c t.val t.isLt).2.1 (outsAt0 m c t.val t.isLt).2.2).2.1
          (final (grid0.coords t) (iblk m c 0 t) (iblk m c 1 t) (outsAt0 m c t.val t.isLt).2.1 (outsAt0 m c t.val t.isLt).2.2).2.2
          (iblk m c 4 t) (iblk m c 5 t) := by
  rw [outsAt0_B m c t h0]
  frame_out
  rw [Scf.rem_trips, st_k0_t2_zero, st_eq]
  simp only [read_unread_whole]
  rfl

/-- The rows of the value window that belong to the point's head group: every fourth row, from the group's. -/
def vrows (i : grid0.Coords) (x3 : Vec Ideal S1x1x8192x128 .f32) : Vec Ideal S1x1x2048x128 .f32 := fun j =>
  x3 (ix4 0 0 ⟨4 * (j 2).val + (i 1).val, by have h1 : (i 1).val < 4 := (i 1).isLt; have h2 : (j 2).val < 2048 := (j 2).isLt; show _ < 8192; omega⟩ (j 3))

theorem off1_facts : ∀ t : Fin grid0.N, k0_off1 (grid0.coords t) 0 = 0 ∧ k0_off1 (grid0.coords t) 1 = 0
    ∧ k0_off1 (grid0.coords t) 2 = (grid0.coords t 1).val ∧ k0_off1 (grid0.coords t) 3 = 0 := by decide +kernel

/-- The strided load reads those rows. -/
theorem strided (t : Fin grid0.N) (v : Memref sig .tc .vmem S1x1x8192x128 .f32) (hv : v.IsWhole) (inb) (x3 : Vec Ideal S1x1x8192x128 .f32) :
    View.readAt (Elt Ideal) v.view ({ off := k0_off1 (grid0.coords t), size := ![1, 1, 2048, 128], stride := ![1, 1, 4, 1], inb := inb } : LoadRect S1x1x8192x128)
      (hv.unread x3) = vrows (grid0.coords t) x3 := by
  obtain ⟨e0, e1, e2, e3⟩ := off1_facts t
  have key : ∀ r : LoadRect S1x1x8192x128, View.readAt (Elt Ideal) v.view r (hv.unread x3) = fun j => x3 (r.idx j) := by
    intro r
    funext j
    exact congrFun (hv.read_unread x3) (r.idx j)
  rw [key]
  funext j
  unfold vrows
  congr 1
  funext a
  apply Fin.ext
  have h0 : (j 0).val < 1 := (j 0).isLt
  have h1 : (j 1).val < 1 := (j 1).isLt
  match a with
  | ⟨0, _⟩ => show k0_off1 (grid0.coords t) 0 + 1 * (j 0).val = 0; omega
  | ⟨1, _⟩ => show k0_off1 (grid0.coords t) 1 + 1 * (j 1).val = 0; omega
  | ⟨2, _⟩ => show k0_off1 (grid0.coords t) 2 + 4 * (j 2).val = 4 * (j 2).val + (grid0.coords t 1).val; omega
  | ⟨3, _⟩ => show k0_off1 (grid0.coords t) 3 + 1 * (j 3).val = (j 3).val; omega

/-- The key plane a first point of a run leaves in scratch. -/
abbrev kplane (x2 : Vec Ideal S1x1x128x2048 .f32) : Vec Ideal S128x2048 .bf16 := k0_pay2 x2

/-- The value plane a first point of a run leaves in scratch. -/
abbrev vplane (i : grid0.Coords) (x3 : Vec Ideal S1x1x8192x128 .f32) : Vec Ideal S2048x128 .bf16 := k0_pay3 (vrows i x3)

variable (m : (ℓ : Loc nD τ sig) → Buf (Elt Ideal) ℓ)

theorem scratch0_first (c : Dev nD) (t : Fin grid0.N) (h0 : t.val % 4 = 0) :
    (outsAt0 m c t.val t.isLt).2.1 = kplane (iblk m c 2 t) := by
  rw [outsAt0_A m c t h0]
  frame_out

theorem scratch1_first (c : Dev nD) (t : Fin grid0.N) (h0 : t.val % 4 = 0) :
    (outsAt0 m c t.val t.isLt).2.2 = vplane (grid0.coords t) (iblk m c 3 t) := by
  rw [outsAt0_A m c t h0]
  frame_out
  rw [strided]

theorem scratch0_next (c : Dev nD) (t : Fin grid0.N) (h0 : ¬ t.val % 4 = 0) :
    (outsAt0 m c t.val t.isLt).2.1 = (outsAt0 m c (t.val - 1) (Nat.lt_of_le_of_lt (Nat.sub_le _ _) t.isLt)).2.1 := by
  rw [outsAt0_B m c t h0]
  rfl

theorem scratch1_next (c : Dev nD) (t : Fin grid0.N) (h0 : ¬ t.val % 4 = 0) :
    (outsAt0 m c t.val t.isLt).2.2 = (outsAt0 m c (t.val - 1) (Nat.lt_of_le_of_lt (Nat.sub_le _ _) t.isLt)).2.2 := by
  rw [outsAt0_B m c t h0]
  rfl

/-- A view written whole reads as what was written. -/
theorem read_whole {κ : Kind} {sp : Space} {S : Shape} {e : EltTy} (v : View sig κ sp S e) (f : v.ty.Contents (Elt Ideal)) {off : Fin S.rank → Nat}
    (hz : off = fun _ => 0) (inb : ∀ a, off a + S.size a ≤ S.size a) (X : S.Idx → Elt Ideal e) :
    v.read (Elt Ideal) (v.writes (Elt Ideal) f [(⟨Rect.unit off S.size inb, X⟩ : View.Piece (Elt Ideal) S e)]) = X := by
  rw [View.read_writes_eq_canon _ _ _ (fun y => ⟨_, List.mem_singleton_self _, View.mem_set_unit_zero hz inb y⟩), View.canon_unit_zero hz]

theorem zero2 : (![0, 0] : Fin 2 → ℕ) = fun _ => 0 := by funext a; fin_cases a <;> rfl

/-- The key scratch written whole. -/
theorem reads0 (X : Vec Ideal S128x2048 .bf16) (inb) : View.read (Elt Ideal) (View.whole cc0_scratch0)
    ((View.whole cc0_scratch0).writes (Elt Ideal) (View.whole cc0_scratch0).junk [⟨Rect.unit ![0, 0] ![128, 2048] inb, X⟩]) = X :=
  read_whole (S := S128x2048) (View.whole cc0_scratch0) _ zero2 inb X

/-- The value scratch written whole. -/
theorem reads1 (X : Vec Ideal S2048x128 .bf16) (inb) : View.read (Elt Ideal) (View.whole cc0_scratch1)
    ((View.whole cc0_scratch1).writes (Elt Ideal) (View.whole cc0_scratch1).junk [⟨Rect.unit ![0, 0] ![2048, 128] inb, X⟩]) = X :=
  read_whole (S := S2048x128) (View.whole cc0_scratch1) _ zero2 inb X

/-- At a point that fills the scratch, the stored block is `tail` of `final` over what it fills it with. -/
theorem out_first (c : Dev nD) (t : Fin grid0.N) (h0 : t.val % 4 = 0) :
    (outsAt0 m c t.val t.isLt).1
      = tail (final (grid0.coords t) (iblk m c 0 t) (iblk m c 1 t) (outsAt0 m c t.val t.isLt).2.1 (outsAt0 m c t.val t.isLt).2.2).2.1
          (final (grid0.coords t) (iblk m c 0 t) (iblk m c 1 t) (outsAt0 m c t.val t.isLt).2.1 (outsAt0 m c t.val t.isLt).2.2).2.2
          (iblk m c 4 t) (iblk m c 5 t) := by
  rw [scratch0_first m c t h0, scratch1_first m c t h0, outsAt0_A m c t h0]
  frame_out
  rw [Scf.rem_trips, st_k0_t2_zero, st_eq]
  simp only [strided]
  rw [reads0, reads1]

end Cert.Attn

end
-- ==== Proof.Words.lean ====
/-
  The words the attention kernel counts with, and its literals: positions as naturals below 2048, their distance, the chunk
  comparison, the number of trips, and the float patterns as extended reals.
-/
module

public import proofs.«01_k».proof.Proof.Read
public import Idealize.ShloMosaic.Lib.WordArith

@[expose] public section

set_option maxRecDepth 16384

noncomputable section

namespace Cert.Attn

open Idealize.ShloMosaic Idealize.ShloMosaic.TcCoe
open Cert.KernelIdeal Cert.KernelIdeal.Gen Cert.KernelIdeal.Value

/-- The distance of two positions. -/
def dist (q k : ℕ) : ℝ := |(q : ℝ) - (k : ℝ)|

/-- A tile's first position plus an offset. -/
theorem pos_word (q r : ℕ) : IntOp.addi (Scalar.addi 0#32 (Scalar.muli (BitVec.ofNat 32 q) 512#32)) (BitVec.ofNat 32 r)
    = BitVec.ofNat 32 (512 * q + r) := by
  simp only [IntOp.addi, Scalar.addi, Scalar.muli, IntOp.muli]
  apply BitVec.eq_of_toNat_eq
  simp only [BitVec.toNat_add, BitVec.toNat_mul, BitVec.toNat_ofNat]
  omega

/-- The key tile of trip `n`, counted down from the one before the diagonal. -/
theorem tile_word : ∀ q n : Fin 4, n < q →
    Scalar.subi (Scalar.subi (Scalar.muli (BitVec.ofNat 32 q.val) 1#32) 1#32) (Scf.iv 0#32 1#32 n.val) = BitVec.ofNat 32 (q.val - 1 - n.val) := by
  decide +kernel

/-- The number of trips is the query tile's number. -/
theorem trips_eq : ∀ t : Fin grid0.N, (k0_t1_loop (grid0.coords t)).trips = (grid0.coords t 2).val := by decide +kernel

theorem toInt_small {n : ℕ} (h : n < 2048) : (BitVec.ofNat 32 n).toInt = n := WordArith.toInt_ofNat_small n (by omega)

theorem shr_word : ∀ k : Fin 2048, (IntOp.shrsi ArithUnit.vector (BitVec.ofNat 32 k.val) 6#32).toInt = ((k.val / 64 : ℕ) : ℤ) := by
  decide +kernel

/-- The chunk comparison. -/
theorem chunk_word {k q : ℕ} (hk : k < 2048) (hq : q < 2048) :
    IntOp.cmpi CmpIPredicate.sle (IntOp.shrsi ArithUnit.vector (BitVec.ofNat 32 k) 6#32) (IntOp.shrsi ArithUnit.vector (BitVec.ofNat 32 q) 6#32) = 1
      ↔ k / 64 ≤ q / 64 := by
  have h1 := shr_word ⟨k, hk⟩
  have h2 := shr_word ⟨q, hq⟩
  simp only at h1 h2
  have e : ∀ x y : BitVec 32, IntOp.cmpi CmpIPredicate.sle x y = 1 ↔ x.toInt ≤ y.toInt := by
    intro x y
    rw [← BitVec.sle_iff_toInt_le]
    exact WordArith.ofBool_eq_numeral_one_iff _
  rw [e, h1, h2]
  exact Int.ofNat_le

theorem toInt_absi (x : BitVec 32) (h : -2 ^ 31 < x.toInt) : (IntOp.absi x).toInt = |x.toInt| := by
  unfold IntOp.absi
  have hm := BitVec.msb_eq_toInt (x := x)
  by_cases hx : x.msb = true
  · rw [if_pos hx]
    have hneg : x.toInt < 0 := by rw [hm] at hx; exact of_decide_eq_true hx
    have h3 : (-x).toInt = -x.toInt := by
      apply BitVec.toInt_neg_of_ne_intMin
      intro h4
      rw [h4] at h
      exact absurd h (by decide)
    rw [h3, abs_of_neg hneg]
  · rw [if_neg hx]
    have hneg : 0 ≤ x.toInt := by
      rw [hm] at hx; simpa using hx
    rw [abs_of_nonneg hneg]

theorem toInt_sub {k q : ℕ} (hk : k < 2048) (hq : q < 2048) : (IntOp.subi (BitVec.ofNat 32 q) (BitVec.ofNat 32 k)).toInt = (q : ℤ) - k := by
  have h1 := toInt_small hk
  have h2 := toInt_small hq
  unfold IntOp.subi
  rw [WordArith.toInt_sub_of_bounds _ _ (by rw [h1, h2]; omega) (by rw [h1, h2]; omega), h1, h2]

/-- The absolute distance as a float. -/
theorem dist_word {k q : ℕ} (hk : k < 2048) (hq : q < 2048) :
    (FloatOps.sitofp (F := Ideal) FTy.f32 (IntOp.absi (IntOp.subi (BitVec.ofNat 32 q) (BitVec.ofNat 32 k))) : EReal) = ((dist q k : ℝ) : EReal) := by
  have h := toInt_sub hk hq
  show (((IntOp.absi (IntOp.subi (BitVec.ofNat 32 q) (BitVec.ofNat 32 k))).toInt : ℝ) : EReal) = _
  rw [toInt_absi _ (by rw [h]; omega), h]
  unfold dist
  push_cast
  rfl

/-- The signed distance as a float, where the key does not come later. -/
theorem dist_word_le {k q : ℕ} (hk : k ≤ q) (hq : q < 2048) :
    (FloatOps.sitofp (F := Ideal) FTy.f32 (IntOp.subi (BitVec.ofNat 32 q) (BitVec.ofNat 32 k)) : EReal) = ((dist q k : ℝ) : EReal) := by
  have h := toInt_sub (lt_of_le_of_lt hk hq) hq
  show (((IntOp.subi (BitVec.ofNat 32 q) (BitVec.ofNat 32 k)).toInt : ℝ) : EReal) = _
  rw [h]
  unfold dist
  rw [abs_of_nonneg (sub_nonneg.mpr (by exact_mod_cast hk))]
  push_cast
  rfl

/-- The mask's fill value. -/
theorem bits_bot : Ideal.ofBits FTy.f32 0xFF800000#32 = ⊥ := by simp [Ideal.ofBits, Ideal.ieee]

/-- The running maximum's first value is a real number. -/
theorem bits_low : ∃ M : ℝ, Ideal.ofBits FTy.f32 0xF149F2CA#32 = (M : EReal) := by
  simp [Ideal.ofBits, Ideal.ieee, -EReal.coe_mul, -EReal.coe_neg]

/-- One eighth. -/
theorem bits_eighth : Ideal.ofBits FTy.f32 0x3E000000#32 = (((1 : ℝ) / 8 : ℝ) : EReal) := by
  simp [Ideal.ofBits, Ideal.ieee, -EReal.coe_mul]; norm_num

/-- The constant added to λ is a real number. -/
theorem bits_lambda : ∃ M : ℝ, Ideal.ofBits FTy.f32 0x3E4CCCCD#32 = (M : EReal) := by
  simp [Ideal.ofBits, Ideal.ieee, -EReal.coe_mul]

end Cert.Attn

end
-- ==== Proof.Flash.lean ====
/-
  The arithmetic of a softmax taken over the keys tile by tile, on the extended reals.

  A row of attention scores is a function `S` into the extended reals that never takes the value `⊤`; a score that the
  mask removes is `⊥`. `wt x` is the weight `2 ^ x` of a score as a real number, `0` for a removed one. The running
  state of the kernel is a maximum `m`, a sum `l` and a weighted sum `a e` of the value rows. `St m l a L A` says that it
  stands for the unnormalised sums `L` and `A e`: `m` is some real number `M`, `l = 2 ^ (-M) * L`, `a e = 2 ^ (-M) * A e`.
  A tile adds its weights to `L` and `A` whatever the new maximum is (`St.step`), and the quotient `a e / l` is `A e / L`.
-/
module

public import Idealize.ShloMosaic.PureOps.Ideal.Laws
public import Idealize.ShloMosaic.Lib.IdealHost

@[expose] public section

noncomputable section

namespace Cert.Flash

open Idealize.ShloMosaic

/-! ## Sums and products of real numbers inside the extended reals -/

/-- A finite sum of real numbers is the same sum taken in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A quotient of real numbers with a nonzero denominator. -/
theorem div_real {x y : ℝ} (hy : y ≠ 0) : Ideal.div (x : EReal) (y : EReal) = ((x / y : ℝ) : EReal) := by
  rw [Ideal.div_coe hy, ← EReal.coe_mul, mul_one_div]

/-! ## Maxima of rows of scores -/

/-- The greatest of finitely many scores below `⊤` is below `⊤`. -/
theorem fold_max_ne_top {ι : Type*} (s : Finset ι) (S : ι → EReal) (hS : ∀ k, S k ≠ ⊤) : s.fold max ⊥ S ≠ ⊤ := by
  have h : s.fold max ⊥ S < ⊤ := by
    rw [Finset.fold_max_lt]
    exact ⟨bot_lt_top, fun k _ => lt_top_iff_ne_top.mpr (hS k)⟩
  exact h.ne

/-- The greater of a real number and a row's greatest score is a real number. -/
theorem max_real {ι : Type*} (M : ℝ) (s : Finset ι) (S : ι → EReal) (hS : ∀ k, S k ≠ ⊤) :
    ∃ M' : ℝ, max (M : EReal) (s.fold max ⊥ S) = (M' : EReal) := by
  refine ⟨(max (M : EReal) (s.fold max ⊥ S)).toReal, (EReal.coe_toReal ?_ ?_).symm⟩
  · intro h
    rcases max_choice (M : EReal) (s.fold max ⊥ S) with h' | h'
    · rw [h'] at h; exact EReal.coe_ne_top M h
    · rw [h'] at h; exact fold_max_ne_top s S hS h
  · exact (lt_of_lt_of_le (EReal.bot_lt_coe M) (le_max_left _ _)).ne'

/-- The greatest score of a row that holds a real score is a real number. -/
theorem fold_max_real {ι : Type*} (s : Finset ι) (S : ι → EReal) (hS : ∀ k, S k ≠ ⊤) (k₀ : ι) (h₀ : k₀ ∈ s) (hb : S k₀ ≠ ⊥) :
    ∃ M' : ℝ, s.fold max ⊥ S = (M' : EReal) := by
  refine ⟨(s.fold max ⊥ S).toReal, (EReal.coe_toReal (fold_max_ne_top s S hS) ?_).symm⟩
  have h : S k₀ ≤ s.fold max ⊥ S := by
    rw [Finset.le_fold_max]; exact Or.inr ⟨k₀, h₀, le_rfl⟩
  exact (lt_of_lt_of_le (bot_lt_iff_ne_bot.mpr hb) h).ne'

/-! ## Weights -/

/-- The weight `2 ^ x` of a score, `0` for a removed one. -/
def wt (x : EReal) : ℝ := (Ideal.exp2 x).toReal

@[simp] theorem wt_coe (r : ℝ) : wt (r : EReal) = Real.rpow 2 r := by simp [wt]
@[simp] theorem wt_bot : wt ⊥ = 0 := by simp [wt]

theorem wt_nonneg (x : EReal) : 0 ≤ wt x := by
  induction x with
  | bot => simp
  | coe r => rw [wt_coe]; exact Real.rpow_nonneg (by norm_num) r
  | top => simp [wt]

theorem wt_pos (r : ℝ) : 0 < wt (r : EReal) := by
  rw [wt_coe]; exact Real.rpow_pos_of_pos (by norm_num) r

/-- `2 ^ (x - M)` is the weight of `x` times `2 ^ (-M)`. -/
theorem exp2_sub {x : EReal} (hx : x ≠ ⊤) (M : ℝ) : Ideal.exp2 (x - (M : EReal)) = ((Real.rpow 2 (-M) * wt x : ℝ) : EReal) := by
  induction x with
  | bot => simp
  | coe r =>
    rw [← EReal.coe_sub, Ideal.exp2_coe, wt_coe, sub_eq_neg_add]
    exact congrArg _ (Real.rpow_add (by norm_num) _ _)
  | top => exact absurd rfl hx

/-! ## The running state -/

/-- The state `m`, `l`, `a` stands for the unnormalised sums `L` and `A`. -/
def St {E : Type*} (m l : EReal) (a : E → EReal) (L : ℝ) (A : E → ℝ) : Prop :=
  ∃ M : ℝ, m = (M : EReal) ∧ l = ((Real.rpow 2 (-M) * L : ℝ) : EReal) ∧ ∀ e, a e = ((Real.rpow 2 (-M) * A e : ℝ) : EReal)

/-- Before any tile: a finite stand-in for the maximum and empty sums. -/
theorem St.init {E : Type*} (M : ℝ) : St (E := E) (M : EReal) 0 (fun _ => 0) 0 (fun _ => 0) :=
  ⟨M, rfl, by simp, fun _ => by simp⟩

/-- A tile of keys with scores `S` and value rows `V` adds its weights to the sums. -/
theorem St.step {E : Type*} {n : ℕ} {m l : EReal} {a : E → EReal} {L : ℝ} {A : E → ℝ} (h : St m l a L A)
    (S : Fin n → EReal) (hS : ∀ k, S k ≠ ⊤) (V : Fin n → E → ℝ) :
    St (max m (Finset.univ.fold max ⊥ S))
      (Ideal.exp2 (m - max m (Finset.univ.fold max ⊥ S)) * l
        + ∑ k, Ideal.exp2 (S k - max m (Finset.univ.fold max ⊥ S)))
      (fun e => Ideal.exp2 (m - max m (Finset.univ.fold max ⊥ S)) * a e
        + ∑ k, Ideal.exp2 (S k - max m (Finset.univ.fold max ⊥ S)) * (V k e : EReal))
      (L + ∑ k, wt (S k)) (fun e => A e + ∑ k, wt (S k) * V k e) := by
  obtain ⟨M, rfl, rfl, ha⟩ := h
  obtain ⟨M', hM'⟩ := max_real M Finset.univ S hS
  rw [hM']
  have hc : Ideal.exp2 ((M : EReal) - (M' : EReal)) = ((Real.rpow 2 (-M') * Real.rpow 2 M : ℝ) : EReal) := by
    rw [exp2_sub (EReal.coe_ne_top M), wt_coe]
  have hone : Real.rpow 2 M * Real.rpow 2 (-M) = 1 := by
    have := Real.rpow_add (x := 2) (by norm_num) M (-M)
    rw [add_neg_cancel, Real.rpow_zero] at this
    exact this.symm
  refine ⟨M', rfl, ?_, fun e => ?_⟩
  · rw [hc, Finset.sum_congr rfl fun k _ => exp2_sub (hS k) M', ← coe_sum, ← EReal.coe_mul, ← EReal.coe_add,
      ← Finset.mul_sum]
    refine congrArg _ ?_
    linear_combination (Real.rpow 2 (-M') * L) * hone
  · beta_reduce
    rw [hc, ha e, Finset.sum_congr rfl fun k _ => (by rw [exp2_sub (hS k) M', ← EReal.coe_mul] :
      Ideal.exp2 (S k - (M' : EReal)) * (V k e : EReal) = ((Real.rpow 2 (-M') * wt (S k) * V k e : ℝ) : EReal)), ← coe_sum,
      ← EReal.coe_mul, ← EReal.coe_add]
    refine congrArg _ ?_
    rw [Finset.sum_congr rfl fun k _ => mul_assoc (Real.rpow 2 (-M')) (wt (S k)) (V k e), ← Finset.mul_sum]
    linear_combination (Real.rpow 2 (-M') * A e) * hone

/-- The quotient of the weighted sum by the sum does not depend on the maximum that was carried. -/
theorem St.quot {E : Type*} {m l : EReal} {a : E → EReal} {L : ℝ} {A : E → ℝ} (h : St m l a L A) (hL : L ≠ 0) (e : E) :
    Ideal.div (a e) l = ((A e / L : ℝ) : EReal) := by
  obtain ⟨M, -, rfl, ha⟩ := h
  have hp : Real.rpow 2 (-M) ≠ 0 := (Real.rpow_pos_of_pos (by norm_num) (-M)).ne'
  rw [ha e, div_real (mul_ne_zero hp hL), mul_div_mul_left _ _ hp]

/-! ## The sums over all keys -/

/-- Adding the tile that starts at `lo` below the keys `lo + n` … `hi` already summed. -/
theorem ico_tile {n lo mid hi : ℕ} (hmid : mid = lo + n) (h : mid ≤ hi) (f : ℕ → ℝ) :
    ∑ k ∈ Finset.Ico mid hi, f k + ∑ k : Fin n, f (lo + k.val) = ∑ k ∈ Finset.Ico lo hi, f k := by
  subst hmid
  rw [← Finset.sum_Ico_consecutive f (Nat.le_add_right lo n) h, add_comm, Finset.sum_Ico_eq_sum_range f lo (lo + n),
    Nat.add_sub_cancel_left, Fin.sum_univ_eq_sum_range (fun k => f (lo + k))]

/-- The keys past `hi` weigh nothing, so the keys below `hi` are all the keys. -/
theorem ico_all {n hi : ℕ} (h : hi ≤ n) (f : ℕ → ℝ) (hz : ∀ k, hi ≤ k → k < n → f k = 0) :
    ∑ k ∈ Finset.Ico 0 hi, f k = ∑ k : Fin n, f k.val := by
  rw [Fin.sum_univ_eq_sum_range f n, Finset.range_eq_Ico, ← Finset.sum_Ico_consecutive f (Nat.zero_le hi) h,
    Finset.sum_eq_zero fun k hk => hz k (Finset.mem_Ico.mp hk).1 (Finset.mem_Ico.mp hk).2, add_zero]

/-! ## The softmax in one piece, with natural exponentials -/

/-- The natural exponential of a score, `0` for a removed one. -/
def ex (x : EReal) : ℝ := (Ideal.exp x).toReal

@[simp] theorem ex_coe (r : ℝ) : ex (r : EReal) = Real.exp r := by simp [ex]
@[simp] theorem ex_bot : ex ⊥ = 0 := by simp [ex]

theorem ex_nonneg (x : EReal) : 0 ≤ ex x := by
  induction x with
  | bot => simp
  | coe r => rw [ex_coe]; exact (Real.exp_pos r).le
  | top => simp [ex]

theorem exp_sub {x : EReal} (hx : x ≠ ⊤) (M : ℝ) : Ideal.exp (x - (M : EReal)) = ((Real.exp (-M) * ex x : ℝ) : EReal) := by
  induction x with
  | bot => simp
  | coe r => rw [← EReal.coe_sub, Ideal.exp_coe, ex_coe, sub_eq_neg_add, Real.exp_add]
  | top => exact absurd rfl hx

/-- The sum of the weights of a row that holds a real score is positive. -/
theorem sum_ex_pos {n : ℕ} (T : Fin n → EReal) (k₀ : Fin n) (hb : T k₀ ≠ ⊥) (ht : T k₀ ≠ ⊤) : 0 < ∑ k, ex (T k) := by
  refine Finset.sum_pos' (fun k _ => ex_nonneg _) ⟨k₀, Finset.mem_univ _, ?_⟩
  rw [← EReal.coe_toReal ht hb, ex_coe]; exact Real.exp_pos _

/-- A softmax taken with the row's maximum is the quotient of the weights. -/
theorem softmax_real {n : ℕ} (T : Fin n → EReal) (hT : ∀ k, T k ≠ ⊤) (k₀ : Fin n) (hb : T k₀ ≠ ⊥) (k : Fin n) :
    Ideal.div (Ideal.exp (T k - max ⊥ (Finset.univ.fold max ⊥ T)))
        (∑ k', Ideal.exp (T k' - max ⊥ (Finset.univ.fold max ⊥ T)))
      = ((ex (T k) / ∑ k', ex (T k') : ℝ) : EReal) := by
  obtain ⟨M, hM⟩ := fold_max_real Finset.univ T hT k₀ (Finset.mem_univ _) hb
  have hp : Real.exp (-M) ≠ 0 := (Real.exp_pos _).ne'
  rw [max_eq_right bot_le, hM, exp_sub (hT k), Finset.sum_congr rfl fun k' _ => exp_sub (hT k') M, ← coe_sum,
    ← Finset.mul_sum, div_real (mul_ne_zero hp (sum_ex_pos T k₀ hb (hT k₀)).ne'), mul_div_mul_left _ _ hp]

/-- `2 ^ (x / ln 2)` is `exp x`: the weight of a score that was scaled by `1 / ln 2`. -/
theorem wt_scaled {x : EReal} (hx : x ≠ ⊤) : wt ((((Real.log 2)⁻¹ : ℝ) : EReal) * x) = ex x := by
  have h2 : (0 : ℝ) < (Real.log 2)⁻¹ := inv_pos.mpr (Real.log_pos (by norm_num))
  induction x with
  | bot => rw [EReal.coe_mul_bot_of_pos h2]; simp
  | coe r =>
    rw [← EReal.coe_mul, wt_coe, ex_coe]
    show (2 : ℝ) ^ ((Real.log 2)⁻¹ * r) = Real.exp r
    rw [Real.rpow_def_of_pos (by norm_num), ← mul_assoc, mul_inv_cancel₀ (Real.log_pos (by norm_num)).ne', one_mul]
  | top => exact absurd rfl hx

end Cert.Flash
-- ==== Proof.Ref.lean ====
/-
  The reference's result as a composition of a few arrays, and each of them read at one index.
-/
module

public import proofs.«01_k».proof.Proof.Gen.ReferenceIdeal.Run
public import proofs.«01_k».proof.Proof.Gen.KernelIdeal.Value
public import proofs.«01_k».proof.Proof.Words
public import proofs.«01_k».proof.Proof.Flash

@[expose] public section

set_option maxRecDepth 16384

noncomputable section

namespace Cert.Ref

open Idealize.ShloMosaic Idealize.ShloMosaic.TcCoe
open Cert.ReferenceIdeal Cert.ReferenceIdeal.Gen Cert.Flash

/-- The four slopes, one for each head group. -/
def slopes0  : FVec Ideal S4 .f32 :=
  (Host.powf (broadcastInDim S4 ![] bcast_S_S4 (constant S_ .f32 0x40000000#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32))))

/-- Whether a query may see a key: the key is in no later chunk of 64 positions. -/
def mask  : IVec S2048x2048 1 :=
  (cmpi .sle (broadcastInDim S2048x2048 ![0, 1] bcast_S1x2048_S2048x2048_0_1 (select (andi (cmpi .ne (signi (broadcastInDim S1x2048 ![1] bcast_S2048_S1x2048_1 (iotaInDim S2048 32 0))) (broadcastInDim S1x2048 ![] bcast_S_S1x2048 (signi (id (constantI S_ 32 64#32))))) (cmpi .ne (Host.remsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 64#32)))))) (broadcastInDim S2048x2048 ![0, 1] bcast_S2048x1_S2048x2048_0_1 (select (andi (cmpi .ne (signi (broadcastInDim S2048x1 ![0] bcast_S2048_S2048x1_0 (iotaInDim S2048 32 0))) (broadcastInDim S2048x1 ![] bcast_S_S2048x1 (signi (id (constantI S_ 32 64#32))))) (cmpi .ne (Host.remsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 0#32)))) (subi (Host.divsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 1#32))) (Host.divsi (broadcastInDim S2048x1 ![0] bcast_S2048_S2048x1_0 (iotaInDim S2048 32 0)) (broadcastInDim S2048x1 ![] bcast_S_S2048x1 (id (constantI S_ 32 64#32)))))))

/-- The distance between a query and a key. -/
def dists  : FVec Ideal S2048x2048 .f32 :=
  (sitofp .f32 (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))

/-- The masked scores of every query and key. -/
def scores (a0 : FVec Ideal S8x2048x4x2x64 .f32) (a1 : FVec Ideal S2x8x2048x4x2x64 .f32) : FVec Ideal S8x4x2x2048x2048 .f32 :=
  (select (broadcastInDim S8x4x2x2048x2048 ![3, 4] bcast_S2048x2048_S8x4x2x2048x2048_3_4 (mask )) (subf (mulf (Host.dotGeneral dot_S8x2048x4x2x64_S8x2048x4x2x64_S8x4x2x2048x2048_4_4_1_1_023_023 none a0 (shapeCast S8x2048x4x2x64 (extractStridedSlice S1x8x2048x4x2x64 ![0, 0, 0, 0, 0, 0] a1 slices_S2x8x2048x4x2x64_S1x8x2048x4x2x64_0_0_0_0_0_0) shapeCasts_S1x8x2048x4x2x64_S8x2048x4x2x64)) (broadcastInDim S8x4x2x2048x2048 ![] bcast_S_S8x4x2x2048x2048 (constant S_ .f32 0x3E000000#32))) (broadcastInDim S8x4x2x2048x2048 ![0, 1, 2, 3, 4] bcast_S1x4x1x2048x2048_S8x4x2x2048x2048_0_1_2_3_4 (broadcastInDim S1x4x1x2048x2048 ![1, 2, 3, 4] bcast_S4x1x2048x2048_S1x4x1x2048x2048_1_2_3_4 (mulf (broadcastInDim S4x1x2048x2048 ![0, 1, 2, 3] bcast_S4x1x1x1_S4x1x2048x2048_0_1_2_3 (broadcastInDim S4x1x1x1 ![0] bcast_S4_S4x1x1x1_0 (slopes0 ))) (broadcastInDim S4x1x2048x2048 ![0, 1, 2, 3] bcast_S1x1x2048x2048_S4x1x2048x2048_0_1_2_3 (broadcastInDim S1x1x2048x2048 ![2, 3] bcast_S2048x2048_S1x1x2048x2048_2_3 (dists ))))))) (broadcastInDim S8x4x2x2048x2048 ![] bcast_S_S8x4x2x2048x2048 (id (constant S_ .f32 0xFF800000#32))))

/-- The largest score of each row. -/
def rowmax (T : FVec Ideal S8x4x2x2048x2048 .f32) : FVec Ideal S8x4x2x2048 .f32 :=
  (maximumf (broadcastInDim S8x4x2x2048 ![] bcast_S_S8x4x2x2048 (constant S_ .f32 0xFF800000#32)) (Host.reduce FloatOps.maximumf T (constant S_ .f32 0xFF800000#32) reducesTo_S8x4x2x2048x2048_S8x4x2x2048_d4 h_S_))

/-- The exponentials of scores, each less its row's maximum. -/
def expos (T : FVec Ideal S8x4x2x2048x2048 .f32) : FVec Ideal S8x4x2x2048x2048 .f32 :=
  (Host.exp (subf T (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (rowmax T)))))

/-- The softmax of scores over the keys. -/
def probs (T : FVec Ideal S8x4x2x2048x2048 .f32) : FVec Ideal S8x4x2x2048x2048 .f32 :=
  (Host.divf (expos T) (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd (expos T) (constant S_ .f32 0x00000000#32) reducesTo_S8x4x2x2048x2048_S8x4x2x2048_d4 h_S_))))

/-- The weight of the second map. -/
def lam (a3 : FVec Ideal S4x64 .f32) : FVec Ideal S_ .f32 :=
  (addf (subf (Host.exp (Host.reduceAdd (mulf (shapeCast S64 (extractStridedSlice S1x64 ![0, 0] a3 slices_S4x64_S1x64_0_0) shapeCasts_S1x64_S64) (shapeCast S64 (extractStridedSlice S1x64 ![1, 0] a3 slices_S4x64_S1x64_1_0) shapeCasts_S1x64_S64)) (constant S_ .f32 0x00000000#32) reducesTo_S64_S_d0 h_S_)) (Host.exp (Host.reduceAdd (mulf (shapeCast S64 (extractStridedSlice S1x64 ![2, 0] a3 slices_S4x64_S1x64_2_0) shapeCasts_S1x64_S64) (shapeCast S64 (extractStridedSlice S1x64 ![3, 0] a3 slices_S4x64_S1x64_3_0) shapeCasts_S1x64_S64)) (constant S_ .f32 0x00000000#32) reducesTo_S64_S_d0 h_S_))) (constant S_ .f32 0x3E4CCCCD#32))

/-- The difference of the two maps, applied to the values. -/
def outs (P : FVec Ideal S8x4x2x2048x2048 .f32) (L : FVec Ideal S_ .f32) (a2 : FVec Ideal S2x8x2048x4x128 .f32) : FVec Ideal S8x2048x4x128 .f32 :=
  (transpose S8x2048x4x128 [0, 3, 1, 2] (Host.dotGeneral dot_S8x2048x4x128_S8x4x2048x2048_S8x4x128x2048_1_3_3_2_02_01 none (shapeCast S8x2048x4x128 (extractStridedSlice S1x8x2048x4x128 ![0, 0, 0, 0, 0] a2 slices_S2x8x2048x4x128_S1x8x2048x4x128_0_0_0_0_0) shapeCasts_S1x8x2048x4x128_S8x2048x4x128) (subf (shapeCast S8x4x2048x2048 (extractStridedSlice S8x4x1x2048x2048 ![0, 0, 0, 0, 0] P slices_S8x4x2x2048x2048_S8x4x1x2048x2048_0_0_0_0_0) shapeCasts_S8x4x1x2048x2048_S8x4x2048x2048) (mulf (broadcastInDim S8x4x2048x2048 ![] bcast_S_S8x4x2048x2048 L) (shapeCast S8x4x2048x2048 (extractStridedSlice S8x4x1x2048x2048 ![0, 0, 1, 0, 0] P slices_S8x4x2x2048x2048_S8x4x1x2048x2048_0_0_1_0_0) shapeCasts_S8x4x1x2048x2048_S8x4x2048x2048)))) transposes_S8x4x128x2048_S8x2048x4x128_0_3_1_2)

/-- The outputs normalised over their lanes and scaled. -/
def norm (O : FVec Ideal S8x2048x4x128 .f32) (a4 : FVec Ideal S128 .f32) : FVec Ideal S8x2048x512 .bf16 :=
  shapeCast S8x2048x512 (truncf .bf16 (mulf (mulf (mulf O (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf O O) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 a4))) (broadcastInDim S8x2048x4x128 ![] bcast_S_S8x2048x4x128 (constant S_ .f32 0x3F4CCCCD#32))) bitsLt_bf16_f32) shapeCasts_S8x2048x4x128_S8x2048x512

/-- The reference's result is that composition. -/
theorem res_eq (m : (ℓ : Loc nD τ sig) → Buf (Elt Ideal) ℓ) (c : Dev nD) :
    Cert.ReferenceIdeal.Value.res_main_v92 m c
      = norm (outs (probs (scores (m ((c.tc : Thread nD τ).loc main_arg0)) (m ((c.tc : Thread nD τ).loc main_arg1)))) (lam (m ((c.tc : Thread nD τ).loc main_arg3)))
          (m ((c.tc : Thread nD τ).loc main_arg2))) (m ((c.tc : Thread nD τ).loc main_arg4)) := by
  unfold Cert.ReferenceIdeal.Value.res_main_v92 norm outs lam probs expos rowmax scores slopes0 mask dists
  rfl

end Cert.Ref

end
-- ==== Proof.Blocks.lean ====
/-
  The blocks the attention kernel reads, in terms of the program's arguments, and the scratch at every point.
-/
module

public import proofs.«01_k».proof.Proof.Read
public import proofs.«01_k».proof.Proof.Ref
public import Idealize.ShloMosaic.Lib.Pipeline.ValueKit.Held

@[expose] public section

set_option maxRecDepth 16384

noncomputable section

namespace Cert.Attn

open Idealize.ShloMosaic Idealize.ShloMosaic.TcCoe
open Cert.KernelIdeal Cert.KernelIdeal.Gen Cert.KernelIdeal.Value

theorem N_lt (t : Fin grid0.N) : t.val < 128 := lt_of_lt_of_eq t.isLt (by decide +kernel)

/-- The batch row of a point. -/
def bi (t : Fin grid0.N) : Fin 8 := ⟨t.val / 16, by have := N_lt t; omega⟩
/-- The head group of a point. -/
def gi (t : Fin grid0.N) : Fin 4 := ⟨t.val / 4 % 4, by omega⟩
/-- The query tile's row `r` of a point, as a position. -/
def qpos (t : Fin grid0.N) (r : Fin 512) : Fin 2048 := ⟨512 * (t.val % 4) + r.val, by omega⟩

theorem coords_facts : ∀ t : Fin grid0.N, (grid0.coords t 1).val = t.val / 4 % 4 ∧ (grid0.coords t 2).val = t.val % 4 := by decide +kernel

theorem idx1 : ∀ t : Fin cfg0.N, win0_1.index t = ![t.val / 16, t.val % 4, t.val / 4 % 4] := (by decide +kernel : ∀ t : Fin grid0.N, _)
theorem idx2 : ∀ t : Fin cfg0.N, win0_2.index t = ![0, t.val / 16, t.val / 4 % 4, 0] := (by decide +kernel : ∀ t : Fin grid0.N, _)
theorem idx3 : ∀ t : Fin cfg0.N, win0_3.index t = ![0, t.val / 16, 0, 0] := (by decide +kernel : ∀ t : Fin grid0.N, _)
theorem idx0 : ∀ t : Fin cfg0.N, win0_0.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 16, t.val % 4, t.val / 4 % 4] := (by decide +kernel : ∀ t : Fin grid0.N, _)

variable (m : (ℓ : Loc nD τ sig) → Buf (Elt Ideal) ℓ) (c : Dev nD) (t : Fin grid0.N)

theorem blk0 (g : Fin 4) : iblk m c 0 t (ix1 g) = Cert.Ref.slopes0 (ix1 g) := by
  blk_simp [iblk]
  entry_read
  show Cert.Ref.slopes0 _ = Cert.Ref.slopes0 _
  blk_ext [iblk, V, idx0 t]

theorem blk1 (r : Fin 512) (e : Fin 128) : iblk m c 1 t (ix3 0 r e)
    = m ((c.tc : Thread nD τ).loc main_arg0) (ix5 (bi t) (qpos t r) (gi t) ⟨e.val / 64, by omega⟩ ⟨e.val % 64, by omega⟩) := by
  blk_point [iblk, V, idx1 t, bi, qpos, gi]

theorem blk2 (d : Fin 128) (k : Fin 2048) : iblk m c 2 t (ix4 0 0 d k)
    = m ((c.tc : Thread nD τ).loc main_arg1) (ix6 0 (bi t) k (gi t) ⟨d.val / 64, by omega⟩ ⟨d.val % 64, by omega⟩) := by
  blk_point [iblk, V, idx2 t, bi, gi]

theorem blk3 (j : Fin 8192) (e : Fin 128) : iblk m c 3 t (ix4 0 0 j e)
    = m ((c.tc : Thread nD τ).loc main_arg2) (ix5 0 (bi t) ⟨j.val / 4, by omega⟩ ⟨j.val % 4, by omega⟩ e) := by
  blk_point [iblk, V, idx3 t, bi]

theorem blk4 (a : Fin 4) (d : Fin 64) : iblk m c 4 t (ix2 a d) = m ((c.tc : Thread nD τ).loc main_arg3) (ix2 a d) := by
  blk_point [iblk, V, idx4 t]

theorem blk5 (e : Fin 128) : iblk m c 5 t (ix2 0 e) = m ((c.tc : Thread nD τ).loc main_arg4) (ix1 e) := by
  blk_point [iblk, V, idx5 t]

theorem kplane_at (x : Vec Ideal S1x1x128x2048 .f32) (d : Fin 128) (k : Fin 2048) : kplane x (ix2 d k) = x (ix4 0 0 d k) := by
  pointwise [kplane, k0_pay2]

theorem pay3_at (x : Vec Ideal S1x1x2048x128 .f32) (k : Fin 2048) (e : Fin 128) : k0_pay3 (F := Ideal) x (ix2 k e) = x (ix4 0 0 k e) := by
  pointwise [k0_pay3]

/-- The key plane in scratch, at every point. -/
theorem kheld (d : Fin 128) (k : Fin 2048) : (outsAt0 m c t.val t.isLt).2.1 (ix2 d k)
    = m ((c.tc : Thread nD τ).loc main_arg1) (ix6 0 (bi t) k (gi t) ⟨d.val / 64, by omega⟩ ⟨d.val % 64, by omega⟩) := by
  have h := Pipeline.eq_of_write_hold (fun n h => (outsAt0 m c n h).2.1) 4 (fun t => kplane (iblk m c 2 t)) (scratch0_first m c) (scratch0_next m c) t
  rw [h, kplane_at, blk2]
  have e1 : bi ⟨4 * (t.val / 4), Pipeline.run_start_lt t⟩ = bi t := Fin.ext (by show 4 * (t.val / 4) / 16 = t.val / 16; omega)
  have e2 : gi ⟨4 * (t.val / 4), Pipeline.run_start_lt t⟩ = gi t := Fin.ext (by show 4 * (t.val / 4) / 4 % 4 = t.val / 4 % 4; omega)
  rw [e1, e2]

/-- The value plane in scratch, at every point. -/
theorem vheld (k : Fin 2048) (e : Fin 128) : (outsAt0 m c t.val t.isLt).2.2 (ix2 k e)
    = m ((c.tc : Thread nD τ).loc main_arg2) (ix5 0 (bi t) k (gi t) e) := by
  have h := Pipeline.eq_of_write_hold (fun n h => (outsAt0 m c n h).2.2) 4 (fun t => vplane (grid0.coords t) (iblk m c 3 t)) (scratch1_first m c) (scratch1_next m c) t
  rw [h]
  show k0_pay3 (F := Ideal) (vrows _ _) (ix2 k e) = _
  rw [pay3_at]
  show iblk m c 3 _ (ix4 0 0 ⟨4 * k.val + _, _⟩ e) = _
  rw [blk3]
  have hg := (coords_facts ⟨4 * (t.val / 4), Pipeline.run_start_lt t⟩).1
  have e1 : bi ⟨4 * (t.val / 4), Pipeline.run_start_lt t⟩ = bi t := Fin.ext (by show 4 * (t.val / 4) / 16 = t.val / 16; omega)
  rw [e1]
  congr 2
  · apply Fin.ext
    show (4 * k.val + (grid0.coords ⟨4 * (t.val / 4), Pipeline.run_start_lt t⟩ 1).val) / 4 = k.val
    rw [hg]
    omega
  · apply Fin.ext
    show (4 * k.val + (grid0.coords ⟨4 * (t.val / 4), Pipeline.run_start_lt t⟩ 1).val) % 4 = t.val / 4 % 4
    rw [hg]
    show (4 * k.val + 4 * (t.val / 4) / 4 % 4) % 4 = t.val / 4 % 4
    omega

/-- What every point stores. -/
theorem out_all : (outsAt0 m c t.val t.isLt).1
    = tail (final (grid0.coords t) (iblk m c 0 t) (iblk m c 1 t) (outsAt0 m c t.val t.isLt).2.1 (outsAt0 m c t.val t.isLt).2.2).2.1
        (final (grid0.coords t) (iblk m c 0 t) (iblk m c 1 t) (outsAt0 m c t.val t.isLt).2.1 (outsAt0 m c t.val t.isLt).2.2).2.2
        (iblk m c 4 t) (iblk m c 5 t) := by
  by_cases h0 : t.val % 4 = 0
  · exact out_first m c t h0
  · exact out_held m c t h0

end Cert.Attn

end
-- ==== Proof.PayStart.lean ====
/-
  The attention kernel's vector expressions read at one index: what the diagonal tile computes.
-/
module

public import proofs.«01_k».proof.Proof.Read

@[expose] public section

set_option maxRecDepth 16384

noncomputable section

namespace Cert.Attn

open Idealize.ShloMosaic Idealize.ShloMosaic.TcCoe
open Cert.KernelIdeal Cert.KernelIdeal.Gen Cert.KernelIdeal.Value

variable (i : grid0.Coords) (a2 : BitVec 32) (Q : FVec Ideal S1024x128 .bf16) (P : IVec S1024x1 32) (s1 : FVec Ideal S512x1 .f32) (s2 : Elt Ideal .f32) (sl : FVec Ideal S1024x1 .f32)
variable (K : Vec Ideal S128x512 .bf16) (V : Vec Ideal S512x128 .bf16) (n : Fin (k0_t1_loop i).trips) (m l : FVec Ideal S1024x1 .f32) (a : FVec Ideal S1024x128 .f32)
variable (r : Fin 1024) (k : Fin 512) (e : Fin 128)

theorem pay12_at : k0_pay12 (F := Ideal) a2 Q P s1 s2 K (ix2 r 0)
    = max (Ideal.ofBits FTy.f32 0xF149F2CA#32)
      (Finset.fold max (Ideal.ofBits FTy.f32 0xFF800000#32) (fun x : Fin 512 => k0_pay11 a2 Q P s1 s2 K (ix2 r x)) Finset.univ) := by
  pointwise [k0_pay12, k0_pay8]

theorem pay16_at : k0_pay16 (F := Ideal) k0_pay9 (k0_pay11 a2 Q P s1 s2 K) (k0_pay13 a2 Q P s1 s2 K) (k0_pay14 a2 Q P s1 s2 K) (ix2 r 0)
    = Ideal.exp2 (Ideal.ofBits FTy.f32 0xF149F2CA#32 - k0_pay12 a2 Q P s1 s2 K (ix2 r 0)) * 0 +
      ∑ x : Fin 512, Ideal.exp2 (k0_pay11 a2 Q P s1 s2 K (ix2 r x) - k0_pay12 a2 Q P s1 s2 K (ix2 r 0)) := by
  pointwise [k0_pay16, k0_pay15, k0_pay13, k0_pay14, k0_pay8, k0_pay9]
  rfl

theorem pay17_at : k0_pay17 (F := Ideal) k0_pay10 V (k0_pay11 a2 Q P s1 s2 K) (k0_pay13 a2 Q P s1 s2 K) (k0_pay14 a2 Q P s1 s2 K) (ix2 r e)
    = Ideal.exp2 (Ideal.ofBits FTy.f32 0xF149F2CA#32 - k0_pay12 a2 Q P s1 s2 K (ix2 r 0)) * 0 +
      ∑ x : Fin 512, Ideal.exp2 (k0_pay11 a2 Q P s1 s2 K (ix2 r x) - k0_pay12 a2 Q P s1 s2 K (ix2 r 0)) * V (ix2 x e) := by
  pointwise [k0_pay17, k0_pay15, k0_pay10, k0_pay13, k0_pay14, k0_pay8]
  rfl

end Cert.Attn

end
-- ==== Proof.PayStep.lean ====
/-
  The attention kernel's vector expressions read at one index: what an earlier tile computes.
-/
module

public import proofs.«01_k».proof.Proof.Read

@[expose] public section

set_option maxRecDepth 16384

noncomputable section

namespace Cert.Attn

open Idealize.ShloMosaic Idealize.ShloMosaic.TcCoe
open Cert.KernelIdeal Cert.KernelIdeal.Gen Cert.KernelIdeal.Value

variable (i : grid0.Coords) (a2 : BitVec 32) (Q : FVec Ideal S1024x128 .bf16) (P : IVec S1024x1 32) (s1 : FVec Ideal S512x1 .f32) (s2 : Elt Ideal .f32) (sl : FVec Ideal S1024x1 .f32)
variable (K : Vec Ideal S128x512 .bf16) (V : Vec Ideal S512x128 .bf16) (n : Fin (k0_t1_loop i).trips) (m l : FVec Ideal S1024x1 .f32) (a : FVec Ideal S1024x128 .f32)
variable (r : Fin 1024) (k : Fin 512) (e : Fin 128)

/-- Scores of an earlier tile. -/
theorem pay18_at : k0_pay18 (F := Ideal) i a2 Q P sl n K (ix2 r k)
    = ∑ x, Q (ix2 r x) * K (ix2 x k) - sl (ix2 r 0) * FloatOps.sitofp FTy.f32 (IntOp.subi (P (ix2 r 0))
            (IntOp.addi (Scalar.addi (0#32)
                (Scalar.muli (Scalar.subi (Scalar.subi (Scalar.muli a2 1#32) 1#32) (Scf.iv 0#32 1#32 n.val)) 512#32))
              (BitVec.ofNat 32 k.val))) := by
  pointwise [k0_pay18]

theorem pay19_at : k0_pay19 (F := Ideal) i a2 Q P sl n m K (ix2 r 0)
    = max (m (ix2 r 0)) (Finset.fold max (Ideal.ofBits FTy.f32 0xFF800000#32) (fun x : Fin 512 => k0_pay18 i a2 Q P sl n K (ix2 r x)) Finset.univ) := by
  pointwise [k0_pay19]

theorem pay22_at : k0_pay22 (F := Ideal) i a2 Q P sl n m l K (ix2 r 0)
    = Ideal.exp2 (m (ix2 r 0) - k0_pay19 i a2 Q P sl n m K (ix2 r 0)) * l (ix2 r 0) +
      ∑ x : Fin 512, Ideal.exp2 (k0_pay18 i a2 Q P sl n K (ix2 r x) - k0_pay19 i a2 Q P sl n m K (ix2 r 0)) := by
  pointwise [k0_pay22, k0_pay20, k0_pay21]
  rfl

theorem pay23_at : k0_pay23 (F := Ideal) i a2 Q P sl n m a K V (ix2 r e)
    = Ideal.exp2 (m (ix2 r 0) - k0_pay19 i a2 Q P sl n m K (ix2 r 0)) * a (ix2 r e) +
      ∑ x : Fin 512, Ideal.exp2 (k0_pay18 i a2 Q P sl n K (ix2 r x) - k0_pay19 i a2 Q P sl n m K (ix2 r 0)) * V (ix2 x e) := by
  pointwise [k0_pay23, k0_pay20, k0_pay21]
  rfl

end Cert.Attn

end
-- ==== Proof.Pay.lean ====
/-
  The attention kernel's vector expressions read at one index.
-/
module

public import proofs.«01_k».proof.Proof.Read

@[expose] public section

set_option maxRecDepth 16384

noncomputable section

namespace Cert.Attn

open Idealize.ShloMosaic Idealize.ShloMosaic.TcCoe
open Cert.KernelIdeal Cert.KernelIdeal.Gen Cert.KernelIdeal.Value

variable (i : grid0.Coords) (a2 : BitVec 32) (Q : FVec Ideal S1024x128 .bf16) (P : IVec S1024x1 32) (s1 : FVec Ideal S512x1 .f32) (s2 : Elt Ideal .f32) (sl : FVec Ideal S1024x1 .f32)
variable (K : Vec Ideal S128x512 .bf16) (V : Vec Ideal S512x128 .bf16) (n : Fin (k0_t1_loop i).trips) (m l : FVec Ideal S1024x1 .f32) (a : FVec Ideal S1024x128 .f32)
variable (r : Fin 1024) (k : Fin 512) (e : Fin 128)

theorem low_lane : ∀ e : Fin 128, IntOp.andi (IntOp.cmpi CmpIPredicate.sge (BitVec.ofNat 32 e.val) 0#32)
    (IntOp.cmpi CmpIPredicate.slt (BitVec.ofNat 32 e.val) 64#32) = if e.val < 64 then 1 else 0 := by decide +kernel

theorem high_lane : ∀ e : Fin 128, IntOp.andi (IntOp.cmpi CmpIPredicate.sge (BitVec.ofNat 32 e.val) 64#32)
    (IntOp.cmpi CmpIPredicate.slt (BitVec.ofNat 32 e.val) 128#32) = if 64 ≤ e.val then 1 else 0 := by decide +kernel

/-- The scale the queries carry: an eighth, in powers of two. -/
def qscale : ℝ := (1 / 8) * (Real.log 2)⁻¹

/-- The slopes' change to powers of two. -/
def log2e : ℝ := (Real.log 2)⁻¹

/-- Query rows: the first half-vector's lanes, then the second's, scaled. -/
theorem pay4_at (x : Vec Ideal S1x512x128 .f32) : k0_pay4 (F := Ideal) x (ix2 r e)
    = if r.val < 512 then (if e.val < 64 then x (ix3 0 ⟨r.val % 512, Nat.mod_lt _ (by norm_num)⟩ e) * (qscale : EReal) else 0)
      else (if 64 ≤ e.val then x (ix3 0 ⟨r.val % 512, Nat.mod_lt _ (by norm_num)⟩ e) * (qscale : EReal) else 0) := by
  pointwise [k0_pay4]
  rw [low_lane, high_lane]
  unfold Scalar.select
  split
  · rename_i h
    simp only [Nat.mod_eq_of_lt h]
    split <;> split <;> first | rfl | simp_all
  · rename_i h
    have h' : r.val % 512 = r.val - 512 := by omega
    simp only [h']
    split <;> split <;> first | rfl | simp_all

/-- The slopes of both halves. -/
theorem pay7_at : k0_pay7 (F := Ideal) (k0_pay6 s2) s2 (ix2 r 0) = s2 * (log2e : EReal) := by
  pointwise [k0_pay7, k0_pay6]
  split <;> rfl

/-- Positions of the query rows. -/
theorem pay5_at : k0_pay5 i (ix2 r 0) = IntOp.addi (Scalar.addi (0#32) (Scalar.muli (BitVec.ofNat 32 (i 2).val) 512#32)) (BitVec.ofNat 32 (r.val % 512)) := by
  pointwise [k0_pay5]
  split
  · rw [Nat.mod_eq_of_lt (by assumption)]
  · have h : r.val % 512 = r.val - 512 := by omega
    rw [h]

/-- Scores of the diagonal tile. -/
theorem pay11_at : k0_pay11 (F := Ideal) a2 Q P s1 s2 K (ix2 r k)
    = Scalar.select
      (IntOp.cmpi CmpIPredicate.sle
        (IntOp.shrsi ArithUnit.vector (IntOp.addi (Scalar.addi (0#32) (Scalar.muli a2 512#32)) (BitVec.ofNat 32 k.val)) 6#32)
        (IntOp.shrsi ArithUnit.vector (P (ix2 r 0)) 6#32))
      (∑ x, (Q (ix2 r x) * K (ix2 x k) : EReal) - (k0_pay7 (F := Ideal) s1 s2 (ix2 r 0) : EReal) *
          (FloatOps.sitofp (F := Ideal) FTy.f32 (IntOp.absi (IntOp.subi (P (ix2 r 0))
                (IntOp.addi (Scalar.addi (0#32) (Scalar.muli a2 512#32)) (BitVec.ofNat 32 k.val)))) : EReal))
      (Ideal.ofBits FTy.f32 0xFF800000#32) := by
  pointwise [k0_pay11, k0_pay7]

end Cert.Attn

end
-- ==== Proof.Point.lean ====
/-
  One row of one grid point of the attention kernel: the sums its tiles carry are the sums of weights over all the keys the row
  may see, so what it divides is the whole attention of the row.
-/
module

public import proofs.«01_k».proof.Proof.Words
public import proofs.«01_k».proof.Proof.PayStart
public import proofs.«01_k».proof.Proof.PayStep
public import proofs.«01_k».proof.Proof.Pay
public import proofs.«01_k».proof.Proof.Flash

@[expose] public section

set_option maxRecDepth 16384

noncomputable section

namespace Cert.Attn

open Idealize.ShloMosaic Idealize.ShloMosaic.TcCoe
open Cert.KernelIdeal Cert.KernelIdeal.Gen Cert.KernelIdeal.Value Cert.Flash

/-- The score of key `k` for the query at position `q`, in powers of two: `⊥` where the key's chunk comes later. -/
def score (qr : Fin 128 → ℝ) (kr : ℕ → Fin 128 → ℝ) (s : ℝ) (q k : ℕ) : EReal :=
  if k / 64 ≤ q / 64 then ((∑ d, qr d * kr k d - s * dist q k : ℝ) : EReal) else ⊥

theorem score_ne_top (qr : Fin 128 → ℝ) (kr : ℕ → Fin 128 → ℝ) (s : ℝ) (q k : ℕ) : score qr kr s q k ≠ ⊤ := by
  unfold score
  split
  · exact EReal.coe_ne_top _
  · exact bot_ne_top

/-- A row of scores, as the kernel computes it, in real numbers. -/
theorem dot_coe (x y : Fin 128 → EReal) (qr kr : Fin 128 → ℝ) (s p : ℝ) (hx : ∀ d, x d = (qr d : EReal)) (hy : ∀ d, y d = (kr d : EReal)) :
    ∑ d, x d * y d - (s : EReal) * (p : EReal) = ((∑ d, qr d * kr d - s * p : ℝ) : EReal) := by
  rw [EReal.coe_sub, EReal.coe_mul, coe_sum]
  congr 1
  exact Finset.sum_congr rfl fun d _ => by rw [hx, hy, EReal.coe_mul]

theorem off2_facts : ∀ t : Fin grid0.N, k0_off2 (grid0.coords t) 0 = (grid0.coords t 1).val := by decide +kernel
theorem off3_facts : ∀ t : Fin grid0.N, k0_off3 (grid0.coords t) 0 = 0 ∧ k0_off3 (grid0.coords t) 1 = 512 * (grid0.coords t 2).val := by decide +kernel
theorem off4_facts : ∀ t : Fin grid0.N, k0_off4 (grid0.coords t) 0 = 512 * (grid0.coords t 2).val ∧ k0_off4 (grid0.coords t) 1 = 0 := by decide +kernel
theorem off5_facts : ∀ t : Fin grid0.N, ∀ n : Fin (k0_t1_loop (grid0.coords t)).trips,
    k0_off5 (grid0.coords t) n 0 = 0 ∧ k0_off5 (grid0.coords t) n 1 = 512 * ((grid0.coords t 2).val - 1 - n.val) := by decide +kernel
theorem off6_facts : ∀ t : Fin grid0.N, ∀ n : Fin (k0_t1_loop (grid0.coords t)).trips,
    k0_off6 (grid0.coords t) n 0 = 512 * ((grid0.coords t 2).val - 1 - n.val) ∧ k0_off6 (grid0.coords t) n 1 = 0 := by decide +kernel

theorem qi_lt (t : Fin grid0.N) : (grid0.coords t 2).val < 4 := (grid0.coords t 2).isLt

variable (t : Fin grid0.N)

/-- Tiles of the two planes. -/
theorem ld_k (K : Vec Ideal S128x2048 .bf16) (off : Fin 2 → ℕ) (inb) (j : ℕ) (h0 : off 0 = 0) (h1 : off 1 = j) (d : Fin 128) (k : Fin 512) (h : j + k.val < 2048) :
    View.ld K (Rect.unit (s := S128x2048) off ![128, 512] inb) (ix2 d k) = K (ix2 d ⟨j + k.val, h⟩) := by
  refine View.ld_unit_apply_of K off _ inb _ _ fun a => ?_
  match a with
  | ⟨0, _⟩ => show d.val = off 0 + d.val; omega
  | ⟨1, _⟩ => show j + k.val = off 1 + k.val; omega

theorem ld_v (V : Vec Ideal S2048x128 .bf16) (off : Fin 2 → ℕ) (inb) (j : ℕ) (h0 : off 0 = j) (h1 : off 1 = 0) (k : Fin 512) (e : Fin 128) (h : j + k.val < 2048) :
    View.ld V (Rect.unit (s := S2048x128) off ![512, 128] inb) (ix2 k e) = V (ix2 ⟨j + k.val, h⟩ e) := by
  refine View.ld_unit_apply_of V off _ inb _ _ fun a => ?_
  match a with
  | ⟨0, _⟩ => show j + k.val = off 0 + k.val; omega
  | ⟨1, _⟩ => show e.val = off 1 + e.val; omega

/-- The slope read from its table. -/
theorem slope_read (x0 : Vec Ideal S4 .f32) (inb) (h) :
    View.ld x0 (Rect.unit (s := S4) (k0_off2 (grid0.coords t)) ![1] inb) (Shape.Idx.first h) = x0 (ix1 (grid0.coords t 1)) := by
  refine View.ld_unit_apply_of x0 _ _ inb _ _ fun a => ?_
  match a with
  | ⟨0, _⟩ =>
    have := off2_facts t
    show (grid0.coords t 1).val = k0_off2 (grid0.coords t) 0 + 0
    omega

/-- A row's position. -/
def rowPos (r : Fin 1024) : ℕ := 512 * (grid0.coords t 2).val + r.val % 512

theorem rowPos_lt (r : Fin 1024) : rowPos t r < 2048 := by
  have := qi_lt t; unfold rowPos; omega

theorem pos_read (r : Fin 1024) : k0_pay5 (grid0.coords t) (ix2 r 0) = BitVec.ofNat 32 (rowPos t r) := by
  rw [pay5_at, pos_word]
  rfl

variable (x0 : Vec Ideal S4 .f32) (x1 : Vec Ideal S1x512x128 .f32) (K : Vec Ideal S128x2048 .bf16) (V : Vec Ideal S2048x128 .bf16)
variable (s : ℝ) (qr : Fin 1024 → Fin 128 → ℝ) (kr vr : ℕ → Fin 128 → ℝ)

/-- What the point reads, in real numbers. -/
structure Reals : Prop where
  slope : x0 (ix1 (grid0.coords t 1)) * (log2e : EReal) = (s : EReal)
  q : ∀ r d, k0_pay4 x1 (ix2 r d) = (qr r d : EReal)
  k : ∀ k (h : k < 2048) d, K (ix2 d ⟨k, h⟩) = (kr k d : EReal)
  v : ∀ k (h : k < 2048) e, V (ix2 ⟨k, h⟩ e) = (vr k e : EReal)

variable {t x0 x1 K V s qr kr vr}

theorem slope_row (H : Reals t x0 x1 K V s qr kr vr) (r : Fin 1024) :
    k0_pay7 (slopes (grid0.coords t) x0) (sread (grid0.coords t) x0) (ix2 r 0) = (s : EReal) := by
  rw [pay7_at, show sread (grid0.coords t) x0 = x0 (ix1 (grid0.coords t 1)) from slope_read t x0 _ _, H.slope]

/-- The scores of the diagonal tile. -/
theorem diag_score (H : Reals t x0 x1 K V s qr kr vr) (r : Fin 1024) (k : Fin 512) :
    k0_pay11 (qw (grid0.coords t)) (k0_pay4 x1) (k0_pay5 (grid0.coords t)) (slopes (grid0.coords t) x0) (sread (grid0.coords t) x0) (ktile (grid0.coords t) K) (ix2 r k)
      = score (qr r) kr s (rowPos t r) (512 * (grid0.coords t 2).val + k.val) := by
  have hq := qi_lt t
  have hk : 512 * (grid0.coords t 2).val + k.val < 2048 := by omega
  have hf := off3_facts t
  rw [pay11_at, slope_row H, pos_read, pos_word, dist_word hk (rowPos_lt t r), bits_bot]
  rw [dot_coe _ _ (qr r) (kr (512 * (grid0.coords t 2).val + k.val)) s _ (H.q r) (fun d => (ld_k K _ _ _ hf.1 hf.2 d k hk).trans (H.k _ _ _))]
  unfold score Scalar.select
  by_cases h : (512 * (grid0.coords t 2).val + k.val) / 64 ≤ rowPos t r / 64
  · rw [if_pos h, if_pos ((chunk_word hk (rowPos_lt t r)).mpr h)]
  · rw [if_neg h, if_neg fun h' => h ((chunk_word hk (rowPos_lt t r)).mp h')]

/-- The scores of an earlier tile. -/
theorem full_score (H : Reals t x0 x1 K V s qr kr vr) (n : Fin (k0_t1_loop (grid0.coords t)).trips) (r : Fin 1024) (k : Fin 512) :
    k0_pay18 (grid0.coords t) (qw (grid0.coords t)) (k0_pay4 x1) (k0_pay5 (grid0.coords t)) (k0_pay7 (slopes (grid0.coords t) x0) (sread (grid0.coords t) x0)) n
        (View.ld K (Rect.unit (s := S128x2048) (k0_off5 (grid0.coords t) n) ![128, 512] (k0_off5_inb (grid0.coords t) n))) (ix2 r k)
      = score (qr r) kr s (rowPos t r) (512 * ((grid0.coords t 2).val - 1 - n.val) + k.val) := by
  have hq := qi_lt t
  have hn : n.val < (grid0.coords t 2).val := lt_of_lt_of_eq n.isLt (trips_eq t)
  have hk : 512 * ((grid0.coords t 2).val - 1 - n.val) + k.val < 2048 := by omega
  have hle : 512 * ((grid0.coords t 2).val - 1 - n.val) + k.val ≤ rowPos t r := by unfold rowPos; omega
  have hf := off5_facts t n
  rw [pay18_at, slope_row H, pos_read, tile_word ⟨_, hq⟩ ⟨n.val, by omega⟩ hn, pos_word, dist_word_le hle (rowPos_lt t r)]
  rw [dot_coe _ _ (qr r) (kr (512 * ((grid0.coords t 2).val - 1 - n.val) + k.val)) s _ (H.q r) (fun d => (ld_k K _ _ _ hf.1 hf.2 d k hk).trans (H.k _ _ _))]
  unfold score
  rw [if_pos (Nat.div_le_div_right hle)]

/-- The weight of a key and its share of the weighted sum. -/
def wsum (qr : Fin 128 → ℝ) (kr : ℕ → Fin 128 → ℝ) (s : ℝ) (q lo hi : ℕ) : ℝ := ∑ k ∈ Finset.Ico lo hi, wt (score qr kr s q k)
def vsum (qr : Fin 128 → ℝ) (kr vr : ℕ → Fin 128 → ℝ) (s : ℝ) (q lo hi : ℕ) (e : Fin 128) : ℝ := ∑ k ∈ Finset.Ico lo hi, wt (score qr kr s q k) * vr k e

/-- The state the diagonal tile leaves. -/
theorem start_St (H : Reals t x0 x1 K V s qr kr vr) (r : Fin 1024) :
    St ((start (grid0.coords t) x0 x1 K V).1 (ix2 r 0)) ((start (grid0.coords t) x0 x1 K V).2.1 (ix2 r 0))
      (fun e : Fin 128 => (start (grid0.coords t) x0 x1 K V).2.2 (ix2 r e))
      (wsum (qr r) kr s (rowPos t r) (512 * (grid0.coords t 2).val) (512 * ((grid0.coords t 2).val + 1)))
      (vsum (qr r) kr vr s (rowPos t r) (512 * (grid0.coords t 2).val) (512 * ((grid0.coords t 2).val + 1))) := by
  have hq := qi_lt t
  have hf := off4_facts t
  obtain ⟨M, hM⟩ := bits_low
  have h := (St.init (E := Fin 128) M).step (fun k : Fin 512 => score (qr r) kr s (rowPos t r) (512 * (grid0.coords t 2).val + k.val))
    (fun k => score_ne_top _ _ _ _ _) (fun k e => vr (512 * (grid0.coords t 2).val + k.val) e)
  have hv : ∀ (k : Fin 512) (e : Fin 128), vtile (grid0.coords t) V (ix2 k e) = (vr (512 * (grid0.coords t 2).val + k.val) e : EReal) :=
    fun k e => (ld_v V _ _ _ hf.1 hf.2 k e (by omega)).trans (H.v _ _ _)
  have hm := pay12_at (qw (grid0.coords t)) (k0_pay4 x1) (k0_pay5 (grid0.coords t)) (slopes (grid0.coords t) x0) (sread (grid0.coords t) x0) (ktile (grid0.coords t) K) r
  have hl := pay16_at (qw (grid0.coords t)) (k0_pay4 x1) (k0_pay5 (grid0.coords t)) (slopes (grid0.coords t) x0) (sread (grid0.coords t) x0) (ktile (grid0.coords t) K) r
  have ha := pay17_at (qw (grid0.coords t)) (k0_pay4 x1) (k0_pay5 (grid0.coords t)) (slopes (grid0.coords t) x0) (sread (grid0.coords t) x0) (ktile (grid0.coords t) K) (vtile (grid0.coords t) V) r
  simp only [diag_score H, hv, bits_bot, hM] at hm hl ha
  rw [hm] at hl ha
  have e1 : wsum (qr r) kr s (rowPos t r) (512 * (grid0.coords t 2).val) (512 * ((grid0.coords t 2).val + 1))
      = 0 + ∑ k : Fin 512, wt (score (qr r) kr s (rowPos t r) (512 * (grid0.coords t 2).val + k.val)) := by
    unfold wsum
    rw [← ico_tile (lo := 512 * (grid0.coords t 2).val) (mid := 512 * ((grid0.coords t 2).val + 1)) (hi := 512 * ((grid0.coords t 2).val + 1)) (n := 512) (by omega) le_rfl]
    simp
  have e2 : vsum (qr r) kr vr s (rowPos t r) (512 * (grid0.coords t 2).val) (512 * ((grid0.coords t 2).val + 1))
      = fun e => 0 + ∑ k : Fin 512, wt (score (qr r) kr s (rowPos t r) (512 * (grid0.coords t 2).val + k.val)) * vr (512 * (grid0.coords t 2).val + k.val) e := by
    funext e
    unfold vsum
    rw [← ico_tile (lo := 512 * (grid0.coords t 2).val) (mid := 512 * ((grid0.coords t 2).val + 1)) (hi := 512 * ((grid0.coords t 2).val + 1)) (n := 512) (by omega) le_rfl]
    simp
  rw [e1, e2]
  show St (k0_pay12 (F := Ideal) _ _ _ _ _ _ (ix2 r 0)) (k0_pay16 (F := Ideal) _ _ _ _ (ix2 r 0)) (fun e => k0_pay17 (F := Ideal) _ _ _ _ _ (ix2 r e)) _ _
  rw [hm, hl, funext ha]
  exact h

/-- The state after `n` earlier tiles. -/
theorem state_St (H : Reals t x0 x1 K V s qr kr vr) (r : Fin 1024) (n : ℕ) (hn : n ≤ (grid0.coords t 2).val) :
    let st := state (grid0.coords t) (qw (grid0.coords t)) (k0_pay4 x1) (k0_pay5 (grid0.coords t))
      (k0_pay7 (slopes (grid0.coords t) x0) (sread (grid0.coords t) x0)) K V (start (grid0.coords t) x0 x1 K V) n
    St (st.1 (ix2 r 0)) (st.2.1 (ix2 r 0)) (fun e : Fin 128 => st.2.2 (ix2 r e))
      (wsum (qr r) kr s (rowPos t r) (512 * ((grid0.coords t 2).val - n)) (512 * ((grid0.coords t 2).val + 1)))
      (vsum (qr r) kr vr s (rowPos t r) (512 * ((grid0.coords t 2).val - n)) (512 * ((grid0.coords t 2).val + 1))) := by
  induction n with
  | zero => exact start_St H r
  | succ n ih =>
    have hq := qi_lt t
    have ht : n < (k0_t1_loop (grid0.coords t)).trips := by rw [trips_eq]; omega
    have hf := off6_facts t ⟨n, ht⟩
    intro st
    obtain ⟨st', hst'⟩ : ∃ st', st' = state (grid0.coords t) (qw (grid0.coords t)) (k0_pay4 x1) (k0_pay5 (grid0.coords t))
      (k0_pay7 (slopes (grid0.coords t) x0) (sread (grid0.coords t) x0)) K V (start (grid0.coords t) x0 x1 K V) n := ⟨_, rfl⟩
    have ih := ih (by omega)
    have hst : st = trip (grid0.coords t) (qw (grid0.coords t)) (k0_pay4 x1) (k0_pay5 (grid0.coords t))
      (k0_pay7 (slopes (grid0.coords t) x0) (sread (grid0.coords t) x0)) K V ⟨n, ht⟩ st' := by
      rw [hst']
      exact dif_pos ht
    rw [← hst'] at ih
    clear_value st
    subst hst
    clear hst'
    have h := ih.step (fun k : Fin 512 => score (qr r) kr s (rowPos t r) (512 * ((grid0.coords t 2).val - 1 - n) + k.val))
      (fun k => score_ne_top _ _ _ _ _) (fun k e => vr (512 * ((grid0.coords t 2).val - 1 - n) + k.val) e)
    have hv : ∀ (k : Fin 512) (e : Fin 128), View.ld V (Rect.unit (s := S2048x128) (k0_off6 (grid0.coords t) ⟨n, ht⟩) ![512, 128] (k0_off6_inb (grid0.coords t) ⟨n, ht⟩)) (ix2 k e)
        = (vr (512 * ((grid0.coords t 2).val - 1 - n) + k.val) e : EReal) :=
      fun k e => (ld_v V _ _ _ hf.1 hf.2 k e (by show 512 * ((grid0.coords t 2).val - 1 - n) + k.val < 2048; omega)).trans (H.v _ _ _)
    have hm := pay19_at (grid0.coords t) (qw (grid0.coords t)) (k0_pay4 x1) (k0_pay5 (grid0.coords t)) (k0_pay7 (slopes (grid0.coords t) x0) (sread (grid0.coords t) x0))
      (View.ld K (Rect.unit (s := S128x2048) (k0_off5 (grid0.coords t) ⟨n, ht⟩) ![128, 512] (k0_off5_inb (grid0.coords t) ⟨n, ht⟩))) ⟨n, ht⟩ st'.1 r
    have hl := pay22_at (grid0.coords t) (qw (grid0.coords t)) (k0_pay4 x1) (k0_pay5 (grid0.coords t)) (k0_pay7 (slopes (grid0.coords t) x0) (sread (grid0.coords t) x0))
      (View.ld K (Rect.unit (s := S128x2048) (k0_off5 (grid0.coords t) ⟨n, ht⟩) ![128, 512] (k0_off5_inb (grid0.coords t) ⟨n, ht⟩))) ⟨n, ht⟩ st'.1 st'.2.1 r
    have ha := pay23_at (grid0.coords t) (qw (grid0.coords t)) (k0_pay4 x1) (k0_pay5 (grid0.coords t)) (k0_pay7 (slopes (grid0.coords t) x0) (sread (grid0.coords t) x0))
      (View.ld K (Rect.unit (s := S128x2048) (k0_off5 (grid0.coords t) ⟨n, ht⟩) ![128, 512] (k0_off5_inb (grid0.coords t) ⟨n, ht⟩)))
      (View.ld V (Rect.unit (s := S2048x128) (k0_off6 (grid0.coords t) ⟨n, ht⟩) ![512, 128] (k0_off6_inb (grid0.coords t) ⟨n, ht⟩))) ⟨n, ht⟩ st'.1 st'.2.2 r
    simp only [full_score H, hv, bits_bot] at hm hl ha
    rw [hm] at hl ha
    have hd : 512 * ((grid0.coords t 2).val - n) = 512 * ((grid0.coords t 2).val - (n + 1)) + 512 := by omega
    have hs' : (grid0.coords t 2).val - 1 - n = (grid0.coords t 2).val - (n + 1) := by omega
    have e1 : wsum (qr r) kr s (rowPos t r) (512 * ((grid0.coords t 2).val - (n + 1))) (512 * ((grid0.coords t 2).val + 1))
        = wsum (qr r) kr s (rowPos t r) (512 * ((grid0.coords t 2).val - n)) (512 * ((grid0.coords t 2).val + 1))
          + ∑ k : Fin 512, wt (score (qr r) kr s (rowPos t r) (512 * ((grid0.coords t 2).val - 1 - n) + k.val)) := by
      unfold wsum
      rw [hs', ico_tile hd (by omega)]
    have e2 : vsum (qr r) kr vr s (rowPos t r) (512 * ((grid0.coords t 2).val - (n + 1))) (512 * ((grid0.coords t 2).val + 1))
        = fun e => vsum (qr r) kr vr s (rowPos t r) (512 * ((grid0.coords t 2).val - n)) (512 * ((grid0.coords t 2).val + 1)) e
          + ∑ k : Fin 512, wt (score (qr r) kr s (rowPos t r) (512 * ((grid0.coords t 2).val - 1 - n) + k.val)) * vr (512 * ((grid0.coords t 2).val - 1 - n) + k.val) e := by
      funext e
      unfold vsum
      rw [hs', ico_tile hd (by omega)]
    rw [e1, e2]
    show St (k0_pay19 (F := Ideal) _ _ _ _ _ _ _ _ (ix2 r 0)) (k0_pay22 (F := Ideal) _ _ _ _ _ _ _ _ _ (ix2 r 0)) (fun e => k0_pay23 (F := Ideal) _ _ _ _ _ _ _ _ _ _ (ix2 r e)) _ _
    rw [hm, hl, funext ha]
    exact h

/-- A row's attention: the weighted mean of the values over all the keys. -/
def attn (qr : Fin 128 → ℝ) (kr vr : ℕ → Fin 128 → ℝ) (s : ℝ) (q : ℕ) (e : Fin 128) : ℝ :=
  (∑ k : Fin 2048, wt (score qr kr s q k) * vr k e) / ∑ k : Fin 2048, wt (score qr kr s q k)

/-- What the point divides for a row is the row's attention. -/
theorem row_attn (H : Reals t x0 x1 K V s qr kr vr) (r : Fin 1024) (e : Fin 128) :
    Ideal.div ((final (grid0.coords t) x0 x1 K V).2.2 (ix2 r e)) ((final (grid0.coords t) x0 x1 K V).2.1 (ix2 r 0))
      = (attn (qr r) kr vr s (rowPos t r) e : EReal) := by
  have hq := qi_lt t
  have h := state_St H r (k0_t1_loop (grid0.coords t)).trips (trips_eq t).le
  have hz : ∀ k : ℕ, 512 * ((grid0.coords t 2).val + 1) ≤ k → wt (score (qr r) kr s (rowPos t r) k) = 0 := fun k hk => by
    have : ¬ k / 64 ≤ rowPos t r / 64 := by
      have h1 : rowPos t r < 512 * ((grid0.coords t 2).val + 1) := by unfold rowPos; omega
      omega
    unfold score
    rw [if_neg this, wt_bot]
  have e1 : wsum (qr r) kr s (rowPos t r) (512 * ((grid0.coords t 2).val - (k0_t1_loop (grid0.coords t)).trips)) (512 * ((grid0.coords t 2).val + 1))
      = ∑ k : Fin 2048, wt (score (qr r) kr s (rowPos t r) k) := by
    rw [trips_eq, Nat.sub_self, Nat.mul_zero]
    exact ico_all (by omega) _ fun k hk _ => hz k hk
  have e2 : ∀ e, vsum (qr r) kr vr s (rowPos t r) (512 * ((grid0.coords t 2).val - (k0_t1_loop (grid0.coords t)).trips)) (512 * ((grid0.coords t 2).val + 1)) e
      = ∑ k : Fin 2048, wt (score (qr r) kr s (rowPos t r) k) * vr k e := fun e => by
    rw [trips_eq, Nat.sub_self, Nat.mul_zero]
    exact ico_all (by omega) _ fun k hk _ => by rw [hz k hk, zero_mul]
  have hL : 0 < ∑ k : Fin 2048, wt (score (qr r) kr s (rowPos t r) k) := by
    refine Finset.sum_pos' (fun k _ => wt_nonneg _) ⟨⟨rowPos t r, rowPos_lt t r⟩, Finset.mem_univ _, ?_⟩
    unfold score
    rw [if_pos le_rfl]
    exact wt_pos _
  have := h.quot (by rw [e1]; exact hL.ne') e
  rw [e1, e2] at this
  exact this

end Cert.Attn

end
-- ==== Proof.PayTail.lean ====
/-
  The attention kernel's vector expressions read at one index: what a point stores.
-/
module

public import proofs.«01_k».proof.Proof.Read

@[expose] public section

set_option maxRecDepth 16384

noncomputable section

namespace Cert.Attn

open Idealize.ShloMosaic Idealize.ShloMosaic.TcCoe
open Cert.KernelIdeal Cert.KernelIdeal.Gen Cert.KernelIdeal.Value

variable (i : grid0.Coords) (a2 : BitVec 32) (Q : FVec Ideal S1024x128 .bf16) (P : IVec S1024x1 32) (s1 : FVec Ideal S512x1 .f32) (s2 : Elt Ideal .f32) (sl : FVec Ideal S1024x1 .f32)
variable (K : Vec Ideal S128x512 .bf16) (V : Vec Ideal S512x128 .bf16) (n : Fin (k0_t1_loop i).trips) (m l : FVec Ideal S1024x1 .f32) (a : FVec Ideal S1024x128 .f32)
variable (r : Fin 1024) (k : Fin 512) (e : Fin 128)

/-- The difference of the two maps' outputs. -/
theorem pay30_at (x : Vec Ideal S4x64 .f32) (p : Fin 512) : k0_pay30 (F := Ideal) l a x (ix2 p e)
    = Ideal.div (a (ix2 ⟨p.val, by omega⟩ e)) (l (ix2 ⟨p.val, by omega⟩ 0)) -
      (Ideal.exp (∑ d : Fin 64, x (ix2 0 d) * x (ix2 1 d)) - Ideal.exp (∑ d : Fin 64, x (ix2 2 d) * x (ix2 3 d)) + Ideal.ofBits FTy.f32 0x3E4CCCCD#32) *
        Ideal.div (a (ix2 ⟨512 + p.val, by omega⟩ e)) (l (ix2 ⟨512 + p.val, by omega⟩ 0)) := by
  pointwise [k0_pay30]

/-- What the point stores: the difference, normalised over its lanes and scaled. -/
theorem tail_at (x4 : Vec Ideal S4x64 .f32) (x5 : Vec Ideal S1x128 .f32) (p : Fin 512) : tail l a x4 x5 (ix3 0 p e)
    = k0_pay30 (F := Ideal) l a x4 (ix2 p e)
        * Ideal.rsqrt (Ideal.div (∑ d : Fin 128, k0_pay30 (F := Ideal) l a x4 (ix2 p d) * k0_pay30 (F := Ideal) l a x4 (ix2 p d)) (Ideal.ofBits FTy.f32 0x43000000#32)
            + Ideal.ofBits FTy.f32 0x358637BD#32) * x5 (ix2 0 e) * Ideal.ofBits FTy.f32 0x3F4CCCCD#32 := by
  pointwise [tail, k0_pay1]

end Cert.Attn

end
-- ==== Proof.RefScore.lean ====
/-
  The reference's scores read at one index, in real numbers.
-/
module

public import proofs.«01_k».proof.Proof.Ref

@[expose] public section

set_option maxRecDepth 16384

noncomputable section

namespace Cert.Ref

open Idealize.ShloMosaic Idealize.ShloMosaic.TcCoe
open Cert.ReferenceIdeal Cert.ReferenceIdeal.Gen Cert.Flash

variable (b : Fin 8) (g : Fin 4) (h : Fin 2) (q k : Fin 2048) (e : Fin 128)

/-- The sign of a word. -/
def sgn (w : BitVec 32) : BitVec 32 := if w = 0 then 0 else if w.msb = true then -1 else 1

/-- The quotient by `d` rounded down, as the host spells it out of a quotient rounded to zero. -/
def chunk (d w : BitVec 32) : BitVec 32 :=
  Scalar.select (α := BitVec 32) (IntOp.andi (IntOp.cmpi CmpIPredicate.ne (sgn w) (sgn d)) (IntOp.cmpi CmpIPredicate.ne (IntOp.remsi ArithUnit.host w d) 0#32))
    (IntOp.subi (IntOp.divsi ArithUnit.host w d) 1#32) (IntOp.divsi ArithUnit.host w d)

theorem chunk_eq : ∀ n : Fin 2048, chunk 64#32 (BitVec.ofNat 32 n.val) = BitVec.ofNat 32 (n.val / 64) := by
  unfold chunk sgn Scalar.select
  decide +kernel

/-- The mask: a query sees the keys of its own chunk and of earlier ones. -/
theorem mask_at : mask (ix2 q k) = 1#1 ↔ k.val / 64 ≤ q.val / 64 := by
  have e1 : mask (ix2 q k) = IntOp.cmpi CmpIPredicate.sle (chunk 64#32 (BitVec.ofNat 32 k.val)) (chunk 64#32 (BitVec.ofNat 32 q.val)) := by
    pointwise [mask]
    generalize hd : (id (constantI S_ 32 64#32) ix0 : BitVec 32) = d
    have hd' : d = 64#32 := hd.symm
    subst hd'
    unfold chunk sgn
    rfl
  rw [e1, chunk_eq, chunk_eq, IntOp.cmpi_sle, Cert.Attn.toInt_small (by omega), Cert.Attn.toInt_small (by omega)]
  omega

/-- The distances. -/
theorem dists_at : dists (ix2 q k) = ((Cert.Attn.dist q.val k.val : ℝ) : EReal) := by
  have e1 : dists (ix2 q k) = FloatOps.sitofp (F := Ideal) FTy.f32 (IntOp.absi (IntOp.subi (BitVec.ofNat 32 q.val) (BitVec.ofNat 32 k.val))) := by
    pointwise [dists]
  rw [e1]
  exact Cert.Attn.dist_word k.isLt q.isLt

/-- The slopes are real numbers. -/
theorem slopes_real : ∃ s : Fin 4 → ℝ, ∀ g, slopes0 (ix1 g) = (s g : EReal) := by
  refine ⟨fun g => Real.rpow 2 (-8 * (1 + ((BitVec.ofNat 32 g.val).toInt : ℝ)) / 4), fun g => ?_⟩
  have e1 : slopes0 (ix1 g) = Ideal.pow (Ideal.ofBits FTy.f32 1073741824#32)
      (Ideal.div (Ideal.ofBits FTy.f32 3238002688#32 * (1 + FloatOps.sitofp (F := Ideal) FTy.f32 (BitVec.ofNat 32 g.val)))
        (Ideal.ofBits FTy.f32 1082130432#32)) := by
    pointwise [slopes0]
  have h2 : Ideal.ofBits FTy.f32 1073741824#32 = ((2 : ℝ) : EReal) := by
    simp [Ideal.ofBits, Ideal.ieee, -EReal.coe_mul]; norm_num
  have h4 : Ideal.ofBits FTy.f32 1082130432#32 = ((4 : ℝ) : EReal) := by
    simp [Ideal.ofBits, Ideal.ieee, -EReal.coe_mul]; norm_num
  have h8 : Ideal.ofBits FTy.f32 3238002688#32 = ((-8 : ℝ) : EReal) := by
    simp [Ideal.ofBits, Ideal.ieee, -EReal.coe_mul]; norm_num
  have hs : FloatOps.sitofp (F := Ideal) FTy.f32 (BitVec.ofNat 32 g.val) = (((BitVec.ofNat 32 g.val).toInt : ℝ) : EReal) := rfl
  rw [e1, h2, h4, h8, hs, ← EReal.coe_one, ← EReal.coe_add, ← EReal.coe_mul, div_real (by norm_num), Ideal.pow_coe_coe]

/-- A score of the reference: `⊥` where the key's chunk comes later. -/
def sc (qr : Fin 64 → ℝ) (kr : ℕ → Fin 64 → ℝ) (s : ℝ) (q k : ℕ) : EReal :=
  if k / 64 ≤ q / 64 then (((∑ d, qr d * kr k d) * (1 / 8) - s * Cert.Attn.dist q k : ℝ) : EReal) else ⊥

theorem sc_ne_top (qr : Fin 64 → ℝ) (kr : ℕ → Fin 64 → ℝ) (s : ℝ) (q k : ℕ) : sc qr kr s q k ≠ ⊤ := by
  unfold sc
  split
  · exact EReal.coe_ne_top _
  · exact bot_ne_top

/-- The scores at an index. -/
theorem scores_at (a0 : FVec Ideal S8x2048x4x2x64 .f32) (a1 : FVec Ideal S2x8x2048x4x2x64 .f32) :
    scores a0 a1 (ix5 b g h q k) = Scalar.select (mask (ix2 q k))
      ((∑ d : Fin 64, a0 (ix5 b q g h d) * a1 (ix6 0 b k g h d)) * Ideal.ofBits FTy.f32 0x3E000000#32 - slopes0 (ix1 g) * dists (ix2 q k))
      (Ideal.ofBits FTy.f32 0xFF800000#32) := by
  pointwise [scores]
  rfl

/-- The scores of real queries and keys. -/
theorem scores_real (a0 : FVec Ideal S8x2048x4x2x64 .f32) (a1 : FVec Ideal S2x8x2048x4x2x64 .f32) (qr : Fin 64 → ℝ) (kr : ℕ → Fin 64 → ℝ) (s : ℝ)
    (hq : ∀ d, a0 (ix5 b q g h d) = (qr d : EReal)) (hk : ∀ k : Fin 2048, ∀ d, a1 (ix6 0 b k g h d) = (kr k.val d : EReal))
    (hs : slopes0 (ix1 g) = (s : EReal)) : scores a0 a1 (ix5 b g h q k) = sc qr kr s q.val k.val := by
  rw [scores_at, dists_at, hs, Cert.Attn.bits_bot, Cert.Attn.bits_eighth]
  unfold sc
  have e : ∑ d : Fin 64, a0 (ix5 b q g h d) * a1 (ix6 0 b k g h d) = ((∑ d, qr d * kr k.val d : ℝ) : EReal) := by
    rw [coe_sum]
    exact Finset.sum_congr rfl fun d _ => by rw [hq, hk, EReal.coe_mul]
  rw [e, ← EReal.coe_mul, ← EReal.coe_mul, ← EReal.coe_sub]
  by_cases hm : k.val / 64 ≤ q.val / 64
  · rw [if_pos hm, (mask_at q k).2 hm]; rfl
  · rw [if_neg hm]
    have : mask (ix2 q k) ≠ 1#1 := fun h => hm ((mask_at q k).1 h)
    unfold Scalar.select
    exact if_neg this

end Cert.Ref

end
-- ==== Proof.RefSoft.lean ====
/-
  The reference's softmax read at one index.
-/
module

public import proofs.«01_k».proof.Proof.Ref

@[expose] public section

set_option maxRecDepth 16384

noncomputable section

namespace Cert.Ref

open Idealize.ShloMosaic Idealize.ShloMosaic.TcCoe
open Cert.ReferenceIdeal Cert.ReferenceIdeal.Gen Cert.Flash

variable (b : Fin 8) (g : Fin 4) (h : Fin 2) (q k : Fin 2048) (e : Fin 128)

/-- A maximum over the last axis of an array of five axes. -/
theorem fold_last {n0 n1 n2 n3 n4 : ℕ} (x : (⟨5, ![n0, n1, n2, n3, n4]⟩ : Shape).Idx → EReal) (init : S_.Idx → EReal)
    (h' : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce (FloatOps.maximumf (F := Ideal) (φ := .f32)) x init h' hu (ix4 a b c d) = (Finset.univ : Finset (Fin n4)).fold max (init (Shape.Idx.first hu)) fun k => x (ix5 a b c d k) := by
  have hr : (⟨5, ![n0, n1, n2, n3, n4]⟩ : Shape).Reduces [4] ⟨4, ![n0, n1, n2, n3]⟩ := ⟨h'.1, Nat.succ_pos 3, h'.2⟩
  rw [Host.reduce_eq_fold_single _ _ _ _ hr]
  show (Finset.univ : Finset (Fin n4)).fold max (init (Shape.Idx.first hu)) _ = _
  refine congrArg (fun f => (Finset.univ : Finset (Fin n4)).fold max (init (Shape.Idx.first hu)) f) ?_
  funext k
  refine congrArg x ?_
  funext ax
  fin_cases ax <;> rfl

theorem max_at {S : Shape} (x y : FVec Ideal S .f32) (i : S.Idx) : (maximumf x y i : EReal) = max (x i : EReal) (y i : EReal) := rfl

theorem first_bot : (constant (F := Ideal) S_ .f32 0xFF800000#32 (Shape.Idx.first h_S_) : EReal) = ⊥ := Cert.Attn.bits_bot

/-- The largest score of a row. -/
theorem rowmax_at (T : FVec Ideal S8x4x2x2048x2048 .f32) : rowmax T (ix4 b g h q) = max ⊥ ((Finset.univ : Finset (Fin 2048)).fold max ⊥ fun x => T (ix5 b g h q x)) := by
  have e1 := fold_last T (constant (F := Ideal) S_ .f32 0xFF800000#32) reducesTo_S8x4x2x2048x2048_S8x4x2x2048_d4 h_S_ b g h q
  rw [first_bot] at e1
  unfold rowmax
  rw [max_at, ValueIdx.broadcastInDim_scalar_apply, e1]
  exact congrArg (max · _) Cert.Attn.bits_bot

/-- An exponential. -/
theorem expos_at (T : FVec Ideal S8x4x2x2048x2048 .f32) : expos T (ix5 b g h q k) = Ideal.exp (T (ix5 b g h q k) - rowmax T (ix4 b g h q)) := by
  pointwise [expos]

/-- A softmax weight. -/
theorem probs_at (T : FVec Ideal S8x4x2x2048x2048 .f32) : probs T (ix5 b g h q k)
    = Ideal.div (expos T (ix5 b g h q k)) (∑ x : Fin 2048, expos T (ix5 b g h q x)) := by
  pointwise [probs]

/-- A softmax weight in real numbers. -/
theorem probs_real (T : FVec Ideal S8x4x2x2048x2048 .f32) (t : Fin 2048 → EReal) (ht : ∀ x, T (ix5 b g h q x) = t x) (hT : ∀ x, t x ≠ ⊤) (k₀ : Fin 2048) (hb : t k₀ ≠ ⊥) :
    probs T (ix5 b g h q k) = ((ex (t k) / ∑ x, ex (t x) : ℝ) : EReal) := by
  have e : ∀ x, expos T (ix5 b g h q x) = Ideal.exp (t x - max ⊥ ((Finset.univ : Finset (Fin 2048)).fold max ⊥ t)) := fun x => by
    rw [expos_at, rowmax_at, ht, show (fun x => T (ix5 b g h q x)) = t from funext ht]
  rw [probs_at, e]
  simp only [e]
  exact softmax_real t hT k₀ hb k

/-- The weight of the second map. -/
theorem lam_at (a3 : FVec Ideal S4x64 .f32) : lam a3 ix0 = Ideal.exp (∑ d : Fin 64, a3 (ix2 0 d) * a3 (ix2 1 d)) - Ideal.exp (∑ d : Fin 64, a3 (ix2 2 d) * a3 (ix2 3 d))
    + Ideal.ofBits FTy.f32 0x3E4CCCCD#32 := by
  pointwise [lam]

end Cert.Ref

end
-- ==== Proof.RefOut.lean ====
/-
  The reference's outputs and their norm read at one index.
-/
module

public import proofs.«01_k».proof.Proof.Ref

@[expose] public section

set_option maxRecDepth 16384

noncomputable section

namespace Cert.Ref

open Idealize.ShloMosaic Idealize.ShloMosaic.TcCoe
open Cert.ReferenceIdeal Cert.ReferenceIdeal.Gen Cert.Flash

variable (b : Fin 8) (g : Fin 4) (h : Fin 2) (q k : Fin 2048) (e : Fin 128)

/-- The difference of the maps against the values. -/
theorem outs_at (P : FVec Ideal S8x4x2x2048x2048 .f32) (L : FVec Ideal S_ .f32) (a2 : FVec Ideal S2x8x2048x4x128 .f32) : outs P L a2 (ix4 b q g e)
    = ∑ k : Fin 2048, a2 (ix5 0 b k g e) * (P (ix5 b g 0 q k) - L ix0 * P (ix5 b g 1 q k)) := by
  pointwise [outs]

/-- The norm and the scale. -/
theorem norm_at (O : FVec Ideal S8x2048x4x128 .f32) (a4 : FVec Ideal S128 .f32) (j : Fin 512) : norm O a4 (ix3 b q j)
    = O (ix4 b q ⟨j.val / 128, by omega⟩ ⟨j.val % 128, by omega⟩)
        * Ideal.rsqrt (Ideal.div (∑ d : Fin 128, O (ix4 b q ⟨j.val / 128, by omega⟩ d) * O (ix4 b q ⟨j.val / 128, by omega⟩ d)) (Ideal.ofBits FTy.f32 0x43000000#32)
            + Ideal.ofBits FTy.f32 0x358637BD#32) * a4 (ix1 ⟨j.val % 128, by omega⟩) * Ideal.ofBits FTy.f32 0x3F4CCCCD#32 := by
  pointwise [norm]

end Cert.Ref

end
-- ==== Proof.Equal.lean ====
/-
  What a point of the attention kernel stores is the reference's result at the point's place.
-/
module

public import proofs.«01_k».proof.Proof.Blocks
public import proofs.«01_k».proof.Proof.Point
public import proofs.«01_k».proof.Proof.PayTail
public import proofs.«01_k».proof.Proof.RefScore
public import proofs.«01_k».proof.Proof.RefSoft
public import proofs.«01_k».proof.Proof.RefOut

@[expose] public section

set_option maxRecDepth 16384

noncomputable section

namespace Cert.Attn

open Idealize.ShloMosaic Idealize.ShloMosaic.TcCoe
open Cert.KernelIdeal Cert.KernelIdeal.Gen Cert.KernelIdeal.Value Cert.Flash

/-! ## The two spellings of a row -/

/-- A sum over the lanes that vanishes on the upper half. -/
theorem sum_low (f : Fin 128 → ℝ) (h : ∀ d : Fin 128, 64 ≤ d.val → f d = 0) : ∑ d, f d = ∑ d : Fin 64, f ⟨d.val, by omega⟩ := by
  rw [show (∑ d, f d) = ∑ d : Fin (64 + 64), f d from rfl, Fin.sum_univ_add]
  rw [Finset.sum_eq_zero (s := Finset.univ) (f := fun i : Fin 64 => f (Fin.natAdd 64 i)) fun d _ => h _ (by show 64 ≤ 64 + d.val; omega), add_zero]
  rfl

/-- A sum over the lanes that vanishes on the lower half. -/
theorem sum_high (f : Fin 128 → ℝ) (h : ∀ d : Fin 128, d.val < 64 → f d = 0) : ∑ d, f d = ∑ d : Fin 64, f ⟨64 + d.val, by omega⟩ := by
  rw [show (∑ d, f d) = ∑ d : Fin (64 + 64), f d from rfl, Fin.sum_univ_add]
  rw [Finset.sum_eq_zero (s := Finset.univ) (f := fun i : Fin 64 => f (Fin.castAdd 64 i)) fun d _ => h _ (by show d.val < 64; omega), zero_add]
  rfl

/-- The weight of a key by the kernel's score is its weight by the reference's. -/
theorem wt_sc (qr : Fin 128 → ℝ) (kr : ℕ → Fin 128 → ℝ) (q6 : Fin 64 → ℝ) (k6 : ℕ → Fin 64 → ℝ) (s : ℝ) (q k : ℕ)
    (h : ∑ d, qr d * kr k d = qscale * ∑ d, q6 d * k6 k d) : wt (score qr kr (s * log2e) q k) = ex (Cert.Ref.sc q6 k6 s q k) := by
  rw [← wt_scaled (Cert.Ref.sc_ne_top q6 k6 s q k)]
  congr 1
  unfold score Cert.Ref.sc
  split
  · rw [← EReal.coe_mul, h]
    congr 1
    unfold qscale log2e
    ring
  · rw [EReal.coe_mul_bot_of_pos]
    exact inv_pos.mpr (Real.log_pos (by norm_num))

/-- A row's attention by natural exponentials. -/
def rattn (q6 : Fin 64 → ℝ) (k6 : ℕ → Fin 64 → ℝ) (vr : ℕ → Fin 128 → ℝ) (s : ℝ) (q : ℕ) (e : Fin 128) : ℝ :=
  (∑ k : Fin 2048, ex (Cert.Ref.sc q6 k6 s q k) * vr k e) / ∑ k : Fin 2048, ex (Cert.Ref.sc q6 k6 s q k)

theorem attn_eq (qr : Fin 128 → ℝ) (kr vr : ℕ → Fin 128 → ℝ) (q6 : Fin 64 → ℝ) (k6 : ℕ → Fin 64 → ℝ) (s : ℝ) (q : ℕ) (e : Fin 128)
    (h : ∀ k : Fin 2048, ∑ d, qr d * kr k.val d = qscale * ∑ d, q6 d * k6 k.val d) : attn qr kr vr (s * log2e) q e = rattn q6 k6 vr s q e := by
  unfold attn rattn
  simp only [fun k : Fin 2048 => wt_sc qr kr q6 k6 s q k.val (h k)]

/-! ## Real arguments -/

/-- The queries, the first layer's keys and values and the four vectors of the weight are real numbers. -/
structure Finite (a0 : FVec Ideal S8x2048x4x2x64 .f32) (a1 : FVec Ideal S2x8x2048x4x2x64 .f32) (a2 : FVec Ideal S2x8x2048x4x128 .f32)
    (a3 : FVec Ideal S4x64 .f32) : Prop where
  q : ∀ b p g h d, a0 (ix5 b p g h d) = ((a0 (ix5 b p g h d)).toReal : EReal)
  k : ∀ b p g h d, a1 (ix6 0 b p g h d) = ((a1 (ix6 0 b p g h d)).toReal : EReal)
  v : ∀ b p g e, a2 (ix5 0 b p g e) = ((a2 (ix5 0 b p g e)).toReal : EReal)
  l : ∀ a d, a3 (ix2 a d) = ((a3 (ix2 a d)).toReal : EReal)

variable (a0 : FVec Ideal S8x2048x4x2x64 .f32) (a1 : FVec Ideal S2x8x2048x4x2x64 .f32) (a2 : FVec Ideal S2x8x2048x4x128 .f32)
  (a3 : FVec Ideal S4x64 .f32) (a4 : FVec Ideal S128 .f32)

/-- A query vector in real numbers. -/
def q6 (b : Fin 8) (p : Fin 2048) (g : Fin 4) (h : Fin 2) (d : Fin 64) : ℝ := (a0 (ix5 b p g h d)).toReal
/-- The key vectors in real numbers. -/
def k6 (b : Fin 8) (g : Fin 4) (h : Fin 2) (k : ℕ) (d : Fin 64) : ℝ := if hk : k < 2048 then (a1 (ix6 0 b ⟨k, hk⟩ g h d)).toReal else 0
/-- The value vectors in real numbers. -/
def v6 (b : Fin 8) (g : Fin 4) (k : ℕ) (e : Fin 128) : ℝ := if hk : k < 2048 then (a2 (ix5 0 b ⟨k, hk⟩ g e)).toReal else 0

/-- The second map's weight is a real number. -/
theorem lam_real (hl : ∀ a d, a3 (ix2 a d) = ((a3 (ix2 a d)).toReal : EReal)) : ∃ L : ℝ,
    Ideal.exp (∑ d : Fin 64, a3 (ix2 0 d) * a3 (ix2 1 d)) - Ideal.exp (∑ d : Fin 64, a3 (ix2 2 d) * a3 (ix2 3 d)) + Ideal.ofBits FTy.f32 0x3E4CCCCD#32 = (L : EReal) := by
  obtain ⟨M, hM⟩ := bits_lambda
  have e : ∀ a b : Fin 4, ∃ x : ℝ, ∑ d : Fin 64, a3 (ix2 a d) * a3 (ix2 b d) = (x : EReal) := fun a b =>
    ⟨∑ d : Fin 64, (a3 (ix2 a d)).toReal * (a3 (ix2 b d)).toReal, by
      rw [coe_sum]
      exact Finset.sum_congr rfl fun d _ => by rw [EReal.coe_mul, ← hl, ← hl]⟩
  obtain ⟨x, hx⟩ := e 0 1
  obtain ⟨y, hy⟩ := e 2 3
  exact ⟨Real.exp x - Real.exp y + M, by rw [hx, hy, hM, Ideal.exp_coe, Ideal.exp_coe, EReal.coe_add, EReal.coe_sub]⟩

/-- The reference's difference, in real numbers. -/
theorem outs_real (F : Finite a0 a1 a2 a3) (s : Fin 4 → ℝ) (hs : ∀ g, Cert.Ref.slopes0 (ix1 g) = (s g : EReal)) (L : ℝ) (hL : Cert.Ref.lam a3 ix0 = (L : EReal))
    (b : Fin 8) (p : Fin 2048) (g : Fin 4) (e : Fin 128) :
    Cert.Ref.outs (Cert.Ref.probs (Cert.Ref.scores a0 a1)) (Cert.Ref.lam a3) a2 (ix4 b p g e)
      = ((rattn (q6 a0 b p g 0) (k6 a1 b g 0) (v6 a2 b g) (s g) p.val e - L * rattn (q6 a0 b p g 1) (k6 a1 b g 1) (v6 a2 b g) (s g) p.val e : ℝ) : EReal) := by
  have hk : ∀ h (k : Fin 2048) d, a1 (ix6 0 b k g h d) = (k6 a1 b g h k.val d : EReal) := fun h k d => by
    unfold k6
    rw [dif_pos k.isLt]
    exact F.k b k g h d
  have hv : ∀ k : Fin 2048, a2 (ix5 0 b k g e) = (v6 a2 b g k.val e : EReal) := fun k => by
    unfold v6
    rw [dif_pos k.isLt]
    exact F.v b k g e
  have hp : ∀ h (k : Fin 2048), Cert.Ref.probs (Cert.Ref.scores a0 a1) (ix5 b g h p k)
      = ((ex (Cert.Ref.sc (q6 a0 b p g h) (k6 a1 b g h) (s g) p.val k.val) / ∑ x : Fin 2048, ex (Cert.Ref.sc (q6 a0 b p g h) (k6 a1 b g h) (s g) p.val x.val) : ℝ) : EReal) := fun h k =>
    Cert.Ref.probs_real b g h p k _ (fun x => Cert.Ref.sc (q6 a0 b p g h) (k6 a1 b g h) (s g) p.val x.val)
      (fun x => Cert.Ref.scores_real b g h p x a0 a1 _ _ _ (fun d => F.q b p g h d) (hk h) (hs g))
      (fun x => Cert.Ref.sc_ne_top _ _ _ _ _) p (by unfold Cert.Ref.sc; rw [if_pos le_rfl]; exact EReal.coe_ne_bot _)
  rw [Cert.Ref.outs_at]
  simp only [hp, hv, hL, ← EReal.coe_mul, ← EReal.coe_sub, ← coe_sum]
  congr 1
  unfold rattn
  rw [div_eq_mul_inv, div_eq_mul_inv, Finset.sum_mul, Finset.sum_mul, Finset.mul_sum, ← Finset.sum_sub_distrib]
  exact Finset.sum_congr rfl fun k _ => by ring

/-! ## The point -/

variable (m : (ℓ : Loc nD τ sig) → Buf (Elt Ideal) ℓ) (c : Dev nD) (t : Fin grid0.N)

/-- The query rows of a point in real numbers: a half-vector in its own lanes, scaled. -/
def qrow (b : Fin 8) (g : Fin 4) (p : Fin 512 → Fin 2048) (r : Fin 1024) (d : Fin 128) : ℝ :=
  if r.val < 512 then (if d.val < 64 then (a0 (ix5 b (p ⟨r.val % 512, Nat.mod_lt _ (by norm_num)⟩) g ⟨d.val / 64, by omega⟩ ⟨d.val % 64, by omega⟩)).toReal * qscale else 0)
  else (if 64 ≤ d.val then (a0 (ix5 b (p ⟨r.val % 512, Nat.mod_lt _ (by norm_num)⟩) g ⟨d.val / 64, by omega⟩ ⟨d.val % 64, by omega⟩)).toReal * qscale else 0)

/-- The key rows of a point in real numbers: both halves side by side. -/
def krow (b : Fin 8) (g : Fin 4) (k : ℕ) (d : Fin 128) : ℝ := k6 a1 b g ⟨d.val / 64, by omega⟩ k ⟨d.val % 64, by omega⟩

theorem dot_low (b : Fin 8) (g : Fin 4) (p : Fin 512 → Fin 2048) (r : Fin 512) (k : Fin 2048) :
    ∑ d, qrow a0 b g p ⟨r.val, by omega⟩ d * krow a1 b g k.val d = qscale * ∑ d, q6 a0 b (p r) g 0 d * k6 a1 b g 0 k.val d := by
  rw [sum_low _ fun d hd => by unfold qrow; rw [if_pos r.isLt, if_neg (by omega), zero_mul], Finset.mul_sum]
  refine Finset.sum_congr rfl fun d _ => ?_
  unfold qrow krow q6
  have e1 : (⟨d.val / 64, by omega⟩ : Fin 2) = 0 := Fin.ext (by show d.val / 64 = 0; omega)
  have e2 : (⟨d.val % 64, by omega⟩ : Fin 64) = d := Fin.ext (by show d.val % 64 = d.val; omega)
  have e3 : (⟨r.val % 512, Nat.mod_lt _ (by norm_num)⟩ : Fin 512) = r := Fin.ext (Nat.mod_eq_of_lt r.isLt)
  simp only [e1, e2, e3, if_pos r.isLt, if_pos d.isLt]
  ring

theorem dot_high (b : Fin 8) (g : Fin 4) (p : Fin 512 → Fin 2048) (r : Fin 512) (k : Fin 2048) :
    ∑ d, qrow a0 b g p ⟨512 + r.val, by omega⟩ d * krow a1 b g k.val d = qscale * ∑ d, q6 a0 b (p r) g 1 d * k6 a1 b g 1 k.val d := by
  have hr : ¬ 512 + r.val < 512 := by omega
  rw [sum_high _ fun d hd => by unfold qrow; rw [if_neg hr, if_neg (by omega), zero_mul], Finset.mul_sum]
  refine Finset.sum_congr rfl fun d _ => ?_
  unfold qrow krow q6
  have e1 : (⟨(64 + d.val) / 64, by omega⟩ : Fin 2) = 1 := Fin.ext (by show (64 + d.val) / 64 = 1; omega)
  have e2 : (⟨(64 + d.val) % 64, by omega⟩ : Fin 64) = d := Fin.ext (by show (64 + d.val) % 64 = d.val; omega)
  have e3 : (⟨(512 + r.val) % 512, Nat.mod_lt _ (by norm_num)⟩ : Fin 512) = r := Fin.ext (by show (512 + r.val) % 512 = r.val; omega)
  have e4 : 64 ≤ 64 + d.val := by omega
  simp only [e1, e2, e3, if_neg hr, if_pos e4]
  ring

/-- A point's operands in real numbers. -/
theorem reals (s : Fin 4 → ℝ) (hs : ∀ g, Cert.Ref.slopes0 (ix1 g) = (s g : EReal))
    (F : Finite (m ((c.tc : Thread nD τ).loc main_arg0)) (m ((c.tc : Thread nD τ).loc main_arg1)) (m ((c.tc : Thread nD τ).loc main_arg2)) (m ((c.tc : Thread nD τ).loc main_arg3))) :
    Reals t (iblk m c 0 t) (iblk m c 1 t) (outsAt0 m c t.val t.isLt).2.1 (outsAt0 m c t.val t.isLt).2.2 (s (gi t) * log2e)
      (qrow (m ((c.tc : Thread nD τ).loc main_arg0)) (bi t) (gi t) (qpos t)) (krow (m ((c.tc : Thread nD τ).loc main_arg1)) (bi t) (gi t))
      (v6 (m ((c.tc : Thread nD τ).loc main_arg2)) (bi t) (gi t)) where
  slope := by
    have e : (grid0.coords t 1 : Fin 4) = gi t := Fin.ext (coords_facts t).1
    rw [e, blk0, hs, EReal.coe_mul]
  q := fun r d => by
    rw [pay4_at, blk1, F.q]
    unfold qrow
    split <;> split <;> simp only [EReal.coe_mul, EReal.coe_zero, EReal.toReal_coe]
  k := fun k h d => by
    rw [kheld, F.k]
    unfold krow k6
    rw [dif_pos h]
  v := fun k h e => by
    rw [vheld, F.v]
    unfold v6
    rw [dif_pos h]

/-- The difference a point normalises is the reference's. -/
theorem diff_point (F : Finite (m ((c.tc : Thread nD τ).loc main_arg0)) (m ((c.tc : Thread nD τ).loc main_arg1)) (m ((c.tc : Thread nD τ).loc main_arg2)) (m ((c.tc : Thread nD τ).loc main_arg3)))
    (p : Fin 512) (e : Fin 128) :
    k0_pay30 (F := Ideal) (final (grid0.coords t) (iblk m c 0 t) (iblk m c 1 t) (outsAt0 m c t.val t.isLt).2.1 (outsAt0 m c t.val t.isLt).2.2).2.1
        (final (grid0.coords t) (iblk m c 0 t) (iblk m c 1 t) (outsAt0 m c t.val t.isLt).2.1 (outsAt0 m c t.val t.isLt).2.2).2.2 (iblk m c 4 t) (ix2 p e)
      = Cert.Ref.outs (Cert.Ref.probs (Cert.Ref.scores (m ((c.tc : Thread nD τ).loc main_arg0)) (m ((c.tc : Thread nD τ).loc main_arg1)))) (Cert.Ref.lam (m ((c.tc : Thread nD τ).loc main_arg3)))
          (m ((c.tc : Thread nD τ).loc main_arg2)) (ix4 (bi t) (qpos t p) (gi t) e) := by
  obtain ⟨s, hs⟩ := Cert.Ref.slopes_real
  obtain ⟨L, hL⟩ := lam_real (m ((c.tc : Thread nD τ).loc main_arg3)) F.l
  have H := reals m c t s hs F
  have hpos : ∀ r : Fin 1024, r.val % 512 = p.val → rowPos t r = (qpos t p).val := fun r hr => by
    unfold rowPos
    rw [hr, (coords_facts t).2]
    rfl
  rw [outs_real _ _ _ _ F s hs L ((Cert.Ref.lam_at _).trans hL), pay30_at, row_attn H, row_attn H, hpos _ (Nat.mod_eq_of_lt p.isLt),
    hpos _ (by show (512 + p.val) % 512 = p.val; omega),
    attn_eq _ _ _ _ _ _ _ _ (dot_low (m ((c.tc : Thread nD τ).loc main_arg0)) (m ((c.tc : Thread nD τ).loc main_arg1)) (bi t) (gi t) (qpos t) p),
    attn_eq _ _ _ _ _ _ _ _ (dot_high (m ((c.tc : Thread nD τ).loc main_arg0)) (m ((c.tc : Thread nD τ).loc main_arg1)) (bi t) (gi t) (qpos t) p)]
  simp only [blk4]
  rw [hL, EReal.coe_sub, EReal.coe_mul]

/-- What a point stores is the reference's result there. -/
theorem point (F : Finite (m ((c.tc : Thread nD τ).loc main_arg0)) (m ((c.tc : Thread nD τ).loc main_arg1)) (m ((c.tc : Thread nD τ).loc main_arg2)) (m ((c.tc : Thread nD τ).loc main_arg3)))
    (p : Fin 512) (e : Fin 128) : (outsAt0 m c t.val t.isLt).1 (ix3 0 p e)
      = Cert.Ref.norm (Cert.Ref.outs (Cert.Ref.probs (Cert.Ref.scores (m ((c.tc : Thread nD τ).loc main_arg0)) (m ((c.tc : Thread nD τ).loc main_arg1)))) (Cert.Ref.lam (m ((c.tc : Thread nD τ).loc main_arg3)))
          (m ((c.tc : Thread nD τ).loc main_arg2))) (m ((c.tc : Thread nD τ).loc main_arg4)) (ix3 (bi t) (qpos t p) ⟨128 * (gi t).val + e.val, by have := (gi t).isLt; omega⟩) := by
  rw [out_all, tail_at, Cert.Ref.norm_at]
  have e1 : (⟨(128 * (gi t).val + e.val) / 128, by have := (gi t).isLt; omega⟩ : Fin 4) = gi t := Fin.ext (by show (128 * (gi t).val + e.val) / 128 = (gi t).val; omega)
  have e2 : (⟨(128 * (gi t).val + e.val) % 128, by omega⟩ : Fin 128) = e := Fin.ext (by show (128 * (gi t).val + e.val) % 128 = e.val; omega)
  simp only [e1, e2, diff_point m c t F, blk5]

/-- The kernel's array is the reference's result. -/
theorem final_eq (F : Finite (m ((c.tc : Thread nD τ).loc main_arg0)) (m ((c.tc : Thread nD τ).loc main_arg1)) (m ((c.tc : Thread nD τ).loc main_arg2)) (m ((c.tc : Thread nD τ).loc main_arg3))) :
    (dats m 0 c).arrAt 6 cfg0.N
      = Cert.Ref.norm (Cert.Ref.outs (Cert.Ref.probs (Cert.Ref.scores (m ((c.tc : Thread nD τ).loc main_arg0)) (m ((c.tc : Thread nD τ).loc main_arg1)))) (Cert.Ref.lam (m ((c.tc : Thread nD τ).loc main_arg3)))
          (m ((c.tc : Thread nD τ).loc main_arg2))) (m ((c.tc : Thread nD τ).loc main_arg4)) := by
  refine (dats m 0 c).arrAt_eq_of_covers 6 _ (by decide +kernel) fun t hf y => ?_
  blk_simp
  rw [after0_6]
  idx_vars y
  obtain rfl : y0 = 0 := Subsingleton.elim _ _

  refine (point m c t F y1 y2).trans (congrArg _ ?_)
  blk_ext [idx6 t, bi, qpos, gi]

end Cert.Attn

end
-- ==== Proof.Pre.lean ====
/-
  What the precondition says of the attention's arguments: they are real numbers.
-/
module

public import proofs.«01_k».proof.Proof.Gen.Pre_pre
public import Idealize.ShloMosaic.Lib.ReduceAll
public import Idealize.ShloMosaic.Lib.Pipeline.ValueKit

@[expose] public section

set_option maxRecDepth 16384

noncomputable section

namespace Cert.Pre

open Idealize.ShloMosaic Idealize.ShloMosaic.TcCoe
open Cert.Pre_pre Cert.Pre_pre.Gen

/-- An extended real whose absolute value is below `⊤` is a real number. -/
theorem real_of_lt (x y : EReal) (hy : y = ⊤) (h : FloatOps.cmpf (F := Ideal) (φ := .f32) .olt (FloatOps.hostAbsf (F := Ideal) (φ := .f32) x) y = 1#1) : x = (x.toReal : EReal) := by
  subst hy
  have h' : max x (-x) < (⊤ : EReal) := by
    have : Ideal.cmp .olt (max x (-x)) (⊤ : EReal) = 1#1 := h
    by_contra hn
    simp [Ideal.cmp, hn] at this
  induction x with
  | bot => simp at h'
  | coe r => rw [EReal.toReal_coe]
  | top => simp at h'

theorem bits_top : Ideal.ofBits FTy.f32 0x7F800000#32 = (⊤ : EReal) := by simp [Ideal.ofBits, Ideal.ieee]

theorem and_one {x y : BitVec 1} (h : IntOp.andi x y = 1#1) : x = 1#1 ∧ y = 1#1 := by
  revert h
  revert x y
  decide

/-- The precondition read at every element. -/
theorem fn_real (a0 : FVec Ideal S8x2048x4x2x64 .f32) (a1 : FVec Ideal S2x8x2048x4x2x64 .f32) (a2 : FVec Ideal S2x8x2048x4x128 .f32) (a3 : FVec Ideal S4x64 .f32) (a4 : FVec Ideal S128 .f32)
    (h : Cert.Pre_pre.fn (F := Ideal) a0 a1 a2 a3 a4 ix0 = 1#1) :
    (∀ i, a0 i = ((a0 i).toReal : EReal)) ∧ (∀ b p g h d, a1 (ix6 0 b p g h d) = ((a1 (ix6 0 b p g h d)).toReal : EReal))
      ∧ (∀ b p g e, a2 (ix5 0 b p g e) = ((a2 (ix5 0 b p g e)).toReal : EReal)) ∧ (∀ i, a3 i = ((a3 i).toReal : EReal)) := by
  haveI : Subsingleton S_.Idx := ⟨fun a b => funext fun k => k.elim0⟩
  unfold Cert.Pre_pre.fn Cert.Pre_pre.fn_part1 at h
  dsimp only at h
  obtain ⟨h, h3⟩ := and_one h
  obtain ⟨h, h2⟩ := and_one h
  obtain ⟨h0, h1⟩ := and_one h
  have k0 := fun i => Host.reduce_andi_all _ _ _ _ _ h0 i
  have k1 := fun i => Host.reduce_andi_all _ _ _ _ _ h1 i
  have k2 := fun i => Host.reduce_andi_all _ _ _ _ _ h2 i
  have k3 := fun i => Host.reduce_andi_all _ _ _ _ _ h3 i
  have r1 : ∀ b p g h d, FloatOps.cmpf (F := Ideal) (φ := .f32) .olt (FloatOps.hostAbsf (F := Ideal) (φ := .f32) (a1 (ix6 0 b p g h d))) (Ideal.ofBits FTy.f32 0x7F800000#32) = 1#1 := fun b p g h d => by
    have := k1 (ix5 b p g h d)
    pointwise at this
    exact this
  have r2 : ∀ b p g e, FloatOps.cmpf (F := Ideal) (φ := .f32) .olt (FloatOps.hostAbsf (F := Ideal) (φ := .f32) (a2 (ix5 0 b p g e))) (Ideal.ofBits FTy.f32 0x7F800000#32) = 1#1 := fun b p g e => by
    have := k2 (ix4 b p g e)
    pointwise at this
    exact this
  refine ⟨fun i => real_of_lt _ _ ?_ (k0 i), fun b p g h d => real_of_lt _ _ ?_ (r1 b p g h d), fun b p g e => real_of_lt _ _ ?_ (r2 b p g e), fun i => real_of_lt _ _ ?_ (k3 i)⟩
  · rw [ValueIdx.broadcastInDim_scalar_apply]; exact bits_top
  · exact bits_top
  · exact bits_top
  · rw [ValueIdx.broadcastInDim_scalar_apply]; exact bits_top

end Cert.Pre

end
-- ==== Proof.Merge.lean ====
/-
  What one grid point of the merge stores, read at one index.
-/
module

public import proofs.«01_k».proof.Proof.Gen.Kernel2Ideal.Value
public import Idealize.ShloMosaic.Lib.Pipeline.ValueKit

@[expose] public section

set_option maxRecDepth 16384

noncomputable section

namespace Cert.Merge

open Idealize.ShloMosaic Idealize.ShloMosaic.TcCoe
open Cert.Kernel2Ideal Cert.Kernel2Ideal.Gen Cert.Kernel2Ideal.Value

variable (r : Fin 512) (d e : Fin 1024)

/-- The sigmoid, as the kernel and the reference write it. -/
def sgm (z : EReal) : EReal := Ideal.div (Ideal.ofBits FTy.f32 0x3F800000#32) (Ideal.ofBits FTy.f32 0x3F800000#32 + Ideal.exp (-z))

theorem zero_bits : Ideal.ofBits FTy.f32 0x00000000#32 = (0 : EReal) := by simp [Ideal.ofBits, Ideal.ieee]

theorem pay1_at (x : Vec Ideal S512x1024 .f32) : k0_pay1 (F := Ideal) x (ix2 r d) = x (ix2 r d) := by
  pointwise [k0_pay1]

/-- The normalised rows. -/
theorem pay2_at (x : Vec Ideal S512x1024 .f32) (g : Vec Ideal S1x1024 .f32) : k0_pay2 (F := Ideal) x g (ix2 r d)
    = x (ix2 r d) * Ideal.rsqrt (Ideal.div (∑ k : Fin 1024, x (ix2 r k) * x (ix2 r k)) (Ideal.ofBits FTy.f32 0x44800000#32)
        + Ideal.ofBits FTy.f32 0x358637BD#32) * g (ix2 0 d) := by
  pointwise [k0_pay2, k0_pay1]

/-- The first gated branch. -/
theorem pay3_at (x : Vec Ideal S512x1024 .f32) (g : Vec Ideal S1x1024 .f32) (w : Vec Ideal S1024x1024 .bf16) (o : Vec Ideal S512x512 .bf16) (v : Vec Ideal S1x512x1024 .bf16) :
    k0_pay3 (F := Ideal) x g w o v (ix2 r d)
    = sgm (∑ k : Fin 1024, k0_pay2 (F := Ideal) x g (ix2 r k) * w (ix2 k d)) * ∑ k : Fin 512, o (ix2 r k) * v (ix3 0 k d) := by
  pointwise [k0_pay3, sgm]
  rw [zero_sub]

/-- The second gate's argument. -/
theorem pay4_at (x : Vec Ideal S512x1024 .f32) (g : Vec Ideal S1x1024 .f32) (w : Vec Ideal S1024x1024 .bf16) :
    k0_pay4 (F := Ideal) x g w (ix2 r d) = ∑ k : Fin 1024, k0_pay2 (F := Ideal) x g (ix2 r k) * w (ix2 k d) := by
  pointwise [k0_pay4]

/-- The stored rows. -/
theorem pay5_at (X : FVec Ideal S512x1024 .f32) (H : FVec Ideal S512x1024 .bf16) (A Z : FVec Ideal S512x1024 .f32)
    (o2 : Vec Ideal S512x512 .bf16) (v2 : Vec Ideal S1x512x1024 .bf16) (w : Vec Ideal S1024x1024 .bf16) (o3 : Vec Ideal S512x512 .bf16) (v3 : Vec Ideal S1x512x1024 .bf16)
    (wo : Vec Ideal S1024x1024 .bf16) :
    k0_pay5 (F := Ideal) X H A Z (Scalar.ofBits .f32 0x00000000#32) o2 v2 w o3 v3 wo (ix2 r e)
    = X (ix2 r e) + ∑ d : Fin 1024, (A (ix2 r d) + sgm (Z (ix2 r d)) * (∑ k : Fin 512, o2 (ix2 r k) * v2 (ix3 0 k d))
        + sgm (∑ k : Fin 1024, H (ix2 r k) * w (ix2 k d)) * (∑ k : Fin 512, o3 (ix2 r k) * v3 (ix3 0 k d))) * wo (ix2 d e) := by
  pointwise [k0_pay5, sgm]
  simp only [zero_bits, zero_sub]

end Cert.Merge

end
-- ==== Proof.Ref2.lean ====
/-
  The merge's reference as a composition of a few arrays, and each of them read at one index.
-/
module

public import proofs.«01_k».proof.Proof.Gen.Reference2Ideal.Run
public import Idealize.ShloMosaic.Lib.Pipeline.ValueKit

@[expose] public section

set_option maxRecDepth 16384

noncomputable section

namespace Cert.Ref2

open Idealize.ShloMosaic Idealize.ShloMosaic.TcCoe
open Cert.Reference2Ideal Cert.Reference2Ideal.Gen

/-- The hidden rows, normalised. -/
def hid (a0 : FVec Ideal S8x2048x1024 .f32) (a1 : FVec Ideal S1024 .f32) : FVec Ideal S8x2048x1024 .f32 :=
  (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1)))

/-- The gates of the three mixers. -/
def gates (H : FVec Ideal S8x2048x1024 .f32) (a2 : FVec Ideal S1024x6560 .f32) : FVec Ideal S8x2048x3072 .f32 :=
  (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (extractStridedSlice S8x2048x3072 ![0, 0, 3488] (Host.dotGeneral dot_S8x2048x1024_S1024x6560_S8x2048x6560_2_0_01_1_n_n none H a2) slices_S8x2048x6560_S8x2048x3072_0_0_3488)))))

/-- The gated sum of the mixers' branches. -/
def mix (G : FVec Ideal S8x2048x3072 .f32) (a3 : FVec Ideal S8x2048x512 .bf16) (a4 : FVec Ideal S8x2048x512 .bf16) (a5 : FVec Ideal S8x2048x512 .bf16) (a6 : FVec Ideal S512x1024 .f32) (a7 : FVec Ideal S512x1024 .f32) (a8 : FVec Ideal S512x1024 .f32) : FVec Ideal S8x2048x1024 .f32 :=
  (addf (addf (mulf (extractStridedSlice S8x2048x1024 ![0, 0, 0] G slices_S8x2048x3072_S8x2048x1024_0_0_0) (Host.dotGeneral dot_S8x2048x512_S512x1024_S8x2048x1024_2_0_01_1_n_n none (extf .f32 a3 bitsLt_bf16_f32) a6)) (mulf (extractStridedSlice S8x2048x1024 ![0, 0, 1024] G slices_S8x2048x3072_S8x2048x1024_0_0_1024) (Host.dotGeneral dot_S8x2048x512_S512x1024_S8x2048x1024_2_0_01_1_n_n none (extf .f32 a4 bitsLt_bf16_f32) a7))) (mulf (extractStridedSlice S8x2048x1024 ![0, 0, 2048] G slices_S8x2048x3072_S8x2048x1024_0_0_2048) (Host.dotGeneral dot_S8x2048x512_S512x1024_S8x2048x1024_2_0_01_1_n_n none (extf .f32 a5 bitsLt_bf16_f32) a8)))

/-- The rows, the projected sum added. -/
def merged (a0 : FVec Ideal S8x2048x1024 .f32) (M : FVec Ideal S8x2048x1024 .f32) (a9 : FVec Ideal S1024x1024 .f32) : FVec Ideal S16384x1024 .f32 :=
  shapeCast S16384x1024 (addf a0 (Host.dotGeneral dot_S8x2048x1024_S1024x1024_S8x2048x1024_2_0_01_1_n_n none M a9)) shapeCasts_S8x2048x1024_S16384x1024

/-- The reference's result is that composition. -/
theorem res_eq (m : (ℓ : Loc nD τ sig) → Buf (Elt Ideal) ℓ) (c : Dev nD) :
    Cert.Reference2Ideal.Value.res_main_v37 m c
      = merged (m ((c.tc : Thread nD τ).loc main_arg0)) (mix (gates (hid (m ((c.tc : Thread nD τ).loc main_arg0)) (m ((c.tc : Thread nD τ).loc main_arg1))) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) := by
  unfold Cert.Reference2Ideal.Value.res_main_v37 merged mix gates hid
  rfl

variable (b : Fin 8) (p : Fin 2048) (d e : Fin 1024)

/-- A hidden element, normalised. -/
theorem hid_at (a0 : FVec Ideal S8x2048x1024 .f32) (a1 : FVec Ideal S1024 .f32) : hid a0 a1 (ix3 b p d)
    = a0 (ix3 b p d) * Ideal.rsqrt (Ideal.div (∑ k : Fin 1024, a0 (ix3 b p k) * a0 (ix3 b p k)) (Ideal.ofBits FTy.f32 0x44800000#32)
        + Ideal.ofBits FTy.f32 0x358637BD#32) * a1 (ix1 d) := by
  pointwise [hid]

/-- A gate. -/
theorem gates_at (H : FVec Ideal S8x2048x1024 .f32) (a2 : FVec Ideal S1024x6560 .f32) (j : Fin 3072) : gates H a2 (ix3 b p j)
    = Ideal.div (Ideal.ofBits FTy.f32 0x3F800000#32) (Ideal.ofBits FTy.f32 0x3F800000#32
        + Ideal.exp (-(∑ d : Fin 1024, H (ix3 b p d) * a2 (ix2 d ⟨3488 + j.val, by omega⟩)))) := by
  pointwise [gates]

/-- The gated sum. -/
theorem mix_at (G : FVec Ideal S8x2048x3072 .f32) (a3 a4 a5 : FVec Ideal S8x2048x512 .bf16) (a6 a7 a8 : FVec Ideal S512x1024 .f32) : mix G a3 a4 a5 a6 a7 a8 (ix3 b p d)
    = G (ix3 b p ⟨d.val, by omega⟩) * (∑ k : Fin 512, a3 (ix3 b p k) * a6 (ix2 k d))
      + G (ix3 b p ⟨1024 + d.val, by omega⟩) * (∑ k : Fin 512, a4 (ix3 b p k) * a7 (ix2 k d))
      + G (ix3 b p ⟨2048 + d.val, by omega⟩) * (∑ k : Fin 512, a5 (ix3 b p k) * a8 (ix2 k d)) := by
  pointwise [mix]

/-- A result. -/
theorem merged_at (a0 M : FVec Ideal S8x2048x1024 .f32) (a9 : FVec Ideal S1024x1024 .f32) (i : Fin 16384) : merged a0 M a9 (ix2 i e)
    = a0 (ix3 ⟨i.val / 2048, by omega⟩ ⟨i.val % 2048, by omega⟩ e)
      + ∑ d : Fin 1024, M (ix3 ⟨i.val / 2048, by omega⟩ ⟨i.val % 2048, by omega⟩ d) * a9 (ix2 d e) := by
  pointwise [merged]

end Cert.Ref2

end
-- ==== Proof.MergeEq.lean ====
/-
  The merge's result is its reference's.
-/
module

public import proofs.«01_k».proof.Proof.Merge
public import proofs.«01_k».proof.Proof.Ref2
public import Idealize.ShloMosaic.Lib.StableHlo.RunRead

@[expose] public section

set_option maxRecDepth 16384

noncomputable section

namespace Cert.Merge

open Idealize.ShloMosaic Idealize.ShloMosaic.TcCoe Idealize.ShloMosaic.StableHlo
open Cert.Kernel2Ideal Cert.Kernel2Ideal.Gen Cert.Kernel2Ideal.Value

/-! ## A point's blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

theorem N_lt (t : Fin grid0.N) : t.val < 32 := lt_of_lt_of_eq t.isLt (by decide +kernel)

/-- The batch row of a point. -/
def bi (t : Fin grid0.N) : Fin 8 := ⟨t.val / 4, by have := N_lt t; omega⟩
/-- A point's row, as a position of the sequence. -/
def pos (t : Fin grid0.N) (r : Fin 512) : Fin 2048 := ⟨512 * (t.val % 4) + r.val, by omega⟩

variable (m : (ℓ : Loc nD τ sig) → Buf (Elt Ideal) ℓ) (c : Dev nD) (t : Fin grid0.N) (r : Fin 512) (d e : Fin 1024)

theorem blk0 : iblk m c 0 t (ix2 r d) = m ((c.tc : Thread nD τ).loc main_arg0) (ix3 (bi t) (pos t r) d) := by
  blk_point [iblk, V, idx0 t, bi, pos]

theorem blk1 : iblk m c 1 t (ix2 0 d) = m ((c.tc : Thread nD τ).loc main_arg1) (ix1 d) := by
  blk_point [iblk, V, idx1 t]

theorem blk2 (j : Fin 3072) : iblk m c 2 t (ix2 d j) = m ((c.tc : Thread nD τ).loc main_arg2) (ix2 d ⟨3488 + j.val, by omega⟩) := by
  blk_point [iblk, V, idx2 t]

theorem blk3 (k : Fin 512) : iblk m c 3 t (ix2 r k) = m ((c.tc : Thread nD τ).loc main_arg3) (ix3 (bi t) (pos t r) k) := by
  blk_point [iblk, V, idx3 t, bi, pos]

theorem blk4 (k : Fin 512) : iblk m c 4 t (ix2 r k) = m ((c.tc : Thread nD τ).loc main_arg4) (ix3 (bi t) (pos t r) k) := by
  blk_point [iblk, V, idx4 t, bi, pos]

theorem blk5 (k : Fin 512) : iblk m c 5 t (ix2 r k) = m ((c.tc : Thread nD τ).loc main_arg5) (ix3 (bi t) (pos t r) k) := by
  blk_point [iblk, V, idx5 t, bi, pos]

/-- The three matrices, stacked. -/
def stack (a b e : FVec Ideal S512x1024 .f32) : FVec Ideal S3x512x1024 .f32 :=
  concatenate S3x512x1024 0 [⟨S1x512x1024, broadcastInDim S1x512x1024 ![1, 2] bcast_S512x1024_S1x512x1024_1_2 a⟩,
    ⟨S1x512x1024, broadcastInDim S1x512x1024 ![1, 2] bcast_S512x1024_S1x512x1024_1_2 b⟩,
    ⟨S1x512x1024, broadcastInDim S1x512x1024 ![1, 2] bcast_S512x1024_S1x512x1024_1_2 e⟩] concatenates_S1x512x1024_S1x512x1024_S1x512x1024_S3x512x1024_d0

/-- A three-operand operation's result, each operand at its own buffer. -/
theorem nary3 {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The stack the kernel is given. -/
theorem stack_held : V m c main_v7 = truncf (F := Ideal) .bf16 (stack (m ((c.tc : Thread nD τ).loc main_arg6)) (m ((c.tc : Thread nD τ).loc main_arg7)) (m ((c.tc : Thread nD τ).loc main_arg8))) bitsLt_bf16_f32 := by
  after_reads_simp [nary3]
  rfl

theorem blk60 (k : Fin 512) : iblk m c 6 t (ix3 0 k d) = m ((c.tc : Thread nD τ).loc main_arg6) (ix2 k d) := by
  blk_simp [iblk]
  have e : (win0_6.blk t).view.emb (ix3 0 k d) = ix3 0 k d := by blk_ext [idx6 t]
  rw [e, stack_held]
  pointwise [stack]

theorem blk61 (k : Fin 512) : iblk m c 6 t (ix3 1 k d) = m ((c.tc : Thread nD τ).loc main_arg7) (ix2 k d) := by
  blk_simp [iblk]
  have e : (win0_6.blk t).view.emb (ix3 1 k d) = ix3 1 k d := by blk_ext [idx6 t]
  rw [e, stack_held]
  pointwise [stack]

theorem blk62 (k : Fin 512) : iblk m c 6 t (ix3 2 k d) = m ((c.tc : Thread nD τ).loc main_arg8) (ix2 k d) := by
  blk_simp [iblk]
  have e : (win0_6.blk t).view.emb (ix3 2 k d) = ix3 2 k d := by blk_ext [idx6 t]
  rw [e, stack_held]
  pointwise [stack]

theorem blk7 : iblk m c 7 t (ix2 d e) = m ((c.tc : Thread nD τ).loc main_arg9) (ix2 d e) := by
  blk_point [iblk, V, idx7 t]

/-! ## What a point reads of its blocks -/

theorem ld2a (x : Vec Ideal S1024x3072 .bf16) : View.ld x r0_2 (ix2 d e) = x (ix2 d ⟨e.val, by omega⟩) := by
  refine congrArg x (funext fun a => Fin.ext ?_)
  match a with
  | ⟨0, _⟩ => show 0 + 1 * d.val = d.val; omega
  | ⟨1, _⟩ => show 0 + 1 * e.val = e.val; omega

theorem ld2b (x : Vec Ideal S1024x3072 .bf16) : View.ld x r0_5 (ix2 d e) = x (ix2 d ⟨1024 + e.val, by omega⟩) := by
  refine congrArg x (funext fun a => Fin.ext ?_)
  match a with
  | ⟨0, _⟩ => show 0 + 1 * d.val = d.val; omega
  | ⟨1, _⟩ => show 1024 + 1 * e.val = 1024 + e.val; omega

theorem ld2c (x : Vec Ideal S1024x3072 .bf16) : View.ld x r0_7 (ix2 d e) = x (ix2 d ⟨2048 + e.val, by omega⟩) := by
  refine congrArg x (funext fun a => Fin.ext ?_)
  match a with
  | ⟨0, _⟩ => show 0 + 1 * d.val = d.val; omega
  | ⟨1, _⟩ => show 2048 + 1 * e.val = 2048 + e.val; omega

theorem ld6a (x : Vec Ideal S3x512x1024 .bf16) (k : Fin 512) : View.ld x r0_4 (ix3 0 k d) = x (ix3 0 k d) := by
  refine congrArg x (funext fun a => Fin.ext ?_)
  match a with
  | ⟨0, _⟩ => show 0 + 1 * 0 = 0; omega
  | ⟨1, _⟩ => show 0 + 1 * k.val = k.val; omega
  | ⟨2, _⟩ => show 0 + 1 * d.val = d.val; omega

theorem ld6b (x : Vec Ideal S3x512x1024 .bf16) (k : Fin 512) : View.ld x r0_6 (ix3 0 k d) = x (ix3 1 k d) := by
  refine congrArg x (funext fun a => Fin.ext ?_)
  match a with
  | ⟨0, _⟩ => show 1 + 1 * 0 = 1; omega
  | ⟨1, _⟩ => show 0 + 1 * k.val = k.val; omega
  | ⟨2, _⟩ => show 0 + 1 * d.val = d.val; omega

theorem ld6c (x : Vec Ideal S3x512x1024 .bf16) (k : Fin 512) : View.ld x r0_8 (ix3 0 k d) = x (ix3 2 k d) := by
  refine congrArg x (funext fun a => Fin.ext ?_)
  match a with
  | ⟨0, _⟩ => show 2 + 1 * 0 = 2; omega
  | ⟨1, _⟩ => show 0 + 1 * k.val = k.val; omega
  | ⟨2, _⟩ => show 0 + 1 * d.val = d.val; omega

/-- What a point stores, at one index. -/
theorem out_at (x0 : Vec Ideal S512x1024 .f32) (x1 : Vec Ideal S1x1024 .f32) (x2 : Vec Ideal S1024x3072 .bf16) (x3 x4 x5 : Vec Ideal S512x512 .bf16)
    (x6 : Vec Ideal S3x512x1024 .bf16) (x7 : Vec Ideal S1024x1024 .bf16) :
    out0_8 (F := Ideal) x0 x1 x2 x3 x4 x5 x6 x7 (ix2 r e)
      = x0 (ix2 r e) + ∑ d : Fin 1024,
          (sgm (∑ k : Fin 1024, k0_pay2 (F := Ideal) x0 x1 (ix2 r k) * x2 (ix2 k ⟨d.val, by omega⟩)) * (∑ k : Fin 512, x3 (ix2 r k) * x6 (ix3 0 k d))
            + sgm (∑ k : Fin 1024, k0_pay2 (F := Ideal) x0 x1 (ix2 r k) * x2 (ix2 k ⟨1024 + d.val, by omega⟩)) * (∑ k : Fin 512, x4 (ix2 r k) * x6 (ix3 1 k d))
            + sgm (∑ k : Fin 1024, k0_pay2 (F := Ideal) x0 x1 (ix2 r k) * x2 (ix2 k ⟨2048 + d.val, by omega⟩)) * (∑ k : Fin 512, x5 (ix2 r k) * x6 (ix3 2 k d)))
          * x7 (ix2 d e) := by
  frame_out
  refine (pay5_at r e _ _ _ _ _ _ _ _ _ _).trans ?_
  rw [pay1_at]
  refine congrArg _ (Finset.sum_congr rfl fun d _ => ?_)
  rw [pay3_at, pay4_at]
  exact congrArg (· * x7 (ix2 d e)) (congrArg₂ (· + ·) (congrArg₂ (· + ·) (congrArg₂ (· * ·) (congrArg sgm (Finset.sum_congr rfl fun k _ => congrArg _ (ld2a k d x2))) (Finset.sum_congr rfl fun k _ => congrArg _ (ld6a d x6 k)))
    (congrArg₂ (· * ·) (congrArg sgm (Finset.sum_congr rfl fun k _ => congrArg _ (ld2b k d x2))) (Finset.sum_congr rfl fun k _ => congrArg _ (ld6b d x6 k))))
    (congrArg₂ (· * ·) (congrArg sgm (Finset.sum_congr rfl fun k _ => congrArg _ (ld2c k d x2))) (Finset.sum_congr rfl fun k _ => congrArg _ (ld6c d x6 k))))

/-- The kernel's array is the reference's result. -/
theorem final_eq:
    (dats m 0 c).arrAt 8 cfg0.N
      = Cert.Ref2.merged (m ((c.tc : Thread nD τ).loc main_arg0))
          (Cert.Ref2.mix (Cert.Ref2.gates (Cert.Ref2.hid (m ((c.tc : Thread nD τ).loc main_arg0)) (m ((c.tc : Thread nD τ).loc main_arg1))) (m ((c.tc : Thread nD τ).loc main_arg2)))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)))
          (m ((c.tc : Thread nD τ).loc main_arg9)) := by
  refine (dats m 0 c).arrAt_eq_of_covers 8 _ (by decide +kernel) fun t hf y => ?_
  blk_simp
  rw [after0_8]
  idx_vars y
  have hN := N_lt t
  have eb : (⟨(512 * t.val + y0.val) / 2048, by omega⟩ : Fin 8) = bi t := Fin.ext (by show (512 * t.val + y0.val) / 2048 = t.val / 4; omega)
  have ep : (⟨(512 * t.val + y0.val) % 2048, by omega⟩ : Fin 2048) = pos t y0 := Fin.ext (by show (512 * t.val + y0.val) % 2048 = 512 * (t.val % 4) + y0.val; omega)
  refine (out_at _ _ _ _ _ _ _ _ _ _).trans (Eq.trans ?_ (congrArg _ (by blk_ext [idx8 t] : ix2 (⟨512 * t.val + y0.val, by omega⟩ : Fin 16384) y1 = _)))
  rw [Cert.Ref2.merged_at]
  simp only [eb, ep, Cert.Ref2.mix_at, Cert.Ref2.gates_at, Cert.Ref2.hid_at, pay2_at, blk0, blk1, blk2, blk3, blk4, blk5, blk60, blk61, blk62, blk7, sgm]

end Cert.Merge

end
-- ==== Proof.Ffn.lean ====
/-
  The feed-forward kernel's arithmetic, element by element: the normalised rows, the products into the hidden
  width, a slice of the hidden width convolved, gated and brought back, and the rows kept for the next tile.
-/
module

public import proofs.«01_k».proof.Proof.Gen.Kernel3Ideal.Value
public import Idealize.ShloMosaic.Lib.Pipeline.ValueKit

@[expose] public section

set_option maxRecDepth 16384

noncomputable section

namespace Cert.Ffn

open Idealize.ShloMosaic Idealize.ShloMosaic.TcCoe
open Cert.Kernel3Ideal Cert.Kernel3Ideal.Gen Cert.Kernel3Ideal.Value

/-- A number times its sigmoid. -/
def silu (z : EReal) : EReal := z * Ideal.div (Ideal.ofBits FTy.f32 0x3F800000#32) (Ideal.ofBits FTy.f32 0x3F800000#32 + Ideal.exp (-z))

/-- Three taps and a bias. -/
def conv (p2 p1 a w0 w1 w2 b : EReal) : EReal := p2 * w0 + p1 * w1 + a * w2 + b

/-- The row before `r`: the tile's own, or the one kept. -/
def back1 (a : Fin 512 → EReal) (t7 : EReal) (r : Fin 512) : EReal := if r.val = 0 then t7 else a ⟨r.val - 1, by omega⟩

/-- The row two before `r`. -/
def back2 (a : Fin 512 → EReal) (t6 t7 : EReal) (r : Fin 512) : EReal :=
  if r.val = 0 then t6 else if r.val = 1 then t7 else a ⟨r.val - 2, by omega⟩

/-- A slice of 512 of the hidden width: convolved, gated, brought back and added. -/
def step5 (y : FVec Ideal S512x1024 .f32) (a u : FVec Ideal S512x512 .f32) (t6 t7 : FVec Ideal S1x512 .f32) (cw : FVec Ideal S3x512 .f32) (cb : FVec Ideal S1x512 .f32)
    (wd : Vec Ideal S512x1024 .bf16) : FVec Ideal S512x1024 .f32 :=
  have v112 : IVec S512x1 32 := iota .tc S512x1 32 [0] iota_S512x1_d0_w32
  have v113 : IVec S512x1 32 := broadcast S512x1 0#32
  have v114 : IVec S512x1 1 := cmpi .eq v112 v113
  have v115 : FVec Ideal S512x512 .f32 := dynamicRotate 0 1#32 none a rotates_S512x512_d0
  have v116 : IVec S512x1 1 := shapeCast S512x1 v114 shapeCasts_S512x1_S512x1
  have v117 : IVec S512x512 1 := broadcastTo S512x512 v116 broadcasts_S512x1_S512x512
  have v118 : FVec Ideal S1x512 .f32 := shapeCast S1x512 t7 shapeCasts_S1x512_S1x512
  have v119 : FVec Ideal S512x512 .f32 := broadcastTo S512x512 v118 broadcasts_S1x512_S512x512
  have v120 : FVec Ideal S512x512 .f32 := select v117 v119 v115
  have v121 : IVec S512x1 32 := broadcast S512x1 0#32
  have v122 : IVec S512x1 1 := cmpi .eq v112 v121
  have v123 : IVec S512x1 32 := broadcast S512x1 1#32
  have v124 : IVec S512x1 1 := cmpi .eq v112 v123
  have v125 : FVec Ideal S512x512 .f32 := dynamicRotate 0 2#32 none a rotates_S512x512_d0
  have v126 : IVec S512x1 1 := shapeCast S512x1 v124 shapeCasts_S512x1_S512x1
  have v127 : IVec S512x512 1 := broadcastTo S512x512 v126 broadcasts_S512x1_S512x512
  have v128 : FVec Ideal S1x512 .f32 := shapeCast S1x512 t7 shapeCasts_S1x512_S1x512
  have v129 : FVec Ideal S512x512 .f32 := broadcastTo S512x512 v128 broadcasts_S1x512_S512x512
  have v130 : FVec Ideal S512x512 .f32 := select v127 v129 v125
  have v131 : IVec S512x1 1 := shapeCast S512x1 v122 shapeCasts_S512x1_S512x1
  have v132 : IVec S512x512 1 := broadcastTo S512x512 v131 broadcasts_S512x1_S512x512
  have v133 : FVec Ideal S1x512 .f32 := shapeCast S1x512 t6 shapeCasts_S1x512_S1x512
  have v134 : FVec Ideal S512x512 .f32 := broadcastTo S512x512 v133 broadcasts_S1x512_S512x512
  have v135 : FVec Ideal S512x512 .f32 := select v132 v134 v130
  have v136 : FVec Ideal S1x512 .f32 := extractStridedSlice S1x512 ![0, 0] cw slices_S3x512_o0_0_S1x512
  have v137 : FVec Ideal S512x512 .f32 := broadcastTo S512x512 v136 broadcasts_S1x512_S512x512
  have v138 : FVec Ideal S512x512 .f32 := mulf v135 v137
  have v139 : FVec Ideal S1x512 .f32 := extractStridedSlice S1x512 ![1, 0] cw slices_S3x512_o1_0_S1x512
  have v140 : FVec Ideal S512x512 .f32 := broadcastTo S512x512 v139 broadcasts_S1x512_S512x512
  have v141 : FVec Ideal S512x512 .f32 := mulf v120 v140
  have v142 : FVec Ideal S512x512 .f32 := addf v138 v141
  have v143 : FVec Ideal S1x512 .f32 := extractStridedSlice S1x512 ![2, 0] cw slices_S3x512_o2_0_S1x512
  have v144 : FVec Ideal S512x512 .f32 := broadcastTo S512x512 v143 broadcasts_S1x512_S512x512
  have v145 : FVec Ideal S512x512 .f32 := mulf a v144
  have v146 : FVec Ideal S512x512 .f32 := addf v142 v145
  have v147 : FVec Ideal S512x512 .f32 := broadcastTo S512x512 cb broadcasts_S1x512_S512x512
  have v148 : FVec Ideal S512x512 .f32 := addf v146 v147
  have cst_44 : Ideal .f32 := Scalar.ofBits .f32 0x00000000#32
  have v150 : FVec Ideal S512x512 .f32 := broadcast S512x512 cst_44
  have v151 : FVec Ideal S512x512 .f32 := subf v150 v148
  have v152 : FVec Ideal S512x512 .f32 := exp v151
  have cst_45 : Ideal .f32 := Scalar.ofBits .f32 0x3F800000#32
  have v153 : FVec Ideal S512x512 .f32 := broadcast S512x512 cst_45
  have v154 : FVec Ideal S512x512 .f32 := addf v153 v152
  have cst_46 : Ideal .f32 := Scalar.ofBits .f32 0x3F800000#32
  have v155 : FVec Ideal S512x512 .f32 := broadcast S512x512 cst_46
  have v156 : FVec Ideal S512x512 .f32 := divf v155 v154
  have v157 : FVec Ideal S512x512 .f32 := mulf v148 v156
  have v158 : FVec Ideal S512x512 .f32 := mulf v157 u
  have v159 : FVec Ideal S512x512 .bf16 := truncf .bf16 v158 bitsLt_bf16_f32
  have v161 : FVec Ideal S512x1024 .bf16 := shapeCast S512x1024 wd shapeCasts_S512x1024_S512x1024
  have cst_49 : FVec Ideal S512x1024 .f32 := constant S512x1024 .f32 0x00000000#32
  have v162 : FVec Ideal S512x1024 .f32 := matmul dot_S512x512_S512x1024_S512x1024_1_0_0_1_n_n none v159 v161 cst_49
  have v163 : FVec Ideal S512x1024 .f32 := addf y v162
  v163

/-- The last slice, of 256. -/
def step2 (y : FVec Ideal S512x1024 .f32) (a u : FVec Ideal S512x256 .f32) (t6 t7 : FVec Ideal S1x256 .f32) (cw : FVec Ideal S3x256 .f32) (cb : FVec Ideal S1x256 .f32)
    (wd : Vec Ideal S256x1024 .bf16) : FVec Ideal S512x1024 .f32 :=
  have v354 : IVec S512x1 32 := iota .tc S512x1 32 [0] iota_S512x1_d0_w32
  have v355 : IVec S512x1 32 := broadcast S512x1 0#32
  have v356 : IVec S512x1 1 := cmpi .eq v354 v355
  have v357 : FVec Ideal S512x256 .f32 := dynamicRotate 0 1#32 none a rotates_S512x256_d0
  have v358 : IVec S512x1 1 := shapeCast S512x1 v356 shapeCasts_S512x1_S512x1
  have v359 : IVec S512x256 1 := broadcastTo S512x256 v358 broadcasts_S512x1_S512x256
  have v360 : FVec Ideal S1x256 .f32 := shapeCast S1x256 t7 shapeCasts_S1x256_S1x256
  have v361 : FVec Ideal S512x256 .f32 := broadcastTo S512x256 v360 broadcasts_S1x256_S512x256
  have v362 : FVec Ideal S512x256 .f32 := select v359 v361 v357
  have v363 : IVec S512x1 32 := broadcast S512x1 0#32
  have v364 : IVec S512x1 1 := cmpi .eq v354 v363
  have v365 : IVec S512x1 32 := broadcast S512x1 1#32
  have v366 : IVec S512x1 1 := cmpi .eq v354 v365
  have v367 : FVec Ideal S512x256 .f32 := dynamicRotate 0 2#32 none a rotates_S512x256_d0
  have v368 : IVec S512x1 1 := shapeCast S512x1 v366 shapeCasts_S512x1_S512x1
  have v369 : IVec S512x256 1 := broadcastTo S512x256 v368 broadcasts_S512x1_S512x256
  have v370 : FVec Ideal S1x256 .f32 := shapeCast S1x256 t7 shapeCasts_S1x256_S1x256
  have v371 : FVec Ideal S512x256 .f32 := broadcastTo S512x256 v370 broadcasts_S1x256_S512x256
  have v372 : FVec Ideal S512x256 .f32 := select v369 v371 v367
  have v373 : IVec S512x1 1 := shapeCast S512x1 v364 shapeCasts_S512x1_S512x1
  have v374 : IVec S512x256 1 := broadcastTo S512x256 v373 broadcasts_S512x1_S512x256
  have v375 : FVec Ideal S1x256 .f32 := shapeCast S1x256 t6 shapeCasts_S1x256_S1x256
  have v376 : FVec Ideal S512x256 .f32 := broadcastTo S512x256 v375 broadcasts_S1x256_S512x256
  have v377 : FVec Ideal S512x256 .f32 := select v374 v376 v372
  have v378 : FVec Ideal S1x256 .f32 := extractStridedSlice S1x256 ![0, 0] cw slices_S3x256_o0_0_S1x256
  have v379 : FVec Ideal S512x256 .f32 := broadcastTo S512x256 v378 broadcasts_S1x256_S512x256
  have v380 : FVec Ideal S512x256 .f32 := mulf v377 v379
  have v381 : FVec Ideal S1x256 .f32 := extractStridedSlice S1x256 ![1, 0] cw slices_S3x256_o1_0_S1x256
  have v382 : FVec Ideal S512x256 .f32 := broadcastTo S512x256 v381 broadcasts_S1x256_S512x256
  have v383 : FVec Ideal S512x256 .f32 := mulf v362 v382
  have v384 : FVec Ideal S512x256 .f32 := addf v380 v383
  have v385 : FVec Ideal S1x256 .f32 := extractStridedSlice S1x256 ![2, 0] cw slices_S3x256_o2_0_S1x256
  have v386 : FVec Ideal S512x256 .f32 := broadcastTo S512x256 v385 broadcasts_S1x256_S512x256
  have v387 : FVec Ideal S512x256 .f32 := mulf a v386
  have v388 : FVec Ideal S512x256 .f32 := addf v384 v387
  have v389 : FVec Ideal S512x256 .f32 := broadcastTo S512x256 cb broadcasts_S1x256_S512x256
  have v390 : FVec Ideal S512x256 .f32 := addf v388 v389
  have cst_100 : Ideal .f32 := Scalar.ofBits .f32 0x00000000#32
  have v392 : FVec Ideal S512x256 .f32 := broadcast S512x256 cst_100
  have v393 : FVec Ideal S512x256 .f32 := subf v392 v390
  have v394 : FVec Ideal S512x256 .f32 := exp v393
  have cst_101 : Ideal .f32 := Scalar.ofBits .f32 0x3F800000#32
  have v395 : FVec Ideal S512x256 .f32 := broadcast S512x256 cst_101
  have v396 : FVec Ideal S512x256 .f32 := addf v395 v394
  have cst_102 : Ideal .f32 := Scalar.ofBits .f32 0x3F800000#32
  have v397 : FVec Ideal S512x256 .f32 := broadcast S512x256 cst_102
  have v398 : FVec Ideal S512x256 .f32 := divf v397 v396
  have v399 : FVec Ideal S512x256 .f32 := mulf v390 v398
  have v400 : FVec Ideal S512x256 .f32 := mulf v399 u
  have v401 : FVec Ideal S512x256 .bf16 := truncf .bf16 v400 bitsLt_bf16_f32
  have v403 : FVec Ideal S256x1024 .bf16 := shapeCast S256x1024 wd shapeCasts_S256x1024_S256x1024
  have cst_105 : FVec Ideal S512x1024 .f32 := constant S512x1024 .f32 0x00000000#32
  have v404 : FVec Ideal S512x1024 .f32 := matmul dot_S512x256_S256x1024_S512x1024_1_0_0_1_n_n none v401 v403 cst_105
  have v405 : FVec Ideal S512x1024 .f32 := addf y v404
  v405

variable (r : Fin 512) (d e : Fin 1024)

/-- A choice made where the row is the first. -/
theorem sel0 (x y : EReal) : Scalar.select (IntOp.cmpi CmpIPredicate.eq (BitVec.ofNat 32 r.val) 0#32) x y = if r.val = 0 then x else y := by
  have h : (BitVec.ofNat 32 r.val = 0#32) ↔ r.val = 0 := by
    rw [← BitVec.toNat_inj]; simp only [BitVec.toNat_ofNat]; omega
  by_cases hr : r.val = 0
  · simp [Scalar.select, IntOp.cmpi, hr]
  · have hb : (BitVec.ofNat 32 r.val == 0#32) = false := by rw [beq_eq_false_iff_ne]; exact fun e => hr (h.1 e)
    simp [Scalar.select, IntOp.cmpi, hb, hr]

/-- A choice made where the row is the second. -/
theorem sel1 (x y : EReal) : Scalar.select (IntOp.cmpi CmpIPredicate.eq (BitVec.ofNat 32 r.val) 1#32) x y = if r.val = 1 then x else y := by
  have h : (BitVec.ofNat 32 r.val = 1#32) ↔ r.val = 1 := by
    rw [← BitVec.toNat_inj]; simp only [BitVec.toNat_ofNat]; omega
  by_cases hr : r.val = 1
  · simp [Scalar.select, IntOp.cmpi, hr]
  · have hb : (BitVec.ofNat 32 r.val == 1#32) = false := by rw [beq_eq_false_iff_ne]; exact fun e => hr (h.1 e)
    simp [Scalar.select, IntOp.cmpi, hb, hr]

/-- The normalised rows. -/
theorem pay3_at (x : Vec Ideal S512x1024 .f32) (g : Vec Ideal S1x1024 .f32) : k0_pay3 (F := Ideal) x g (ix2 r d)
    = x (ix2 r d) * Ideal.rsqrt (Ideal.div (∑ k : Fin 1024, x (ix2 r k) * x (ix2 r k)) (Ideal.ofBits FTy.f32 0x44800000#32)
        + Ideal.ofBits FTy.f32 0x358637BD#32) * g (ix2 0 d) := by
  pointwise [k0_pay3, k0_pay2]

theorem pay2_at (x : Vec Ideal S512x1024 .f32) : k0_pay2 (F := Ideal) x (ix2 r d) = x (ix2 r d) := by
  pointwise [k0_pay2]

theorem pay4_at (x : Vec Ideal S1x2816 .f32) (j : Fin 2816) : k0_pay4 (F := Ideal) x (ix2 0 j) = x (ix2 0 j) := by
  pointwise [k0_pay4]

theorem pay5_at (i : Fin 8) (j : Fin 2816) : k0_pay5 (F := Ideal) (ix2 i j) = 0 := by
  pointwise [k0_pay5]

theorem pay1_at (T : FVec Ideal S8x2816 .f32) (i : Fin 2) (j : Fin 2816) : k0_pay1 (F := Ideal) T (ix3 0 i j) = T (ix2 ⟨6 + i.val, by omega⟩ j) := by
  pointwise [k0_pay1]

/-- A slice of 512 of the hidden width. -/
theorem pay6_at (h : FVec Ideal S512x1024 .bf16) (w : Vec Ideal S1024x512 .bf16) (j : Fin 512) :
    k0_pay6 (F := Ideal) h w (ix2 r j) = ∑ k : Fin 1024, h (ix2 r k) * w (ix2 k j) := by
  pointwise [k0_pay6]

/-- The last slice of the hidden width, of 256. -/
theorem pay42_at (h : FVec Ideal S512x1024 .bf16) (w : Vec Ideal S1024x256 .bf16) (j : Fin 256) :
    k0_pay42 (F := Ideal) h w (ix2 r j) = ∑ k : Fin 1024, h (ix2 r k) * w (ix2 k j) := by
  pointwise [k0_pay42]

theorem step5_at (y : FVec Ideal S512x1024 .f32) (a u : FVec Ideal S512x512 .f32) (t6 t7 : FVec Ideal S1x512 .f32) (cw : FVec Ideal S3x512 .f32) (cb : FVec Ideal S1x512 .f32)
    (wd : Vec Ideal S512x1024 .bf16) : step5 y a u t6 t7 cw cb wd (ix2 r e)
    = y (ix2 r e) + ∑ j : Fin 512, silu (conv (back2 (fun r => a (ix2 r j)) (t6 (ix2 0 j)) (t7 (ix2 0 j)) r) (back1 (fun r => a (ix2 r j)) (t7 (ix2 0 j)) r) (a (ix2 r j))
        (cw (ix2 0 j)) (cw (ix2 1 j)) (cw (ix2 2 j)) (cb (ix2 0 j))) * u (ix2 r j) * wd (ix2 j e) := by
  pointwise [step5, silu, conv, back1, back2]
  simp only [sel0, sel1, zero_sub]
  by_cases h0 : r.val = 0
  · simp only [h0, if_true]
  · have e1 : (r.val + 512 - 1) % 512 = r.val - 1 := by omega
    by_cases h1 : r.val = 1
    · simp only [if_neg h0, if_pos h1, e1]
    · have e2 : (r.val + 512 - 2) % 512 = r.val - 2 := by omega
      simp only [if_neg h0, if_neg h1, e1, e2]

theorem step2_at (y : FVec Ideal S512x1024 .f32) (a u : FVec Ideal S512x256 .f32) (t6 t7 : FVec Ideal S1x256 .f32) (cw : FVec Ideal S3x256 .f32) (cb : FVec Ideal S1x256 .f32)
    (wd : Vec Ideal S256x1024 .bf16) : step2 y a u t6 t7 cw cb wd (ix2 r e)
    = y (ix2 r e) + ∑ j : Fin 256, silu (conv (back2 (fun r => a (ix2 r j)) (t6 (ix2 0 j)) (t7 (ix2 0 j)) r) (back1 (fun r => a (ix2 r j)) (t7 (ix2 0 j)) r) (a (ix2 r j))
        (cw (ix2 0 j)) (cw (ix2 1 j)) (cw (ix2 2 j)) (cb (ix2 0 j))) * u (ix2 r j) * wd (ix2 j e) := by
  pointwise [step2, silu, conv, back1, back2]
  simp only [sel0, sel1, zero_sub]
  by_cases h0 : r.val = 0
  · simp only [h0, if_true]
  · have e1 : (r.val + 512 - 1) % 512 = r.val - 1 := by omega
    by_cases h1 : r.val = 1
    · simp only [if_neg h0, if_pos h1, e1]
    · have e2 : (r.val + 512 - 2) % 512 = r.val - 2 := by omega
      simp only [if_neg h0, if_neg h1, e1, e2]

/-- The kept rows. -/
theorem pay61_at (a0 a1 a2 a3 a4 : FVec Ideal S8x512 .f32) (z : FVec Ideal S512x256 .f32) (i : Fin 8) (j : Fin 2816) :
    k0_pay61 (F := Ideal) a0 a1 a2 a3 z a4 (ix2 i j)
    = if h : j.val < 512 then a0 (ix2 i ⟨j.val, h⟩) else if h1 : j.val < 1024 then a1 (ix2 i ⟨j.val - 512, by omega⟩)
      else if h2 : j.val < 1536 then a2 (ix2 i ⟨j.val - 1024, by omega⟩) else if h3 : j.val < 2048 then a3 (ix2 i ⟨j.val - 1536, by omega⟩)
      else if h4 : j.val < 2560 then a4 (ix2 i ⟨j.val - 2048, by omega⟩) else z (ix2 ⟨504 + i.val, by omega⟩ ⟨j.val - 2560, by omega⟩) := by
  pointwise [k0_pay61, k0_pay60]
  simp only [Nat.sub_sub, Nat.reduceAdd]
  by_cases h : j.val < 512
  · rw [dif_pos h, dif_pos h]
  rw [dif_neg h, dif_neg h]
  by_cases h1 : j.val < 1024
  · rw [dif_pos (show j.val - 512 < 512 by omega), dif_pos h1]
  rw [dif_neg (show ¬ j.val - 512 < 512 by omega), dif_neg h1]
  by_cases h2 : j.val < 1536
  · rw [dif_pos (show j.val - 1024 < 512 by omega), dif_pos h2]
  rw [dif_neg (show ¬ j.val - 1024 < 512 by omega), dif_neg h2]
  by_cases h3 : j.val < 2048
  · rw [dif_pos (show j.val - 1536 < 512 by omega), dif_pos h3]
  rw [dif_neg (show ¬ j.val - 1536 < 512 by omega), dif_neg h3]
  by_cases h4 : j.val < 2560
  · rw [dif_pos (show j.val - 2048 < 512 by omega), dif_pos h4]
  rw [dif_neg (show ¬ j.val - 2048 < 512 by omega), dif_neg h4]

end Cert.Ffn

end
-- ==== Proof.FfnPoint.lean ====
/-
  What one grid point of the feed-forward kernel stores and keeps, as a function of its blocks and of the rows the point
  before kept, read at one index.
-/
module

public import proofs.«01_k».proof.Proof.Ffn
public import Idealize.ShloMosaic.Lib.Pipeline.ReadBack

@[expose] public section

set_option maxRecDepth 16384

noncomputable section

namespace Cert.Ffn

open Idealize.ShloMosaic Idealize.ShloMosaic.TcCoe
open Cert.Kernel3Ideal Cert.Kernel3Ideal.Gen Cert.Kernel3Ideal.Value

/-- The slice of 512 of the hidden width at `off`, over a point's blocks. -/
def chunk5 (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (off : Nat) (hA : ∀ a, (![0, off] : Fin 2 → Nat) a + (![1024, 512] : Fin 2 → Nat) a ≤ S1024x5632.size a)
    (hU : ∀ a, (![0, 2816 + off] : Fin 2 → Nat) a + (![1024, 512] : Fin 2 → Nat) a ≤ S1024x5632.size a)
    (hD : ∀ a, (![off, 0] : Fin 2 → Nat) a + (![512, 1024] : Fin 2 → Nat) a ≤ S2816x1024.size a)
    (h6 : S8x2816.Slices ![6, off] S1x512) (h7 : S8x2816.Slices ![7, off] S1x512) (hw : S3x2816.Slices ![0, off] S3x512) (hb : S1x2816.Slices ![0, off] S1x512)
    (y : FVec Ideal S512x1024 .f32) : FVec Ideal S512x1024 .f32 :=
  step5 y (k0_pay6 (F := Ideal) H (View.ld x2 (Rect.unit (s := S1024x5632) ![0, off] ![1024, 512] hA)))
    (k0_pay6 (F := Ideal) H (View.ld x2 (Rect.unit (s := S1024x5632) ![0, 2816 + off] ![1024, 512] hU)))
    (extractStridedSlice S1x512 ![6, off] T h6) (extractStridedSlice S1x512 ![7, off] T h7) (extractStridedSlice S3x512 ![0, off] x3 hw)
    (extractStridedSlice S1x512 ![0, off] x4 hb) (View.ld x5 (Rect.unit (s := S2816x1024) ![off, 0] ![512, 1024] hD))

/-- The slice of 256 of the hidden width at `off`, over a point's blocks. -/
def chunk2 (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (off : Nat) (hA : ∀ a, (![0, off] : Fin 2 → Nat) a + (![1024, 256] : Fin 2 → Nat) a ≤ S1024x5632.size a)
    (hU : ∀ a, (![0, 2816 + off] : Fin 2 → Nat) a + (![1024, 256] : Fin 2 → Nat) a ≤ S1024x5632.size a)
    (hD : ∀ a, (![off, 0] : Fin 2 → Nat) a + (![256, 1024] : Fin 2 → Nat) a ≤ S2816x1024.size a)
    (h6 : S8x2816.Slices ![6, off] S1x256) (h7 : S8x2816.Slices ![7, off] S1x256) (hw : S3x2816.Slices ![0, off] S3x256) (hb : S1x2816.Slices ![0, off] S1x256)
    (y : FVec Ideal S512x1024 .f32) : FVec Ideal S512x1024 .f32 :=
  step2 y (k0_pay42 (F := Ideal) H (View.ld x2 (Rect.unit (s := S1024x5632) ![0, off] ![1024, 256] hA)))
    (k0_pay42 (F := Ideal) H (View.ld x2 (Rect.unit (s := S1024x5632) ![0, 2816 + off] ![1024, 256] hU)))
    (extractStridedSlice S1x256 ![6, off] T h6) (extractStridedSlice S1x256 ![7, off] T h7) (extractStridedSlice S3x256 ![0, off] x3 hw)
    (extractStridedSlice S1x256 ![0, off] x4 hb) (View.ld x5 (Rect.unit (s := S2816x1024) ![off, 0] ![256, 1024] hD))

/-- A point's rows: the six slices added in turn. -/
def rows (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (y : FVec Ideal S512x1024 .f32) : FVec Ideal S512x1024 .f32 :=
  chunk2 H x2 x3 x4 x5 T 2560 inb_S1024x5632_S1024x256_0_2560 inb_S1024x5632_S1024x256_0_5376 inb_S2816x1024_S256x1024_2560_0
      slices_S8x2816_o6_2560_S1x256 slices_S8x2816_o7_2560_S1x256 slices_S3x2816_o0_2560_S3x256 slices_S1x2816_o0_2560_S1x256 (chunk5 H x2 x3 x4 x5 T 2048 inb_S1024x5632_S1024x512_0_2048 inb_S1024x5632_S1024x512_0_4864 inb_S2816x1024_S512x1024_2048_0
      slices_S8x2816_o6_2048_S1x512 slices_S8x2816_o7_2048_S1x512 slices_S3x2816_o0_2048_S3x512 slices_S1x2816_o0_2048_S1x512 (chunk5 H x2 x3 x4 x5 T 1536 inb_S1024x5632_S1024x512_0_1536 inb_S1024x5632_S1024x512_0_4352 inb_S2816x1024_S512x1024_1536_0
      slices_S8x2816_o6_1536_S1x512 slices_S8x2816_o7_1536_S1x512 slices_S3x2816_o0_1536_S3x512 slices_S1x2816_o0_1536_S1x512 (chunk5 H x2 x3 x4 x5 T 1024 inb_S1024x5632_S1024x512_0_1024 inb_S1024x5632_S1024x512_0_3840 inb_S2816x1024_S512x1024_1024_0
      slices_S8x2816_o6_1024_S1x512 slices_S8x2816_o7_1024_S1x512 slices_S3x2816_o0_1024_S3x512 slices_S1x2816_o0_1024_S1x512 (chunk5 H x2 x3 x4 x5 T 512 inb_S1024x5632_S1024x512_0_512 inb_S1024x5632_S1024x512_0_3328 inb_S2816x1024_S512x1024_512_0
      slices_S8x2816_o6_512_S1x512 slices_S8x2816_o7_512_S1x512 slices_S3x2816_o0_512_S3x512 slices_S1x2816_o0_512_S1x512 (chunk5 H x2 x3 x4 x5 T 0 inb_S1024x5632_S1024x512_0_0 inb_S1024x5632_S1024x512_0_2816 inb_S2816x1024_S512x1024_0_0
      slices_S8x2816_o6_0_S1x512 slices_S8x2816_o7_0_S1x512 slices_S3x2816_o0_0_S3x512 slices_S1x2816_o0_0_S1x512 y)))))

/-- The rows a point keeps: the last eight of its products into the hidden width. -/
def kept (H : FVec Ideal S512x1024 .bf16) (x2 : Vec Ideal S1024x5632 .bf16) : FVec Ideal S8x2816 .f32 :=
  k0_pay61 (F := Ideal) (k0_pay15 (F := Ideal) (k0_pay6 (F := Ideal) H (View.ld x2 (Rect.unit (s := S1024x5632) ![0, 0] ![1024, 512] inb_S1024x5632_S1024x512_0_0)))) (k0_pay15 (F := Ideal) (k0_pay6 (F := Ideal) H (View.ld x2 (Rect.unit (s := S1024x5632) ![0, 512] ![1024, 512] inb_S1024x5632_S1024x512_0_512)))) (k0_pay15 (F := Ideal) (k0_pay6 (F := Ideal) H (View.ld x2 (Rect.unit (s := S1024x5632) ![0, 1024] ![1024, 512] inb_S1024x5632_S1024x512_0_1024)))) (k0_pay15 (F := Ideal) (k0_pay6 (F := Ideal) H (View.ld x2 (Rect.unit (s := S1024x5632) ![0, 1536] ![1024, 512] inb_S1024x5632_S1024x512_0_1536)))) (k0_pay42 (F := Ideal) H (View.ld x2 (Rect.unit (s := S1024x5632) ![0, 2560] ![1024, 256] inb_S1024x5632_S1024x256_0_2560))) (k0_pay15 (F := Ideal) (k0_pay6 (F := Ideal) H (View.ld x2 (Rect.unit (s := S1024x5632) ![0, 2048] ![1024, 512] inb_S1024x5632_S1024x512_0_2048))))

variable (m : (ℓ : Loc nD τ sig) → Buf (Elt Ideal) ℓ) (c : Dev nD)

/-- What the point before kept, read through the scratch. -/
theorem carried (X : Vec Ideal S8x2816 .f32) : View.read (Elt Ideal) (View.whole cc0_scratch0) ((Memref.isWhole_whole cc0_scratch0).unread X) = X :=
  read_unread_whole cc0_scratch0 _ X

/-- What a batch row's first tile stores. -/
theorem out_A (t : Fin grid0.N) (h0 : t.val % 4 = 0) (h1 : ¬ t.val % 4 = 3) : (outsAt0 m c t.val t.isLt).1
    = rows (k0_pay3 (F := Ideal) (iblk m c 0 t) (iblk m c 1 t)) (iblk m c 2 t) (iblk m c 3 t) (k0_pay4 (F := Ideal) (iblk m c 4 t)) (iblk m c 5 t) (k0_pay5 (F := Ideal)) (k0_pay2 (F := Ideal) (iblk m c 0 t)) := by
  rw [outsAt0_A m c t h0 h1]
  frame_out
  rfl

/-- What a batch row's first tile keeps. -/
theorem kept_A (t : Fin grid0.N) (h0 : t.val % 4 = 0) (h1 : ¬ t.val % 4 = 3) : (outsAt0 m c t.val t.isLt).2.2
    = kept (k0_pay3 (F := Ideal) (iblk m c 0 t) (iblk m c 1 t)) (iblk m c 2 t) := by
  rw [outsAt0_A m c t h0 h1]
  frame_out
  rfl

/-- What a batch row's middle tile stores. -/
theorem out_B (t : Fin grid0.N) (h0 : ¬ t.val % 4 = 0) (h1 : ¬ t.val % 4 = 3) : (outsAt0 m c t.val t.isLt).1
    = rows (k0_pay3 (F := Ideal) (iblk m c 0 t) (iblk m c 1 t)) (iblk m c 2 t) (iblk m c 3 t) (k0_pay4 (F := Ideal) (iblk m c 4 t)) (iblk m c 5 t) (outsAt0 m c (t.val - 1) (Nat.lt_of_le_of_lt (Nat.sub_le _ _) t.isLt)).2.2 (k0_pay2 (F := Ideal) (iblk m c 0 t)) := by
  rw [outsAt0_B m c t h0 h1]
  frame_out
  rw [carried]
  rfl

/-- What a batch row's middle tile keeps. -/
theorem kept_B (t : Fin grid0.N) (h0 : ¬ t.val % 4 = 0) (h1 : ¬ t.val % 4 = 3) : (outsAt0 m c t.val t.isLt).2.2
    = kept (k0_pay3 (F := Ideal) (iblk m c 0 t) (iblk m c 1 t)) (iblk m c 2 t) := by
  rw [outsAt0_B m c t h0 h1]
  frame_out
  rfl

/-- What a batch row's last tile stores. -/
theorem out_C (t : Fin grid0.N) (h0 : ¬ t.val % 4 = 0) (h1 : t.val % 4 = 3) : (outsAt0 m c t.val t.isLt).1
    = rows (k0_pay3 (F := Ideal) (iblk m c 0 t) (iblk m c 1 t)) (iblk m c 2 t) (iblk m c 3 t) (k0_pay4 (F := Ideal) (iblk m c 4 t)) (iblk m c 5 t) (outsAt0 m c (t.val - 1) (Nat.lt_of_le_of_lt (Nat.sub_le _ _) t.isLt)).2.2 (k0_pay2 (F := Ideal) (iblk m c 0 t)) := by
  rw [outsAt0_C m c t h0 h1]
  frame_out
  rw [carried]
  rfl

/-- What a batch row's last tile keeps. -/
theorem kept_C (t : Fin grid0.N) (h0 : ¬ t.val % 4 = 0) (h1 : t.val % 4 = 3) : (outsAt0 m c t.val t.isLt).2.2
    = kept (k0_pay3 (F := Ideal) (iblk m c 0 t) (iblk m c 1 t)) (iblk m c 2 t) := by
  rw [outsAt0_C m c t h0 h1]
  frame_out
  rfl

/-- What the last tile of a batch row gives of the rows it keeps. -/
theorem tail_C (t : Fin grid0.N) (h0 : ¬ t.val % 4 = 0) (h1 : t.val % 4 = 3) : (outsAt0 m c t.val t.isLt).2.1
    = k0_pay1 (F := Ideal) (kept (k0_pay3 (F := Ideal) (iblk m c 0 t) (iblk m c 1 t)) (iblk m c 2 t)) := by
  rw [outsAt0_C m c t h0 h1]
  frame_out
  have e (T : FVec Ideal S8x2816 .f32) : shapeCast S8x2816 T shapeCasts_S8x2816_S8x2816 = T := by
    funext y; idx_vars y; pointwise []
  exact congrArg (k0_pay1 (F := Ideal)) (e _).symm

variable (r : Fin 512) (e : Fin 1024)

/-- An element of the hidden width. -/
def upAt (H : FVec Ideal S512x1024 .bf16) (x2 : Vec Ideal S1024x5632 .bf16) (r : Fin 512) (j : Fin 5632) : EReal := ∑ k : Fin 1024, H (ix2 r k) * x2 (ix2 k j)

/-- One hidden column's share of a row. -/
def term (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (r : Fin 512) (e : Fin 1024) (j : Fin 2816) : EReal :=
  silu (conv (back2 (fun r => upAt H x2 r ⟨j.val, by omega⟩) (T (ix2 6 j)) (T (ix2 7 j)) r) (back1 (fun r => upAt H x2 r ⟨j.val, by omega⟩) (T (ix2 7 j)) r)
    (upAt H x2 r ⟨j.val, by omega⟩) (x3 (ix2 0 j)) (x3 (ix2 1 j)) (x3 (ix2 2 j)) (x4 (ix2 0 j))) * upAt H x2 r ⟨2816 + j.val, by omega⟩ * x5 (ix2 j e)

theorem ldA5 (x : Vec Ideal S1024x5632 .bf16) (off : Nat) (h : ∀ a, (![0, off] : Fin 2 → Nat) a + (![1024, 512] : Fin 2 → Nat) a ≤ S1024x5632.size a) (ho : off + 512 ≤ 5632) (k : Fin 1024) (j : Fin 512) :
    View.ld x (Rect.unit (s := S1024x5632) ![0, off] ![1024, 512] h) (ix2 k j) = x (ix2 k ⟨off + j.val, by omega⟩) := by
  refine congrArg x (funext fun a => Fin.ext ?_)
  match a with
  | ⟨0, _⟩ => show 0 + 1 * k.val = k.val; omega
  | ⟨1, _⟩ => show off + 1 * j.val = off + j.val; omega

theorem ldD5 (x : Vec Ideal S2816x1024 .bf16) (off : Nat) (h : ∀ a, (![off, 0] : Fin 2 → Nat) a + (![512, 1024] : Fin 2 → Nat) a ≤ S2816x1024.size a) (ho : off + 512 ≤ 2816) (j : Fin 512) (e : Fin 1024) :
    View.ld x (Rect.unit (s := S2816x1024) ![off, 0] ![512, 1024] h) (ix2 j e) = x (ix2 ⟨off + j.val, by omega⟩ e) := by
  refine congrArg x (funext fun a => Fin.ext ?_)
  match a with
  | ⟨0, _⟩ => show off + 1 * j.val = off + j.val; omega
  | ⟨1, _⟩ => show 0 + 1 * e.val = e.val; omega

theorem up5 (H : FVec Ideal S512x1024 .bf16) (x : Vec Ideal S1024x5632 .bf16) (off : Nat) (h : ∀ a, (![0, off] : Fin 2 → Nat) a + (![1024, 512] : Fin 2 → Nat) a ≤ S1024x5632.size a)
    (ho : off + 512 ≤ 5632) (r : Fin 512) (j : Fin 512) :
    k0_pay6 (F := Ideal) H (View.ld x (Rect.unit (s := S1024x5632) ![0, off] ![1024, 512] h)) (ix2 r j) = upAt H x r ⟨off + j.val, by omega⟩ :=
  (pay6_at r H _ j).trans (Finset.sum_congr rfl fun k _ => congrArg _ (ldA5 x off h ho k j))

theorem sl65 (T : Vec Ideal S8x2816 .f32) (off : Nat) (h : S8x2816.Slices ![6, off] S1x512) (ho : off + 512 ≤ 2816) (j : Fin 512) :
    extractStridedSlice S1x512 ![6, off] T h (ix2 0 j) = T (ix2 6 ⟨off + j.val, by omega⟩) := by
  refine congrArg T (funext fun a => Fin.ext ?_)
  match a with
  | ⟨0, _⟩ => rfl
  | ⟨1, _⟩ => rfl

theorem sl75 (T : Vec Ideal S8x2816 .f32) (off : Nat) (h : S8x2816.Slices ![7, off] S1x512) (ho : off + 512 ≤ 2816) (j : Fin 512) :
    extractStridedSlice S1x512 ![7, off] T h (ix2 0 j) = T (ix2 7 ⟨off + j.val, by omega⟩) := by
  refine congrArg T (funext fun a => Fin.ext ?_)
  match a with
  | ⟨0, _⟩ => rfl
  | ⟨1, _⟩ => rfl

theorem slw5 (x : Vec Ideal S3x2816 .f32) (off : Nat) (h : S3x2816.Slices ![0, off] S3x512) (ho : off + 512 ≤ 2816) (i : Fin 3) (j : Fin 512) :
    extractStridedSlice S3x512 ![0, off] x h (ix2 i j) = x (ix2 i ⟨off + j.val, by omega⟩) := by
  refine congrArg x (funext fun a => Fin.ext ?_)
  match a with
  | ⟨0, _⟩ => show 0 + i.val = i.val; omega
  | ⟨1, _⟩ => rfl

theorem slb5 (x : FVec Ideal S1x2816 .f32) (off : Nat) (h : S1x2816.Slices ![0, off] S1x512) (ho : off + 512 ≤ 2816) (j : Fin 512) :
    extractStridedSlice S1x512 ![0, off] x h (ix2 0 j) = x (ix2 0 ⟨off + j.val, by omega⟩) := by
  refine congrArg x (funext fun a => Fin.ext ?_)
  match a with
  | ⟨0, _⟩ => rfl
  | ⟨1, _⟩ => rfl

/-- A slice of 512 adds its columns' shares. -/
theorem chunk5_at (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (off : Nat) (ho : off + 512 ≤ 2816) (hA hU hD h6 h7 hw hb) (y : FVec Ideal S512x1024 .f32) :
    chunk5 H x2 x3 x4 x5 T off hA hU hD h6 h7 hw hb y (ix2 r e) = y (ix2 r e) + ∑ j : Fin 512, term H x2 x3 x4 x5 T r e ⟨off + j.val, by omega⟩ := by
  unfold chunk5
  rw [step5_at]
  refine congrArg _ (Finset.sum_congr rfl fun j _ => ?_)
  have ea (r : Fin 512) := up5 H x2 off hA (by omega) r j
  have eu := up5 H x2 (2816 + off) hU (by omega) r j
  have ed := ldD5 x5 off hD ho j e
  have eu' : (⟨2816 + off + j.val, by omega⟩ : Fin 5632) = ⟨2816 + (off + j.val), by omega⟩ := Fin.ext (Nat.add_assoc _ _ _)
  rw [eu'] at eu
  simp only [ea, sl65 T off h6 ho j, sl75 T off h7 ho j, slw5 x3 off hw ho, slb5 x4 off hb ho j]
  exact congrArg₂ (· * ·) (congrArg _ eu) ed

theorem ldA2 (x : Vec Ideal S1024x5632 .bf16) (off : Nat) (h : ∀ a, (![0, off] : Fin 2 → Nat) a + (![1024, 256] : Fin 2 → Nat) a ≤ S1024x5632.size a) (ho : off + 256 ≤ 5632) (k : Fin 1024) (j : Fin 256) :
    View.ld x (Rect.unit (s := S1024x5632) ![0, off] ![1024, 256] h) (ix2 k j) = x (ix2 k ⟨off + j.val, by omega⟩) := by
  refine congrArg x (funext fun a => Fin.ext ?_)
  match a with
  | ⟨0, _⟩ => show 0 + 1 * k.val = k.val; omega
  | ⟨1, _⟩ => show off + 1 * j.val = off + j.val; omega

theorem ldD2 (x : Vec Ideal S2816x1024 .bf16) (off : Nat) (h : ∀ a, (![off, 0] : Fin 2 → Nat) a + (![256, 1024] : Fin 2 → Nat) a ≤ S2816x1024.size a) (ho : off + 256 ≤ 2816) (j : Fin 256) (e : Fin 1024) :
    View.ld x (Rect.unit (s := S2816x1024) ![off, 0] ![256, 1024] h) (ix2 j e) = x (ix2 ⟨off + j.val, by omega⟩ e) := by
  refine congrArg x (funext fun a => Fin.ext ?_)
  match a with
  | ⟨0, _⟩ => show off + 1 * j.val = off + j.val; omega
  | ⟨1, _⟩ => show 0 + 1 * e.val = e.val; omega

theorem up2 (H : FVec Ideal S512x1024 .bf16) (x : Vec Ideal S1024x5632 .bf16) (off : Nat) (h : ∀ a, (![0, off] : Fin 2 → Nat) a + (![1024, 256] : Fin 2 → Nat) a ≤ S1024x5632.size a)
    (ho : off + 256 ≤ 5632) (r : Fin 512) (j : Fin 256) :
    k0_pay42 (F := Ideal) H (View.ld x (Rect.unit (s := S1024x5632) ![0, off] ![1024, 256] h)) (ix2 r j) = upAt H x r ⟨off + j.val, by omega⟩ :=
  (pay42_at r H _ j).trans (Finset.sum_congr rfl fun k _ => congrArg _ (ldA2 x off h ho k j))

theorem sl62 (T : Vec Ideal S8x2816 .f32) (off : Nat) (h : S8x2816.Slices ![6, off] S1x256) (ho : off + 256 ≤ 2816) (j : Fin 256) :
    extractStridedSlice S1x256 ![6, off] T h (ix2 0 j) = T (ix2 6 ⟨off + j.val, by omega⟩) := by
  refine congrArg T (funext fun a => Fin.ext ?_)
  match a with
  | ⟨0, _⟩ => rfl
  | ⟨1, _⟩ => rfl

theorem sl72 (T : Vec Ideal S8x2816 .f32) (off : Nat) (h : S8x2816.Slices ![7, off] S1x256) (ho : off + 256 ≤ 2816) (j : Fin 256) :
    extractStridedSlice S1x256 ![7, off] T h (ix2 0 j) = T (ix2 7 ⟨off + j.val, by omega⟩) := by
  refine congrArg T (funext fun a => Fin.ext ?_)
  match a with
  | ⟨0, _⟩ => rfl
  | ⟨1, _⟩ => rfl

theorem slw2 (x : Vec Ideal S3x2816 .f32) (off : Nat) (h : S3x2816.Slices ![0, off] S3x256) (ho : off + 256 ≤ 2816) (i : Fin 3) (j : Fin 256) :
    extractStridedSlice S3x256 ![0, off] x h (ix2 i j) = x (ix2 i ⟨off + j.val, by omega⟩) := by
  refine congrArg x (funext fun a => Fin.ext ?_)
  match a with
  | ⟨0, _⟩ => show 0 + i.val = i.val; omega
  | ⟨1, _⟩ => rfl

theorem slb2 (x : FVec Ideal S1x2816 .f32) (off : Nat) (h : S1x2816.Slices ![0, off] S1x256) (ho : off + 256 ≤ 2816) (j : Fin 256) :
    extractStridedSlice S1x256 ![0, off] x h (ix2 0 j) = x (ix2 0 ⟨off + j.val, by omega⟩) := by
  refine congrArg x (funext fun a => Fin.ext ?_)
  match a with
  | ⟨0, _⟩ => rfl
  | ⟨1, _⟩ => rfl

/-- A slice of 256 adds its columns' shares. -/
theorem chunk2_at (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (off : Nat) (ho : off + 256 ≤ 2816) (hA hU hD h6 h7 hw hb) (y : FVec Ideal S512x1024 .f32) :
    chunk2 H x2 x3 x4 x5 T off hA hU hD h6 h7 hw hb y (ix2 r e) = y (ix2 r e) + ∑ j : Fin 256, term H x2 x3 x4 x5 T r e ⟨off + j.val, by omega⟩ := by
  unfold chunk2
  rw [step2_at]
  refine congrArg _ (Finset.sum_congr rfl fun j _ => ?_)
  have ea (r : Fin 512) := up2 H x2 off hA (by omega) r j
  have eu := up2 H x2 (2816 + off) hU (by omega) r j
  have ed := ldD2 x5 off hD ho j e
  have eu' : (⟨2816 + off + j.val, by omega⟩ : Fin 5632) = ⟨2816 + (off + j.val), by omega⟩ := Fin.ext (Nat.add_assoc _ _ _)
  rw [eu'] at eu
  simp only [ea, sl62 T off h6 ho j, sl72 T off h7 ho j, slw2 x3 off hw ho, slb2 x4 off hb ho j]
  exact congrArg₂ (· * ·) (congrArg _ eu) ed

/-- A sum over the hidden width, slice by slice. -/
theorem split (f : Fin 2816 → EReal) : ∑ j : Fin 2816, f j
    = ∑ j : Fin 512, f ⟨0 + j.val, by omega⟩ + ∑ j : Fin 512, f ⟨512 + j.val, by omega⟩ + ∑ j : Fin 512, f ⟨1024 + j.val, by omega⟩
      + ∑ j : Fin 512, f ⟨1536 + j.val, by omega⟩ + ∑ j : Fin 512, f ⟨2048 + j.val, by omega⟩ + ∑ j : Fin 256, f ⟨2560 + j.val, by omega⟩ := by
  have s (n k : ℕ) (g : Fin (n + k) → EReal) : ∑ j, g j = ∑ j : Fin n, g ⟨j.val, by omega⟩ + ∑ j : Fin k, g ⟨n + j.val, by omega⟩ := Fin.sum_univ_add g
  rw [s 2560 256 f, s 2048 512 (fun j => f ⟨j.val, by omega⟩), s 1536 512 (fun j => f ⟨j.val, by omega⟩), s 1024 512 (fun j => f ⟨j.val, by omega⟩),
    s 512 512 (fun j => f ⟨j.val, by omega⟩)]
  simp only [Nat.zero_add]

/-- A point's row. -/
theorem rows_at (H : FVec Ideal S512x1024 .bf16) (x2 : Vec Ideal S1024x5632 .bf16) (x3 : Vec Ideal S3x2816 .f32) (x4 : FVec Ideal S1x2816 .f32) (x5 : Vec Ideal S2816x1024 .bf16)
    (T : Vec Ideal S8x2816 .f32) (y : FVec Ideal S512x1024 .f32) :
    rows H x2 x3 x4 x5 T y (ix2 r e) = y (ix2 r e) + ∑ j : Fin 2816, term H x2 x3 x4 x5 T r e j := by
  unfold rows
  rw [chunk2_at r e _ _ _ _ _ _ _ (by omega), chunk5_at r e _ _ _ _ _ _ _ (by omega), chunk5_at r e _ _ _ _ _ _ _ (by omega), chunk5_at r e _ _ _ _ _ _ _ (by omega),
    chunk5_at r e _ _ _ _ _ _ _ (by omega), chunk5_at r e _ _ _ _ _ _ _ (by omega), split]
  simp only [add_assoc]

/-- A kept row. -/
theorem kept_at (H : FVec Ideal S512x1024 .bf16) (x2 : Vec Ideal S1024x5632 .bf16) (i : Fin 8) (j : Fin 2816) :
    kept H x2 (ix2 i j) = upAt H x2 ⟨504 + i.val, by omega⟩ ⟨j.val, by omega⟩ := by
  have p15 (a : FVec Ideal S512x512 .f32) (j : Fin 512) : k0_pay15 (F := Ideal) a (ix2 i j) = a (ix2 ⟨504 + i.val, by omega⟩ j) := by
    pointwise [k0_pay15]
  unfold kept
  rw [pay61_at]
  split_ifs with h h1 h2 h3 h4
  · exact (p15 _ _).trans ((up5 H x2 0 _ (by omega) _ _).trans (congrArg _ (Fin.ext (by show 0 + j.val = j.val; omega))))
  · exact (p15 _ _).trans ((up5 H x2 512 _ (by omega) _ _).trans (congrArg _ (Fin.ext (by show 512 + (j.val - 512) = j.val; omega))))
  · exact (p15 _ _).trans ((up5 H x2 1024 _ (by omega) _ _).trans (congrArg _ (Fin.ext (by show 1024 + (j.val - 1024) = j.val; omega))))
  · exact (p15 _ _).trans ((up5 H x2 1536 _ (by omega) _ _).trans (congrArg _ (Fin.ext (by show 1536 + (j.val - 1536) = j.val; omega))))
  · exact (p15 _ _).trans ((up5 H x2 2048 _ (by omega) _ _).trans (congrArg _ (Fin.ext (by show 2048 + (j.val - 2048) = j.val; omega))))
  · exact (up2 H x2 2560 _ (by omega) _ _).trans (congrArg _ (Fin.ext (by show 2560 + (j.val - 2560) = j.val; omega)))

end Cert.Ffn

end
-- ==== Proof.Ref3.lean ====
/-
  The feed-forward reference as a composition of a few arrays, and each of them read at one index.
-/
module

public import proofs.«01_k».proof.Proof.Gen.Reference3Ideal.Run
public import Idealize.ShloMosaic.Lib.Pipeline.ValueKit

@[expose] public section

set_option maxRecDepth 16384

noncomputable section

namespace Cert.Ref3

open Idealize.ShloMosaic Idealize.ShloMosaic.TcCoe
open Cert.Reference3Ideal Cert.Reference3Ideal.Gen

/-- The hidden rows, normalised. -/
def hid (a0 : FVec Ideal S8x2048x1024 .f32) (a1 : FVec Ideal S1024 .f32) : FVec Ideal S8x2048x1024 .f32 :=
  (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1)))

/-- The products into the hidden width. -/
def up (H : FVec Ideal S8x2048x1024 .f32) (a2 : FVec Ideal S1024x5632 .f32) : FVec Ideal S8x2048x5632 .f32 :=
  (Host.dotGeneral dot_S8x2048x1024_S1024x5632_S8x2048x5632_2_0_01_1_n_n none H a2)

/-- The first half of them, two rows of zeros before. -/
def padded (U : FVec Ideal S8x2048x5632 .f32) : FVec Ideal S8x2050x2816 .f32 :=
  (concatenate S8x2050x2816 1 [⟨S8x2x2816, (broadcastInDim S8x2x2816 ![] bcast_S_S8x2x2816 (constant S_ .f32 0x00000000#32))⟩, ⟨S8x2048x2816, (extractStridedSlice S8x2048x2816 ![0, 0, 0] U slices_S8x2048x5632_S8x2048x2816_0_0_0)⟩] concatenates_S8x2x2816_S8x2048x2816_S8x2050x2816_d1)

/-- Its convolution over three rows. -/
def conv (P : FVec Ideal S8x2050x2816 .f32) (a3 : FVec Ideal S3x2816 .f32) (a4 : FVec Ideal S2816 .f32) : FVec Ideal S8x2048x2816 .f32 :=
  (addf (addf (addf (mulf (extractStridedSlice S8x2048x2816 ![0, 0, 0] P slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast S2816 (extractStridedSlice S1x2816 ![0, 0] a3 slices_S3x2816_S1x2816_0_0) shapeCasts_S1x2816_S2816)))) (mulf (extractStridedSlice S8x2048x2816 ![0, 1, 0] P slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast S2816 (extractStridedSlice S1x2816 ![1, 0] a3 slices_S3x2816_S1x2816_1_0) shapeCasts_S1x2816_S2816))))) (mulf (extractStridedSlice S8x2048x2816 ![0, 2, 0] P slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast S2816 (extractStridedSlice S1x2816 ![2, 0] a3 slices_S3x2816_S1x2816_2_0) shapeCasts_S1x2816_S2816))))) (broadcastInDim S8x2048x2816 ![0, 1, 2] bcast_S1x1x2816_S8x2048x2816_0_1_2 (broadcastInDim S1x1x2816 ![2] bcast_S2816_S1x1x2816_2 a4)))

/-- The convolution through its sigmoid, gated by the second half. -/
def act (C : FVec Ideal S8x2048x2816 .f32) (U : FVec Ideal S8x2048x5632 .f32) : FVec Ideal S8x2048x2816 .f32 :=
  (mulf (mulf C (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf C))))) (extractStridedSlice S8x2048x2816 ![0, 0, 2816] U slices_S8x2048x5632_S8x2048x2816_0_0_2816))

/-- The rows, the gated width brought back and added. -/
def back (a0 : FVec Ideal S8x2048x1024 .f32) (A : FVec Ideal S8x2048x2816 .f32) (a5 : FVec Ideal S2816x1024 .f32) : FVec Ideal S16384x1024 .f32 :=
  shapeCast S16384x1024 (addf a0 (Host.dotGeneral dot_S8x2048x2816_S2816x1024_S8x2048x1024_2_0_01_1_n_n none A a5)) shapeCasts_S8x2048x1024_S16384x1024

/-- The last two rows of the padded half. -/
def last (P : FVec Ideal S8x2050x2816 .f32) : FVec Ideal S8x2x2816 .f32 := extractStridedSlice S8x2x2816 ![0, 2048, 0] P slices_S8x2050x2816_S8x2x2816_0_2048_0

/-- The reference's first result is that composition. -/
theorem res_eq (m : (ℓ : Loc nD τ sig) → Buf (Elt Ideal) ℓ) (c : Dev nD) :
    Cert.Reference3Ideal.Value.res_main_v45 m c
      = back (m ((c.tc : Thread nD τ).loc main_arg0)) (act (conv (padded (up (hid (m ((c.tc : Thread nD τ).loc main_arg0)) (m ((c.tc : Thread nD τ).loc main_arg1))) (m ((c.tc : Thread nD τ).loc main_arg2)))) (m ((c.tc : Thread nD τ).loc main_arg3)) (m ((c.tc : Thread nD τ).loc main_arg4))) (up (hid (m ((c.tc : Thread nD τ).loc main_arg0)) (m ((c.tc : Thread nD τ).loc main_arg1))) (m ((c.tc : Thread nD τ).loc main_arg2)))) (m ((c.tc : Thread nD τ).loc main_arg5)) := by
  unfold Cert.Reference3Ideal.Value.res_main_v45 back act conv padded up hid
  rfl

variable (b : Fin 8) (p : Fin 2048) (d e : Fin 1024)

/-- A hidden element, normalised. -/
theorem hid_at (a0 : FVec Ideal S8x2048x1024 .f32) (a1 : FVec Ideal S1024 .f32) : hid a0 a1 (ix3 b p d)
    = a0 (ix3 b p d) * Ideal.rsqrt (Ideal.div (∑ k : Fin 1024, a0 (ix3 b p k) * a0 (ix3 b p k)) (Ideal.ofBits FTy.f32 0x44800000#32)
        + Ideal.ofBits FTy.f32 0x358637BD#32) * a1 (ix1 d) := by
  pointwise [hid]

/-- An element of the hidden width. -/
theorem up_at (H : FVec Ideal S8x2048x1024 .f32) (a2 : FVec Ideal S1024x5632 .f32) (j : Fin 5632) : up H a2 (ix3 b p j) = ∑ k : Fin 1024, H (ix3 b p k) * a2 (ix2 k j) := by
  pointwise [up]

/-- A padded element. -/
theorem padded_at (U : FVec Ideal S8x2048x5632 .f32) (q : Fin 2050) (j : Fin 2816) : padded U (ix3 b q j)
    = if h : q.val < 2 then 0 else U (ix3 b ⟨q.val - 2, by omega⟩ ⟨j.val, by omega⟩) := by
  pointwise [padded]

/-- A convolved element. -/
theorem conv_at (P : FVec Ideal S8x2050x2816 .f32) (a3 : FVec Ideal S3x2816 .f32) (a4 : FVec Ideal S2816 .f32) (j : Fin 2816) : conv P a3 a4 (ix3 b p j)
    = P (ix3 b ⟨p.val, by omega⟩ j) * a3 (ix2 0 j) + P (ix3 b ⟨1 + p.val, by omega⟩ j) * a3 (ix2 1 j) + P (ix3 b ⟨2 + p.val, by omega⟩ j) * a3 (ix2 2 j) + a4 (ix1 j) := by
  pointwise [conv]

/-- A gated element. -/
theorem act_at (C : FVec Ideal S8x2048x2816 .f32) (U : FVec Ideal S8x2048x5632 .f32) (j : Fin 2816) : act C U (ix3 b p j)
    = C (ix3 b p j) * Ideal.div (Ideal.ofBits FTy.f32 0x3F800000#32) (Ideal.ofBits FTy.f32 0x3F800000#32 + Ideal.exp (-(C (ix3 b p j)))) * U (ix3 b p ⟨2816 + j.val, by omega⟩) := by
  pointwise [act]

/-- A result. -/
theorem back_at (a0 : FVec Ideal S8x2048x1024 .f32) (A : FVec Ideal S8x2048x2816 .f32) (a5 : FVec Ideal S2816x1024 .f32) (i : Fin 16384) : back a0 A a5 (ix2 i e)
    = a0 (ix3 ⟨i.val / 2048, by omega⟩ ⟨i.val % 2048, by omega⟩ e)
      + ∑ j : Fin 2816, A (ix3 ⟨i.val / 2048, by omega⟩ ⟨i.val % 2048, by omega⟩ j) * a5 (ix2 j e) := by
  pointwise [back]

/-- A row of the second result. -/
theorem last_at (P : FVec Ideal S8x2050x2816 .f32) (i : Fin 2) (j : Fin 2816) : last P (ix3 b i j) = P (ix3 b ⟨2048 + i.val, by omega⟩ j) := by
  pointwise [last]

end Cert.Ref3

end
-- ==== Proof.FfnEq.lean ====
/-
  The feed-forward kernel's results are its reference's.
-/
module

public import proofs.«01_k».proof.Proof.FfnPoint
public import proofs.«01_k».proof.Proof.Ref3

@[expose] public section

set_option maxRecDepth 16384

noncomputable section

namespace Cert.Ffn

open Idealize.ShloMosaic Idealize.ShloMosaic.TcCoe
open Cert.Kernel3Ideal Cert.Kernel3Ideal.Gen Cert.Kernel3Ideal.Value

/-! ## A point's blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 4, 0, 0] := (by decide +kernel : ∀ t : Fin grid0.N, _)

theorem N_lt (t : Fin grid0.N) : t.val < 32 := lt_of_lt_of_eq t.isLt (by decide +kernel)

/-- The batch row of a point. -/
def bi (t : Fin grid0.N) : Fin 8 := ⟨t.val / 4, by have := N_lt t; omega⟩
/-- A point's row, as a position of the sequence. -/
def pos (t : Fin grid0.N) (r : Fin 512) : Fin 2048 := ⟨512 * (t.val % 4) + r.val, by omega⟩

variable (m : (ℓ : Loc nD τ sig) → Buf (Elt Ideal) ℓ) (c : Dev nD) (t : Fin grid0.N) (r : Fin 512) (d e : Fin 1024)

theorem blk0 : iblk m c 0 t (ix2 r d) = m ((c.tc : Thread nD τ).loc main_arg0) (ix3 (bi t) (pos t r) d) := by
  blk_point [iblk, V, idx0 t, bi, pos]

theorem blk1 : iblk m c 1 t (ix2 0 d) = m ((c.tc : Thread nD τ).loc main_arg1) (ix1 d) := by
  blk_point [iblk, V, idx1 t]

theorem blk2 (j : Fin 5632) : iblk m c 2 t (ix2 d j) = m ((c.tc : Thread nD τ).loc main_arg2) (ix2 d j) := by
  blk_point [iblk, V, idx2 t]

theorem blk3 (i : Fin 3) (j : Fin 2816) : iblk m c 3 t (ix2 i j) = m ((c.tc : Thread nD τ).loc main_arg3) (ix2 i j) := by
  blk_point [iblk, V, idx3 t]

theorem blk4 (j : Fin 2816) : iblk m c 4 t (ix2 0 j) = m ((c.tc : Thread nD τ).loc main_arg4) (ix1 j) := by
  blk_point [iblk, V, idx4 t]

theorem blk5 (j : Fin 2816) : iblk m c 5 t (ix2 j e) = m ((c.tc : Thread nD τ).loc main_arg5) (ix2 j e) := by
  blk_point [iblk, V, idx5 t]

/-- An element of a point's hidden width is the reference's at the point's position. -/
theorem up_eq (j : Fin 5632) : upAt (k0_pay3 (F := Ideal) (iblk m c 0 t) (iblk m c 1 t)) (iblk m c 2 t) r j = (Cert.Ref3.up (Cert.Ref3.hid (m ((c.tc : Thread nD τ).loc main_arg0)) (m ((c.tc : Thread nD τ).loc main_arg1))) (m ((c.tc : Thread nD τ).loc main_arg2))) (ix3 (bi t) (pos t r) j) := by
  unfold upAt
  simp only [Cert.Ref3.up_at, Cert.Ref3.hid_at, pay3_at, blk0, blk1, blk2]

/-- What a point keeps. -/
theorem kept_eq : (outsAt0 m c t.val t.isLt).2.2 = kept (k0_pay3 (F := Ideal) (iblk m c 0 t) (iblk m c 1 t)) (iblk m c 2 t) := by
  by_cases h0 : t.val % 4 = 0
  · exact kept_A m c t h0 (by omega)
  · by_cases h1 : t.val % 4 = 3
    · exact kept_C m c t h0 h1
    · exact kept_B m c t h0 h1

/-- A kept row, at its position. -/
theorem kept_pos (i : Fin 8) (j : Fin 2816) : (outsAt0 m c t.val t.isLt).2.2 (ix2 i j)
    = (Cert.Ref3.up (Cert.Ref3.hid (m ((c.tc : Thread nD τ).loc main_arg0)) (m ((c.tc : Thread nD τ).loc main_arg1))) (m ((c.tc : Thread nD τ).loc main_arg2))) (ix3 (bi t) (pos t ⟨504 + i.val, by omega⟩) ⟨j.val, by omega⟩) := by
  rw [kept_eq, kept_at, up_eq]

/-- The rows a point finds kept: zeros at the start of a batch row, and else what the point before kept. -/
def held : Vec Ideal S8x2816 .f32 := if t.val % 4 = 0 then k0_pay5 (F := Ideal) else (outsAt0 m c (t.val - 1) (Nat.lt_of_le_of_lt (Nat.sub_le _ _) t.isLt)).2.2

/-- A row a point finds kept is the padded row before its own. -/
theorem held_at (i : Fin 2) (j : Fin 2816) : held m c t (ix2 (⟨6 + i.val, by omega⟩ : Fin 8) j)
    = (Cert.Ref3.padded (Cert.Ref3.up (Cert.Ref3.hid (m ((c.tc : Thread nD τ).loc main_arg0)) (m ((c.tc : Thread nD τ).loc main_arg1))) (m ((c.tc : Thread nD τ).loc main_arg2)))) (ix3 (bi t) ⟨512 * (t.val % 4) + i.val, by omega⟩ j) := by
  rw [Cert.Ref3.padded_at]
  unfold held
  by_cases h0 : t.val % 4 = 0
  · rw [if_pos h0, dif_pos (show 512 * (t.val % 4) + i.val < 2 by omega), pay5_at]
  · rw [if_neg h0, dif_neg (show ¬ 512 * (t.val % 4) + i.val < 2 by omega)]
    refine (kept_pos m c ⟨t.val - 1, Nat.lt_of_le_of_lt (Nat.sub_le _ _) t.isLt⟩ _ j).trans (congrArg (Cert.Ref3.up (Cert.Ref3.hid (m ((c.tc : Thread nD τ).loc main_arg0)) (m ((c.tc : Thread nD τ).loc main_arg1))) (m ((c.tc : Thread nD τ).loc main_arg2))) ?_)
    refine congrArg₂ (fun a b => ix3 a b _) (Fin.ext ?_) (Fin.ext ?_)
    · show (t.val - 1) / 4 = t.val / 4; omega
    · show 512 * ((t.val - 1) % 4) + (504 + (6 + i.val)) = 512 * (t.val % 4) + i.val - 2; omega

/-- What a point stores. -/
theorem out_eq : (outsAt0 m c t.val t.isLt).1
    = rows (k0_pay3 (F := Ideal) (iblk m c 0 t) (iblk m c 1 t)) (iblk m c 2 t) (iblk m c 3 t) (k0_pay4 (F := Ideal) (iblk m c 4 t)) (iblk m c 5 t) (held m c t) (k0_pay2 (F := Ideal) (iblk m c 0 t)) := by
  unfold held
  by_cases h0 : t.val % 4 = 0
  · rw [if_pos h0]; exact out_A m c t h0 (by omega)
  · rw [if_neg h0]
    by_cases h1 : t.val % 4 = 3
    · exact out_C m c t h0 h1
    · exact out_B m c t h0 h1

/-- An element of the padded half that is not padding. -/
theorem padded_up (b : Fin 8) (p : Fin 2048) (q : Fin 2050) (hq : q.val = 2 + p.val) (j : Fin 2816) (U : FVec Ideal Cert.Reference3Ideal.S8x2048x5632 .f32) :
    Cert.Ref3.padded U (ix3 b q j) = U (ix3 b p ⟨j.val, by omega⟩) := by
  rw [Cert.Ref3.padded_at, dif_neg (by omega)]
  exact congrArg (fun p => U (ix3 b p _)) (Fin.ext (by show q.val - 2 = p.val; omega))

/-- The row before a point's row. -/
theorem back1_eq (j : Fin 2816) : back1 (fun r => upAt (k0_pay3 (F := Ideal) (iblk m c 0 t) (iblk m c 1 t)) (iblk m c 2 t) r ⟨j.val, by omega⟩) (held m c t (ix2 7 j)) r
    = (Cert.Ref3.padded (Cert.Ref3.up (Cert.Ref3.hid (m ((c.tc : Thread nD τ).loc main_arg0)) (m ((c.tc : Thread nD τ).loc main_arg1))) (m ((c.tc : Thread nD τ).loc main_arg2)))) (ix3 (bi t) ⟨1 + (pos t r).val, by omega⟩ j) := by
  unfold back1
  by_cases h : r.val = 0
  · rw [if_pos h]
    refine (held_at m c t 1 j).trans (congrArg (fun q => (Cert.Ref3.padded (Cert.Ref3.up (Cert.Ref3.hid (m ((c.tc : Thread nD τ).loc main_arg0)) (m ((c.tc : Thread nD τ).loc main_arg1))) (m ((c.tc : Thread nD τ).loc main_arg2)))) (ix3 (bi t) q j)) (Fin.ext ?_))
    show 512 * (t.val % 4) + 1 = 1 + (512 * (t.val % 4) + r.val); omega
  · rw [if_neg h]
    refine (up_eq m c t _ _).trans (padded_up _ _ _ ?_ j _).symm
    show 1 + (512 * (t.val % 4) + r.val) = 2 + (512 * (t.val % 4) + (r.val - 1)); omega

/-- The row two before a point's row. -/
theorem back2_eq (j : Fin 2816) : back2 (fun r => upAt (k0_pay3 (F := Ideal) (iblk m c 0 t) (iblk m c 1 t)) (iblk m c 2 t) r ⟨j.val, by omega⟩) (held m c t (ix2 6 j)) (held m c t (ix2 7 j)) r
    = (Cert.Ref3.padded (Cert.Ref3.up (Cert.Ref3.hid (m ((c.tc : Thread nD τ).loc main_arg0)) (m ((c.tc : Thread nD τ).loc main_arg1))) (m ((c.tc : Thread nD τ).loc main_arg2)))) (ix3 (bi t) ⟨(pos t r).val, by omega⟩ j) := by
  unfold back2
  by_cases h : r.val = 0
  · rw [if_pos h]
    refine (held_at m c t 0 j).trans (congrArg (fun q => (Cert.Ref3.padded (Cert.Ref3.up (Cert.Ref3.hid (m ((c.tc : Thread nD τ).loc main_arg0)) (m ((c.tc : Thread nD τ).loc main_arg1))) (m ((c.tc : Thread nD τ).loc main_arg2)))) (ix3 (bi t) q j)) (Fin.ext ?_))
    show 512 * (t.val % 4) + 0 = 512 * (t.val % 4) + r.val; omega
  · rw [if_neg h]
    by_cases h1 : r.val = 1
    · rw [if_pos h1]
      refine (held_at m c t 1 j).trans (congrArg (fun q => (Cert.Ref3.padded (Cert.Ref3.up (Cert.Ref3.hid (m ((c.tc : Thread nD τ).loc main_arg0)) (m ((c.tc : Thread nD τ).loc main_arg1))) (m ((c.tc : Thread nD τ).loc main_arg2)))) (ix3 (bi t) q j)) (Fin.ext ?_))
      show 512 * (t.val % 4) + 1 = 512 * (t.val % 4) + r.val; omega
    · rw [if_neg h1]
      refine (up_eq m c t _ _).trans (padded_up _ _ _ ?_ j _).symm
      show 512 * (t.val % 4) + r.val = 2 + (512 * (t.val % 4) + (r.val - 2)); omega

/-- A hidden column's share of a row is the reference's. -/
theorem term_eq (j : Fin 2816) : term (k0_pay3 (F := Ideal) (iblk m c 0 t) (iblk m c 1 t)) (iblk m c 2 t) (iblk m c 3 t) (k0_pay4 (F := Ideal) (iblk m c 4 t)) (iblk m c 5 t) (held m c t) r e j
    = Cert.Ref3.act (Cert.Ref3.conv (Cert.Ref3.padded (Cert.Ref3.up (Cert.Ref3.hid (m ((c.tc : Thread nD τ).loc main_arg0)) (m ((c.tc : Thread nD τ).loc main_arg1))) (m ((c.tc : Thread nD τ).loc main_arg2)))) (m ((c.tc : Thread nD τ).loc main_arg3)) (m ((c.tc : Thread nD τ).loc main_arg4))) (Cert.Ref3.up (Cert.Ref3.hid (m ((c.tc : Thread nD τ).loc main_arg0)) (m ((c.tc : Thread nD τ).loc main_arg1))) (m ((c.tc : Thread nD τ).loc main_arg2))) (ix3 (bi t) (pos t r) j) * (m ((c.tc : Thread nD τ).loc main_arg5)) (ix2 j e) := by
  unfold term
  rw [back1_eq, back2_eq, up_eq, up_eq, Cert.Ref3.act_at, Cert.Ref3.conv_at, padded_up (bi t) (pos t r) ⟨2 + (pos t r).val, by omega⟩ rfl]
  simp only [pay4_at, blk3, blk4, blk5]
  rfl

/-- The kernel's rows are the reference's. -/
theorem final_eq : (dats m 0 c).arrAt 6 cfg0.N
      = Cert.Ref3.back (m ((c.tc : Thread nD τ).loc main_arg0)) (Cert.Ref3.act (Cert.Ref3.conv (Cert.Ref3.padded (Cert.Ref3.up (Cert.Ref3.hid (m ((c.tc : Thread nD τ).loc main_arg0)) (m ((c.tc : Thread nD τ).loc main_arg1))) (m ((c.tc : Thread nD τ).loc main_arg2)))) (m ((c.tc : Thread nD τ).loc main_arg3)) (m ((c.tc : Thread nD τ).loc main_arg4))) (Cert.Ref3.up (Cert.Ref3.hid (m ((c.tc : Thread nD τ).loc main_arg0)) (m ((c.tc : Thread nD τ).loc main_arg1))) (m ((c.tc : Thread nD τ).loc main_arg2)))) (m ((c.tc : Thread nD τ).loc main_arg5)) := by
  refine (dats m 0 c).arrAt_eq_of_covers 6 _ (by decide +kernel) fun t hf y => ?_
  blk_simp
  rw [after0_6]
  idx_vars y
  have hN := N_lt t
  have eb : (⟨(512 * t.val + y0.val) / 2048, by omega⟩ : Fin 8) = bi t := Fin.ext (by show (512 * t.val + y0.val) / 2048 = t.val / 4; omega)
  have ep : (⟨(512 * t.val + y0.val) % 2048, by omega⟩ : Fin 2048) = pos t y0 := Fin.ext (by show (512 * t.val + y0.val) % 2048 = 512 * (t.val % 4) + y0.val; omega)
  refine (congrFun (out_eq m c t) _).trans ((rows_at y0 y1 _ _ _ _ _ _ _).trans (Eq.trans ?_ (congrArg _ (by blk_ext [idx6 t] : ix2 (⟨512 * t.val + y0.val, by omega⟩ : Fin 16384) y1 = _))))
  rw [Cert.Ref3.back_at, pay2_at, blk0]
  simp only [eb, ep, term_eq]

/-- The kernel's last rows are the reference's. -/
theorem final_eq7 : (dats m 0 c).arrAt 7 cfg0.N = Cert.Ref3.last (Cert.Ref3.padded (Cert.Ref3.up (Cert.Ref3.hid (m ((c.tc : Thread nD τ).loc main_arg0)) (m ((c.tc : Thread nD τ).loc main_arg1))) (m ((c.tc : Thread nD τ).loc main_arg2)))) := by
  refine (dats m 0 c).arrAt_eq_of_covers 7 _ (by decide +kernel) fun t hf y => ?_
  have h3 : t.val % 4 = 3 := (flush0_7 t).mp hf
  blk_simp
  rw [after0_7]
  idx_vars y
  have hN := N_lt t
  refine (congrFun (tail_C m c t (by omega) h3) _).trans (Eq.trans ?_ (congrArg _ (by blk_ext [idx7 t, bi] : ix3 (bi t) y1 y2 = _)))
  have z : y0 = 0 := Subsingleton.elim _ _
  subst z
  refine (pay1_at _ y1 y2).trans ?_
  rw [kept_at, up_eq, Cert.Ref3.last_at, padded_up (bi t) (pos t ⟨504 + (6 + y1.val), by omega⟩)]
  show 2048 + y1.val = 2 + (512 * (t.val % 4) + (504 + (6 + y1.val))); omega

end Cert.Ffn

end
-- ==== Proof.Proj.lean ====
/-
  What the projection of the sample rows stores, read at one index.
-/
module

public import proofs.«01_k».proof.Proof.Gen.Kernel4Ideal.Value
public import Idealize.ShloMosaic.Lib.Pipeline.ValueKit

@[expose] public section

set_option maxRecDepth 16384

noncomputable section

namespace Cert.Proj

open Idealize.ShloMosaic Idealize.ShloMosaic.TcCoe
open Cert.Kernel4Ideal Cert.Kernel4Ideal.Gen Cert.Kernel4Ideal.Value

variable (r : Fin 512) (d : Fin 1024)

/-- The normalised rows. -/
theorem pay1_at (x : Vec Ideal S512x1024 .f32) (g : Vec Ideal S1x1024 .f32) : k0_pay1 (F := Ideal) x g (ix2 r d)
    = x (ix2 r d) * Ideal.rsqrt (Ideal.div (∑ k : Fin 1024, x (ix2 r k) * x (ix2 r k)) (Ideal.ofBits FTy.f32 0x44800000#32)
        + Ideal.ofBits FTy.f32 0x358637BD#32) * g (ix2 0 d) := by
  pointwise [k0_pay1]

/-- The first product. -/
theorem pay5_at (x : Vec Ideal S512x1024 .f32) (g : Vec Ideal S1x1024 .f32) (w : Vec Ideal S1024x512 .bf16) (j : Fin 512) :
    k0_pay5 (F := Ideal) x g w (ix2 r j) = ∑ k : Fin 1024, k0_pay1 (F := Ideal) x g (ix2 r k) * w (ix2 k j) := by
  pointwise [k0_pay5]

/-- The normalised latent columns. -/
theorem pay31_at (v : FVec Ideal S512x512 .f32) (g : Vec Ideal S1x128 .f32) (j : Fin 128) : k0_pay31 (F := Ideal) v g (ix2 r j)
    = v (ix2 r ⟨256 + j.val, by omega⟩) * Ideal.rsqrt (Ideal.div (∑ k : Fin 128, v (ix2 r ⟨256 + k.val, by omega⟩) * v (ix2 r ⟨256 + k.val, by omega⟩)) (Ideal.ofBits FTy.f32 0x43000000#32)
        + Ideal.ofBits FTy.f32 0x358637BD#32) * g (ix2 0 j) := by
  pointwise [k0_pay31]

theorem pay32_at (v : FVec Ideal S512x512 .f32) (j : Fin 128) : k0_pay32 (F := Ideal) v (ix2 r j) = v (ix2 r ⟨384 + j.val, by omega⟩) := by
  pointwise [k0_pay32]

/-- The rotated columns' reciprocal root mean square: a sum over 128 lanes, divided by 32. -/
theorem pay33_at (v : FVec Ideal S512x512 .f32) : k0_pay33 (F := Ideal) v (ix2 r 0)
    = Ideal.rsqrt ((∑ k : Fin 128, v (ix2 r ⟨384 + k.val, by omega⟩) * v (ix2 r ⟨384 + k.val, by omega⟩)) * Ideal.ofBits FTy.f32 0x3D000000#32
        + Ideal.ofBits FTy.f32 0x358637BD#32) := by
  pointwise [k0_pay33, k0_pay32]

theorem pay3_at (x : Vec Ideal S512x512 .f32) (j : Fin 128) : k0_pay3 (F := Ideal) x (ix2 r j) = x (ix2 r ⟨256 + j.val, by omega⟩) := by
  pointwise [k0_pay3, k0_pay2]

theorem pay4_at (x : Vec Ideal S512x512 .f32) (j : Fin 128) : k0_pay4 (F := Ideal) x (ix2 r j) = x (ix2 r ⟨384 + j.val, by omega⟩) := by
  pointwise [k0_pay4, k0_pay2]

/-- The second product's middle columns. -/
theorem pay37_at (h : FVec Ideal S512x1024 .bf16) (w : Vec Ideal S1024x1536 .bf16) (j : Fin 512) :
    k0_pay37 (F := Ideal) h w (ix2 r j) = ∑ k : Fin 1024, h (ix2 r k) * w (ix2 k ⟨512 + j.val, by omega⟩) := by
  pointwise [k0_pay37, k0_pay35]

/-- The second product's last columns. -/
theorem pay38_at (h : FVec Ideal S512x1024 .bf16) (w : Vec Ideal S1024x1536 .bf16) (j : Fin 512) :
    k0_pay38 (F := Ideal) h w (ix2 r j) = ∑ k : Fin 1024, h (ix2 r k) * w (ix2 k ⟨1024 + j.val, by omega⟩) := by
  pointwise [k0_pay38, k0_pay35]

/-- The third product's last columns. -/
theorem pay47_at (h : FVec Ideal S512x1024 .bf16) (w : Vec Ideal S1024x1536 .bf16) (j : Fin 512) :
    k0_pay47 (F := Ideal) (k0_pay39 (F := Ideal) h w) (ix2 r j) = ∑ k : Fin 1024, h (ix2 r k) * w (ix2 k ⟨1024 + j.val, by omega⟩) := by
  pointwise [k0_pay47, k0_pay39]

/-! ## The rotation -/

theorem lane_lo : ∀ j : Fin 16, IntOp.cmpi .slt (BitVec.ofNat 32 j.val) 16#32 = 1#1 := by decide
theorem lane_hi : ∀ j : Fin 16, IntOp.cmpi .slt (BitVec.ofNat 32 (16 + j.val)) 16#32 = 0#1 := by decide

/-- One scaled lane. -/
def scaled (v : FVec Ideal S512x128 .f32) (q : FVec Ideal S512x1 .f32) (g : Vec Ideal S1x128 .f32) (j : Fin 128) : EReal :=
  v (ix2 r j) * q (ix2 r 0) * g (ix2 0 j)

theorem pay34_lo (C S : FVec Ideal S512x128 .f32) (v : FVec Ideal S512x128 .f32) (q : FVec Ideal S512x1 .f32) (g : Vec Ideal S1x128 .f32) (j : Fin 16) :
    k0_pay34 (F := Ideal) C S (iota .tc S512x128 32 [1] iota_S512x128_d1_w32) v q g (ix2 r ⟨j.val, by omega⟩)
      = scaled r v q g ⟨j.val, by omega⟩ * C (ix2 r ⟨j.val, by omega⟩) + scaled r v q g ⟨16 + j.val, by omega⟩ * S (ix2 r ⟨j.val, by omega⟩) := by
  pointwise [k0_pay34, scaled]
  have e0 : (⟨(j.val + 128 - 112) % 128, Nat.mod_lt _ (by omega)⟩ : Fin 128) = ⟨16 + j.val, by omega⟩ := Fin.ext (by show (j.val + 128 - 112) % 128 = 16 + j.val; omega)
  rw [lane_lo, e0]
  rfl

theorem pay34_hi (C S : FVec Ideal S512x128 .f32) (v : FVec Ideal S512x128 .f32) (q : FVec Ideal S512x1 .f32) (g : Vec Ideal S1x128 .f32) (j : Fin 16) :
    k0_pay34 (F := Ideal) C S (iota .tc S512x128 32 [1] iota_S512x128_d1_w32) v q g (ix2 r ⟨16 + j.val, by omega⟩)
      = scaled r v q g ⟨16 + j.val, by omega⟩ * C (ix2 r ⟨16 + j.val, by omega⟩) + scaled r v q g ⟨j.val, by omega⟩ * S (ix2 r ⟨16 + j.val, by omega⟩) := by
  pointwise [k0_pay34, scaled]
  have e0 : (⟨(16 + j.val + 128 - 16) % 128, Nat.mod_lt _ (by omega)⟩ : Fin 128) = ⟨j.val, by omega⟩ := Fin.ext (by show (16 + j.val + 128 - 16) % 128 = j.val; omega)
  rw [lane_hi, e0]
  rfl

/-! ## What the point reads of its blocks -/

theorem ld0 (x : Vec Ideal S512x1024 .f32) : View.ld x r0_0 = x := by
  funext y
  idx_vars y
  refine congrArg x (funext fun a => Fin.ext ?_)
  match a with
  | ⟨0, _⟩ => show 0 + 1 * y0.val = y0.val; omega
  | ⟨1, _⟩ => show 0 + 1 * y1.val = y1.val; omega

theorem ld1 (x : Vec Ideal S1x1024 .f32) : View.ld x r0_1 = x := by
  funext y
  idx_vars y
  refine congrArg x (funext fun a => Fin.ext ?_)
  match a with
  | ⟨0, _⟩ => show 0 + 1 * y0.val = y0.val; omega
  | ⟨1, _⟩ => show 0 + 1 * y1.val = y1.val; omega

theorem ld7 (x : Vec Ideal S1x128 .f32) : View.ld x r0_19 = x := by
  funext y
  idx_vars y
  refine congrArg x (funext fun a => Fin.ext ?_)
  match a with
  | ⟨0, _⟩ => show 0 + 1 * y0.val = y0.val; omega
  | ⟨1, _⟩ => show 0 + 1 * y1.val = y1.val; omega

theorem ld9 (x : Vec Ideal S512x512 .f32) : View.ld x r0_2 = x := by
  funext y
  idx_vars y
  refine congrArg x (funext fun a => Fin.ext ?_)
  match a with
  | ⟨0, _⟩ => show 0 + 1 * y0.val = y0.val; omega
  | ⟨1, _⟩ => show 0 + 1 * y1.val = y1.val; omega

theorem ld2a (x : Vec Ideal S1024x3584 .bf16) (i : Fin 1024) (j : Fin 512) : View.ld x r0_3 (ix2 i j) = x (ix2 i ⟨0 + j.val, by omega⟩) := by
  refine congrArg x (funext fun a => Fin.ext ?_)
  match a with
  | ⟨0, _⟩ => show 0 + 1 * i.val = i.val; omega
  | ⟨1, _⟩ => show 0 + 1 * j.val = 0 + j.val; omega

theorem ld2b (x : Vec Ideal S1024x3584 .bf16) (i : Fin 1024) (j : Fin 1536) : View.ld x r0_22 (ix2 i j) = x (ix2 i ⟨512 + j.val, by omega⟩) := by
  refine congrArg x (funext fun a => Fin.ext ?_)
  match a with
  | ⟨0, _⟩ => show 0 + 1 * i.val = i.val; omega
  | ⟨1, _⟩ => show 512 + 1 * j.val = 512 + j.val; omega

theorem ld2c (x : Vec Ideal S1024x3584 .bf16) (i : Fin 1024) (j : Fin 1536) : View.ld x r0_23 (ix2 i j) = x (ix2 i ⟨2048 + j.val, by omega⟩) := by
  refine congrArg x (funext fun a => Fin.ext ?_)
  match a with
  | ⟨0, _⟩ => show 0 + 1 * i.val = i.val; omega
  | ⟨1, _⟩ => show 2048 + 1 * j.val = 2048 + j.val; omega

/-- One entry of the projection. -/
def prod (x0 : Vec Ideal S512x1024 .f32) (x1 : Vec Ideal S1x1024 .f32) (x2 : Vec Ideal S1024x3584 .bf16) (r : Fin 512) (j : Fin 3584) : EReal :=
  ∑ k : Fin 1024, k0_pay1 (F := Ideal) x0 x1 (ix2 r k) * x2 (ix2 k j)

theorem first_at (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 512) :
    k0_pay49 (F := Ideal) x0 x1 x2 x3 x4 x5 x6 x7 x8 x9 x10 x11 x12 (ix2 r j) = prod x0 x1 x2 r ⟨j.val, by omega⟩ := by
  unfold k0_pay49 prod
  refine (pay5_at r _ _ _ j).trans ?_
  rw [ld0, ld1]
  refine Finset.sum_congr rfl fun k _ => congrArg _ ((ld2a x2 k j).trans (congrArg (fun q => x2 (ix2 k q)) (Fin.ext ?_)))
  show 0 + j.val = j.val; omega

theorem out17_at (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 512) :
    out0_17 (F := Ideal) x0 x1 x2 x3 x4 x5 x6 x7 x8 x9 x10 x11 x12 (ix2 r j) = prod x0 x1 x2 r ⟨1024 + j.val, by omega⟩ := by
  frame_out
  refine (pay37_at r _ _ j).trans ?_
  unfold k0_pay48 prod
  rw [ld0, ld1]
  refine Finset.sum_congr rfl fun k _ => congrArg _ ((ld2b x2 k _).trans (congrArg (fun q => x2 (ix2 k q)) (Fin.ext ?_)))
  show 512 + (512 + j.val) = 1024 + j.val; omega

theorem out18_at (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 512) :
    out0_18 (F := Ideal) x0 x1 x2 x3 x4 x5 x6 x7 x8 x9 x10 x11 x12 (ix2 r j) = prod x0 x1 x2 r ⟨1536 + j.val, by omega⟩ := by
  frame_out
  refine (pay38_at r _ _ j).trans ?_
  unfold k0_pay48 prod
  rw [ld0, ld1]
  refine Finset.sum_congr rfl fun k _ => congrArg _ ((ld2b x2 k _).trans (congrArg (fun q => x2 (ix2 k q)) (Fin.ext ?_)))
  show 512 + (1024 + j.val) = 1536 + j.val; omega

theorem out21_at (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 512) :
    out0_21 (F := Ideal) x0 x1 x2 x3 x4 x5 x6 x7 x8 x9 x10 x11 x12 (ix2 r j) = prod x0 x1 x2 r ⟨3072 + j.val, by omega⟩ := by
  frame_out
  refine (pay47_at r _ _ j).trans ?_
  unfold k0_pay48 prod
  rw [ld0, ld1]
  refine Finset.sum_congr rfl fun k _ => congrArg _ ((ld2c x2 k _).trans (congrArg (fun q => x2 (ix2 k q)) (Fin.ext ?_)))
  show 2048 + (1024 + j.val) = 3072 + j.val; omega

theorem out14_at (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 128) :
    out0_14 (F := Ideal) x0 x1 x2 x3 x4 x5 x6 x7 x8 x9 x10 x11 x12 (ix2 r j)
      = prod x0 x1 x2 r ⟨256 + j.val, by omega⟩ * Ideal.rsqrt (Ideal.div (∑ k : Fin 128, prod x0 x1 x2 r ⟨256 + k.val, by omega⟩ * prod x0 x1 x2 r ⟨256 + k.val, by omega⟩) (Ideal.ofBits FTy.f32 0x43000000#32)
        + Ideal.ofBits FTy.f32 0x358637BD#32) * x7 (ix2 0 j) := by
  frame_out
  refine (pay31_at r _ _ j).trans ?_
  simp only [first_at]

/-- One normalised, scaled lane of the columns to rotate. -/
def lane (x0 : Vec Ideal S512x1024 .f32) (x1 : Vec Ideal S1x1024 .f32) (x2 : Vec Ideal S1024x3584 .bf16) (x8 : Vec Ideal S1x128 .f32) (r : Fin 512) (j : Fin 128) : EReal :=
  prod x0 x1 x2 r ⟨384 + j.val, by omega⟩ * Ideal.rsqrt ((∑ k : Fin 128, prod x0 x1 x2 r ⟨384 + k.val, by omega⟩ * prod x0 x1 x2 r ⟨384 + k.val, by omega⟩) * Ideal.ofBits FTy.f32 0x3D000000#32
        + Ideal.ofBits FTy.f32 0x358637BD#32) * x8 (ix2 0 j)

theorem out15_lo (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 16) :
    out0_15 (F := Ideal) x0 x1 x2 x3 x4 x5 x6 x7 x8 x9 x10 x11 x12 (ix2 r ⟨j.val, by omega⟩)
      = lane x0 x1 x2 x8 r ⟨j.val, by omega⟩ * x9 (ix2 r ⟨256 + j.val, by omega⟩) + lane x0 x1 x2 x8 r ⟨16 + j.val, by omega⟩ * x9 (ix2 r ⟨384 + j.val, by omega⟩) := by
  frame_out
  refine (pay34_lo r _ _ _ _ _ j).trans ?_
  simp only [scaled, lane, pay3_at, pay4_at, pay32_at, pay33_at, first_at]

theorem out15_hi (x0 : Vec Ideal S512x1024 .f32) (x1 : Vec Ideal S1x1024 .f32) (x2 : Vec Ideal S1024x3584 .bf16) (x3 : Vec Ideal S1x256 .f32) (x4 : Vec Ideal S256x1024 .bf16) (x5 : Vec Ideal S256x256 .bf16) (x6 : Vec Ideal S1x1024 .f32) (x7 x8 : Vec Ideal S1x128 .f32) (x9 : Vec Ideal S512x512 .f32) (x10 : Vec Ideal S256x256 .bf16) (x11 x12 : Vec Ideal S1x512 .f32) (j : Fin 16) :
    out0_15 (F := Ideal) x0 x1 x2 x3 x4 x5 x6 x7 x8 x9 x10 x11 x12 (ix2 r ⟨16 + j.val, by omega⟩)
      = lane x0 x1 x2 x8 r ⟨16 + j.val, by omega⟩ * x9 (ix2 r ⟨256 + (16 + j.val), by omega⟩) + lane x0 x1 x2 x8 r ⟨j.val, by omega⟩ * x9 (ix2 r ⟨384 + (16 + j.val), by omega⟩) := by
  frame_out
  refine (pay34_hi r _ _ _ _ _ j).trans ?_
  simp only [scaled, lane, pay3_at, pay4_at, pay32_at, pay33_at, first_at]

end Cert.Proj

end
-- ==== Proof.Ref4.lean ====
/-
  The sample projection's reference as a composition of a few arrays, and each of them read at one index.
-/
module

public import proofs.«01_k».proof.Proof.Gen.Reference4Ideal.Run
public import Idealize.ShloMosaic.Lib.Pipeline.ValueKit

@[expose] public section

set_option maxRecDepth 16384

noncomputable section

namespace Cert.Ref4

open Idealize.ShloMosaic Idealize.ShloMosaic.TcCoe
open Cert.Reference4Ideal Cert.Reference4Ideal.Gen

/-- The rows, normalised. -/
def hid (a0 : FVec Ideal S16x32x1024 .f32) (a1 : FVec Ideal S1024 .f32) : FVec Ideal S16x32x1024 .f32 :=
  (mulf (mulf a0 (broadcastInDim S16x32x1024 ![0, 1, 2] bcast_S16x32x1_S16x32x1024_0_1_2 (Host.rsqrt (addf (Host.divf (broadcastInDim S16x32x1 ![0, 1] bcast_S16x32_S16x32x1_0_1 (Host.reduceAdd (mulf a0 a0) (constant S_ .f32 0x00000000#32) reducesTo_S16x32x1024_S16x32_d2 h_S_)) (broadcastInDim S16x32x1 ![] bcast_S_S16x32x1 (constant S_ .f32 0x44800000#32))) (broadcastInDim S16x32x1 ![] bcast_S_S16x32x1 (constant S_ .f32 0x358637BD#32)))))) (broadcastInDim S16x32x1024 ![0, 1, 2] bcast_S1x1x1024_S16x32x1024_0_1_2 (broadcastInDim S1x1x1024 ![2] bcast_S1024_S1x1x1024_2 a1)))

/-- The projected rows. -/
def proj (H : FVec Ideal S16x32x1024 .f32) (a2 : FVec Ideal S1024x6560 .f32) : FVec Ideal S16x32x6560 .f32 :=
  (Host.dotGeneral dot_S16x32x1024_S1024x6560_S16x32x6560_2_0_01_1_n_n none H a2)

/-- The latent rows. -/
def latent (Z : FVec Ideal S16x32x6560 .f32) (a5 : FVec Ideal S128 .f32) : FVec Ideal S512x128 .f32 :=
  shapeCast S512x128 (mulf (mulf (extractStridedSlice S16x32x128 ![0, 0, 256] Z slices_S16x32x6560_S16x32x128_0_0_256) (broadcastInDim S16x32x128 ![0, 1, 2] bcast_S16x32x1_S16x32x128_0_1_2 (Host.rsqrt (addf (Host.divf (broadcastInDim S16x32x1 ![0, 1] bcast_S16x32_S16x32x1_0_1 (Host.reduceAdd (mulf (extractStridedSlice S16x32x128 ![0, 0, 256] Z slices_S16x32x6560_S16x32x128_0_0_256) (extractStridedSlice S16x32x128 ![0, 0, 256] Z slices_S16x32x6560_S16x32x128_0_0_256)) (constant S_ .f32 0x00000000#32) reducesTo_S16x32x128_S16x32_d2 h_S_)) (broadcastInDim S16x32x1 ![] bcast_S_S16x32x1 (constant S_ .f32 0x43000000#32))) (broadcastInDim S16x32x1 ![] bcast_S_S16x32x1 (constant S_ .f32 0x358637BD#32)))))) (broadcastInDim S16x32x128 ![0, 1, 2] bcast_S1x1x128_S16x32x128_0_1_2 (broadcastInDim S1x1x128 ![2] bcast_S128_S1x1x128_2 a5))) shapeCasts_S16x32x128_S512x128

/-- The decoupled key before its rotation. -/
def keys (Z : FVec Ideal S16x32x6560 .f32) (a8 : FVec Ideal S32 .f32) : FVec Ideal S16x32x32 .f32 :=
  (mulf (mulf (extractStridedSlice S16x32x32 ![0, 0, 384] Z slices_S16x32x6560_S16x32x32_0_0_384) (broadcastInDim S16x32x32 ![0, 1, 2] bcast_S16x32x1_S16x32x32_0_1_2 (Host.rsqrt (addf (Host.divf (broadcastInDim S16x32x1 ![0, 1] bcast_S16x32_S16x32x1_0_1 (Host.reduceAdd (mulf (extractStridedSlice S16x32x32 ![0, 0, 384] Z slices_S16x32x6560_S16x32x32_0_0_384) (extractStridedSlice S16x32x32 ![0, 0, 384] Z slices_S16x32x6560_S16x32x32_0_0_384)) (constant S_ .f32 0x00000000#32) reducesTo_S16x32x32_S16x32_d2 h_S_)) (broadcastInDim S16x32x1 ![] bcast_S_S16x32x1 (constant S_ .f32 0x42000000#32))) (broadcastInDim S16x32x1 ![] bcast_S_S16x32x1 (constant S_ .f32 0x358637BD#32)))))) (broadcastInDim S16x32x32 ![0, 1, 2] bcast_S1x1x32_S16x32x32_0_1_2 (broadcastInDim S1x1x32 ![2] bcast_S32_S1x1x32_2 a8)))

/-- The angles. -/
def angles : FVec Ideal S32x16 .f32 :=
  (mulf (broadcastInDim S32x16 ![0, 1] bcast_S32x1_S32x16_0_1 (broadcastInDim S32x1 ![0] bcast_S32_S32x1_0 (sitofp .f32 (addi (broadcastInDim S32 ![] bcast_S_S32 (constantI S_ 32 4096#32)) (iotaInDim S32 32 0))))) (broadcastInDim S32x16 ![0, 1] bcast_S1x16_S32x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))

/-- The decoupled key, rotated. -/
def rotated (N : FVec Ideal S16x32x32 .f32) (A : FVec Ideal S32x16 .f32) : FVec Ideal S512x32 .f32 :=
  shapeCast S512x32 (concatenate S16x32x32 2 [⟨S16x32x16, (subf (mulf (extractStridedSlice S16x32x16 ![0, 0, 0] N slices_S16x32x32_S16x32x16_0_0_0) (broadcastInDim S16x32x16 ![0, 1, 2] bcast_S1x32x16_S16x32x16_0_1_2 (broadcastInDim S1x32x16 ![1, 2] bcast_S32x16_S1x32x16_1_2 (Host.cos A)))) (mulf (extractStridedSlice S16x32x16 ![0, 0, 16] N slices_S16x32x32_S16x32x16_0_0_16) (broadcastInDim S16x32x16 ![0, 1, 2] bcast_S1x32x16_S16x32x16_0_1_2 (broadcastInDim S1x32x16 ![1, 2] bcast_S32x16_S1x32x16_1_2 (Host.sin A)))))⟩, ⟨S16x32x16, (addf (mulf (extractStridedSlice S16x32x16 ![0, 0, 0] N slices_S16x32x32_S16x32x16_0_0_0) (broadcastInDim S16x32x16 ![0, 1, 2] bcast_S1x32x16_S16x32x16_0_1_2 (broadcastInDim S1x32x16 ![1, 2] bcast_S32x16_S1x32x16_1_2 (Host.sin A)))) (mulf (extractStridedSlice S16x32x16 ![0, 0, 16] N slices_S16x32x32_S16x32x16_0_0_16) (broadcastInDim S16x32x16 ![0, 1, 2] bcast_S1x32x16_S16x32x16_0_1_2 (broadcastInDim S1x32x16 ![1, 2] bcast_S32x16_S1x32x16_1_2 (Host.cos A)))))⟩] concatenates_S16x32x16_S16x32x16_S16x32x32_d2) shapeCasts_S16x32x32_S512x32

/-- The stick-breaking keys. -/
def skeys (Z : FVec Ideal S16x32x6560 .f32) : FVec Ideal S512x512 .f32 :=
  shapeCast S512x512 (extractStridedSlice S16x32x512 ![0, 0, 928] Z slices_S16x32x6560_S16x32x512_0_0_928) shapeCasts_S16x32x512_S512x512

/-- The stick-breaking values. -/
def svals (Z : FVec Ideal S16x32x6560 .f32) : FVec Ideal S512x512 .f32 :=
  shapeCast S512x512 (extractStridedSlice S16x32x512 ![0, 0, 1440] Z slices_S16x32x6560_S16x32x512_0_0_1440) shapeCasts_S16x32x512_S512x512

/-- The differential attention's values. -/
def dvals (Z : FVec Ideal S16x32x6560 .f32) : FVec Ideal S512x512 .f32 :=
  shapeCast S512x512 (extractStridedSlice S16x32x512 ![0, 0, 2976] Z slices_S16x32x6560_S16x32x512_0_0_2976) shapeCasts_S16x32x512_S512x512

/-- The rotated key's result is that composition. -/
theorem res_eq (m : (ℓ : Loc nD τ sig) → Buf (Elt Ideal) ℓ) (c : Dev nD) :
    Cert.Reference4Ideal.Value.res_main_v80 m c
      = rotated (keys (proj (hid (m ((c.tc : Thread nD τ).loc main_arg0)) (m ((c.tc : Thread nD τ).loc main_arg1))) (m ((c.tc : Thread nD τ).loc main_arg2))) (m ((c.tc : Thread nD τ).loc main_arg8))) angles := by
  unfold Cert.Reference4Ideal.Value.res_main_v80 rotated keys proj hid angles
  rfl

variable (b : Fin 16) (p : Fin 32) (i : Fin 512)

/-- The batch row of a row. -/
def bat (i : Fin 512) : Fin 16 := ⟨i.val / 32, by omega⟩
/-- The position of a row. -/
def tok (i : Fin 512) : Fin 32 := ⟨i.val % 32, by omega⟩

/-- A hidden element, normalised. -/
theorem hid_at (d : Fin 1024) (a0 : FVec Ideal S16x32x1024 .f32) (a1 : FVec Ideal S1024 .f32) : hid a0 a1 (ix3 b p d)
    = a0 (ix3 b p d) * Ideal.rsqrt (Ideal.div (∑ k : Fin 1024, a0 (ix3 b p k) * a0 (ix3 b p k)) (Ideal.ofBits FTy.f32 0x44800000#32)
        + Ideal.ofBits FTy.f32 0x358637BD#32) * a1 (ix1 d) := by
  pointwise [hid]

/-- A projected element. -/
theorem proj_at (j : Fin 6560) (H : FVec Ideal S16x32x1024 .f32) (a2 : FVec Ideal S1024x6560 .f32) : proj H a2 (ix3 b p j)
    = ∑ d : Fin 1024, H (ix3 b p d) * a2 (ix2 d j) := by
  pointwise [proj]

/-- A latent element. -/
theorem latent_at (j : Fin 128) (Z : FVec Ideal S16x32x6560 .f32) (a5 : FVec Ideal S128 .f32) : latent Z a5 (ix2 i j)
    = Z (ix3 (bat i) (tok i) ⟨256 + j.val, by omega⟩) * Ideal.rsqrt (Ideal.div (∑ k : Fin 128, Z (ix3 (bat i) (tok i) ⟨256 + k.val, by omega⟩)
        * Z (ix3 (bat i) (tok i) ⟨256 + k.val, by omega⟩)) (Ideal.ofBits FTy.f32 0x43000000#32)
        + Ideal.ofBits FTy.f32 0x358637BD#32) * a5 (ix1 j) := by
  pointwise [latent, bat, tok]

/-- A key's element before its rotation. -/
theorem keys_at (j : Fin 32) (Z : FVec Ideal S16x32x6560 .f32) (a8 : FVec Ideal S32 .f32) : keys Z a8 (ix3 b p j)
    = Z (ix3 b p ⟨384 + j.val, by omega⟩) * Ideal.rsqrt (Ideal.div (∑ k : Fin 32, Z (ix3 b p ⟨384 + k.val, by omega⟩)
        * Z (ix3 b p ⟨384 + k.val, by omega⟩)) (Ideal.ofBits FTy.f32 0x42000000#32)
        + Ideal.ofBits FTy.f32 0x358637BD#32) * a8 (ix1 j) := by
  pointwise [keys]

/-- The rotated key's first half. -/
theorem rotated_lo (j : Fin 16) (N : FVec Ideal S16x32x32 .f32) (A : FVec Ideal S32x16 .f32) : rotated N A (ix2 i ⟨j.val, by omega⟩)
    = N (ix3 (bat i) (tok i) ⟨j.val, by omega⟩) * Ideal.cos (A (ix2 (tok i) j))
      - N (ix3 (bat i) (tok i) ⟨16 + j.val, by omega⟩) * Ideal.sin (A (ix2 (tok i) j)) := by
  pointwise [rotated, bat, tok]

/-- The rotated key's second half. -/
theorem rotated_hi (j : Fin 16) (N : FVec Ideal S16x32x32 .f32) (A : FVec Ideal S32x16 .f32) : rotated N A (ix2 i ⟨16 + j.val, by omega⟩)
    = N (ix3 (bat i) (tok i) ⟨j.val, by omega⟩) * Ideal.sin (A (ix2 (tok i) j))
      + N (ix3 (bat i) (tok i) ⟨16 + j.val, by omega⟩) * Ideal.cos (A (ix2 (tok i) j)) := by
  pointwise [rotated, bat, tok]

theorem skeys_at (j : Fin 512) (Z : FVec Ideal S16x32x6560 .f32) : skeys Z (ix2 i j) = Z (ix3 (bat i) (tok i) ⟨928 + j.val, by omega⟩) := by
  pointwise [skeys, bat, tok]

theorem svals_at (j : Fin 512) (Z : FVec Ideal S16x32x6560 .f32) : svals Z (ix2 i j) = Z (ix3 (bat i) (tok i) ⟨1440 + j.val, by omega⟩) := by
  pointwise [svals, bat, tok]

theorem dvals_at (j : Fin 512) (Z : FVec Ideal S16x32x6560 .f32) : dvals Z (ix2 i j) = Z (ix3 (bat i) (tok i) ⟨2976 + j.val, by omega⟩) := by
  pointwise [dvals, bat, tok]

end Cert.Ref4

end
-- ==== Proof.ProjIn.lean ====
/-
  The arrays the projection of the sample rows is given, read at one index.
-/
module

public import proofs.«01_k».proof.Proof.Proj
public import proofs.«01_k».proof.Proof.Ref4
public import Idealize.ShloMosaic.Lib.StableHlo.RunRead

@[expose] public section

set_option maxRecDepth 16384

noncomputable section

namespace Cert.Proj

open Idealize.ShloMosaic Idealize.ShloMosaic.TcCoe Idealize.ShloMosaic.StableHlo
open Cert.Kernel4Ideal Cert.Kernel4Ideal.Gen Cert.Kernel4Ideal.Value

/-- The matrix the kernel is given: the columns up to the rotated key's, filled up to 512, and the columns after them. -/
def w1 (a2 : FVec Ideal S1024x6560 .f32) : FVec Ideal S1024x3584 .f32 :=
  concatenate S1024x3584 1 [⟨S1024x512, pad S1024x512 ![0, 0] ![0, 96] ![0, 0] (extractStridedSlice S1024x416 ![0, 0] a2 slices_S1024x6560_S1024x416_0_0) (sitofp .f32 (constantI S_ 32 0#32)) pads_S1024x416_S1024x512_000_0960 h_S_⟩,
    ⟨S1024x3072, extractStridedSlice S1024x3072 ![0, 416] a2 slices_S1024x6560_S1024x3072_0_416⟩] concatenates_S1024x512_S1024x3072_S1024x3584_d1

/-- The rotated key's gain, filled up to 128 lanes. -/
def gain (a8 : FVec Ideal S32 .f32) : FVec Ideal S128 .f32 :=
  pad S128 ![0] ![96] ![0] a8 (sitofp .f32 (constantI S_ 32 0#32)) pads_S32_S128_0960 h_S_

/-- The rotary table of one batch row. -/
def table (A : FVec Ideal S32x16 .f32) : FVec Ideal S32x512 .f32 :=
  concatenate S32x512 1 [⟨S32x16, (Host.cos A)⟩, ⟨S32x16, (Host.cos A)⟩, ⟨S32x16, (Host.cos A)⟩, ⟨S32x16, (Host.cos A)⟩, ⟨S32x64, (broadcastInDim S32x64 ![] bcast_S_S32x64 (constant S_ .f32 0x00000000#32))⟩, ⟨S32x16, (Host.negf (Host.sin A))⟩, ⟨S32x16, (Host.negf (Host.sin A))⟩, ⟨S32x16, (Host.sin A)⟩, ⟨S32x16, (Host.sin A)⟩, ⟨S32x64, (broadcastInDim S32x64 ![] bcast_S_S32x64 (constant S_ .f32 0x00000000#32))⟩, ⟨S32x16, (Host.cos A)⟩, ⟨S32x16, (Host.cos A)⟩, ⟨S32x96, (broadcastInDim S32x96 ![] bcast_S_S32x96 (constant S_ .f32 0x00000000#32))⟩, ⟨S32x16, (Host.negf (Host.sin A))⟩, ⟨S32x16, (Host.sin A)⟩, ⟨S32x96, (broadcastInDim S32x96 ![] bcast_S_S32x96 (constant S_ .f32 0x00000000#32))⟩] concatenates_S32x16_S32x16_S32x16_S32x16_S32x64_S32x16_S32x16_S32x16_S32x16_S32x64_S32x16_S32x16_S32x96_S32x16_S32x16_S32x96_S32x512_d1

/-- The rotary table, a row per row of the block. -/
def tables (A : FVec Ideal S32x16 .f32) : FVec Ideal S512x512 .f32 :=
  shapeCast S512x512 (broadcastInDim S16x32x1x512 ![0, 1, 2, 3] bcast_S1x32x1x512_S16x32x1x512_0_1_2_3 (shapeCast S1x32x1x512 (table A) shapeCasts_S32x512_S1x32x1x512)) shapeCasts_S16x32x1x512_S512x512

/-- The rows, one under another. -/
theorem rows_at (a0 : FVec Ideal S16x32x1024 .f32) (r : Fin 512) (d : Fin 1024) : shapeCast S512x1024 a0 shapeCasts_S16x32x1024_S512x1024 (ix2 r d) = a0 (ix3 (Cert.Ref4.bat r) (Cert.Ref4.tok r) d) := by
  pointwise [Cert.Ref4.bat, Cert.Ref4.tok]

theorem w1_first (a2 : FVec Ideal S1024x6560 .f32) (d : Fin 1024) (j : Fin 416) : w1 a2 (ix2 d ⟨j.val, by omega⟩) = a2 (ix2 d ⟨j.val, by omega⟩) := by
  pointwise [w1]
  rw [dif_pos (by omega)]

theorem w1_pad (a2 : FVec Ideal S1024x6560 .f32) (d : Fin 1024) (j : Fin 96) : w1 a2 (ix2 d ⟨416 + j.val, by omega⟩) = 0 := by
  pointwise [w1]
  rw [dif_pos (by omega)]
  show (((0#32 : BitVec 32).toInt : ℝ) : EReal) = 0
  simp

theorem w1_rest (a2 : FVec Ideal S1024x6560 .f32) (d : Fin 1024) (j : Fin 3072) : w1 a2 (ix2 d ⟨512 + j.val, by omega⟩) = a2 (ix2 d ⟨416 + j.val, by omega⟩) := by
  pointwise [w1]

theorem gain_at (a8 : FVec Ideal S32 .f32) (j : Fin 32) : gain a8 (ix1 ⟨j.val, by omega⟩) = a8 (ix1 j) := by
  pointwise [gain]

theorem cos_lo (A : FVec Ideal S32x16 .f32) (r : Fin 512) (j : Fin 16) : tables A (ix2 r ⟨256 + j.val, by omega⟩) = Ideal.cos (A (ix2 (Cert.Ref4.tok r) j)) := by
  pointwise [tables, table, Cert.Ref4.tok]
  repeat (first | rw [dif_neg (by omega)] | rw [dif_pos (by omega)])
  exact congrArg Ideal.cos (congrArg A (congrArg (ix2 _) (Fin.ext (by dsimp only; omega))))

theorem cos_hi (A : FVec Ideal S32x16 .f32) (r : Fin 512) (j : Fin 16) : tables A (ix2 r ⟨256 + (16 + j.val), by omega⟩) = Ideal.cos (A (ix2 (Cert.Ref4.tok r) j)) := by
  pointwise [tables, table, Cert.Ref4.tok]
  repeat (first | rw [dif_neg (by omega)] | rw [dif_pos (by omega)])
  exact congrArg Ideal.cos (congrArg A (congrArg (ix2 _) (Fin.ext (by dsimp only; omega))))

theorem sin_lo (A : FVec Ideal S32x16 .f32) (r : Fin 512) (j : Fin 16) : tables A (ix2 r ⟨384 + j.val, by omega⟩) = -Ideal.sin (A (ix2 (Cert.Ref4.tok r) j)) := by
  pointwise [tables, table, Cert.Ref4.tok]
  repeat (first | rw [dif_neg (by omega)] | rw [dif_pos (by omega)])
  exact congrArg (fun z => -z) (congrArg Ideal.sin (congrArg A (congrArg (ix2 _) (Fin.ext (by dsimp only; omega)))))

theorem sin_hi (A : FVec Ideal S32x16 .f32) (r : Fin 512) (j : Fin 16) : tables A (ix2 r ⟨384 + (16 + j.val), by omega⟩) = Ideal.sin (A (ix2 (Cert.Ref4.tok r) j)) := by
  pointwise [tables, table, Cert.Ref4.tok]
  repeat (first | rw [dif_neg (by omega)] | rw [dif_pos (by omega)])
  exact congrArg Ideal.sin (congrArg A (congrArg (ix2 _) (Fin.ext (by dsimp only; omega))))

end Cert.Proj

end
-- ==== Proof.ProjHost.lean ====
/-
  The blocks of the projection of the sample rows, read at one index.
-/
module

public import proofs.«01_k».proof.Proof.ProjIn
public import Idealize.ShloMosaic.Lib.StableHlo.RunRead

@[expose] public section

set_option maxRecDepth 16384

noncomputable section

namespace Cert.Proj

open Idealize.ShloMosaic Idealize.ShloMosaic.TcCoe Idealize.ShloMosaic.StableHlo
open Cert.Kernel4Ideal Cert.Kernel4Ideal.Gen Cert.Kernel4Ideal.Value

/-! ## The arrays as the host leaves them -/

/-- A sixteen-operand operation's result, each operand at its own buffer. -/
theorem nary16 {τ : Topo} {sig : RefSig} {Val : EltTy → Type} {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

variable (m : (ℓ : Loc nD τ sig) → Buf (Elt Ideal) ℓ) (c : Dev nD) (t : Fin grid0.N) (r : Fin 512) (d : Fin 1024)

theorem w_held : V m c main_v4 = truncf (F := Ideal) .bf16 (w1 (m ((c.tc : Thread nD τ).loc main_arg2))) bitsLt_bf16_f32 := by
  after_reads_simp
  rfl

theorem gain_held : V m c main_v61 = shapeCast S1x128 (gain (m ((c.tc : Thread nD τ).loc main_arg8))) shapeCasts_S128_S1x128 := by
  after_reads_simp
  rfl

theorem x_held : V m c main_v103 = shapeCast S512x1024 (m ((c.tc : Thread nD τ).loc main_arg0)) shapeCasts_S16x32x1024_S512x1024 := by
  after_reads_simp
  rfl

theorem g_held : V m c main_v56 = shapeCast S1x1024 (m ((c.tc : Thread nD τ).loc main_arg1)) shapeCasts_S1024_S1x1024 := by
  after_reads_simp
  rfl

theorem kv_held : V m c main_v59 = shapeCast S1x128 (m ((c.tc : Thread nD τ).loc main_arg5)) shapeCasts_S128_S1x128 := by
  after_reads_simp
  rfl

set_option maxHeartbeats 4000000 in
theorem table_held : V m c main_v99 = tables Cert.Ref4.angles := by
  after_reads_simp [nary16]
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx21 : ∀ t : Fin cfg0.N, win0_21.index t = ![0, 0] := (by decide +kernel : ∀ t : Fin grid0.N, _)

theorem blk0 : iblk m c 0 t (ix2 r d) = m ((c.tc : Thread nD τ).loc main_arg0) (ix3 (Cert.Ref4.bat r) (Cert.Ref4.tok r) d) := by
  blk_simp [iblk]
  have e : (win0_0.blk t).view.emb (ix2 r d) = ix2 r d := by blk_ext [idx0 t]
  rw [e, x_held]
  exact rows_at _ r d

theorem blk1 : iblk m c 1 t (ix2 0 d) = m ((c.tc : Thread nD τ).loc main_arg1) (ix1 d) := by
  blk_simp [iblk]
  have e : (win0_1.blk t).view.emb (ix2 0 d) = ix2 0 d := by blk_ext [idx1 t]
  rw [e, g_held]
  pointwise []

theorem blk2 (j : Fin 3584) : iblk m c 2 t (ix2 d j) = w1 (m ((c.tc : Thread nD τ).loc main_arg2)) (ix2 d j) := by
  blk_simp [iblk]
  have e : (win0_2.blk t).view.emb (ix2 d j) = ix2 d j := by blk_ext [idx2 t]
  rw [e, w_held]
  rfl

theorem blk7 (j : Fin 128) : iblk m c 7 t (ix2 0 j) = m ((c.tc : Thread nD τ).loc main_arg5) (ix1 j) := by
  blk_simp [iblk]
  have e : (win0_7.blk t).view.emb (ix2 0 j) = ix2 0 j := by blk_ext [idx7 t]
  rw [e, kv_held]
  pointwise []

theorem blk8 (j : Fin 128) : iblk m c 8 t (ix2 0 j) = gain (m ((c.tc : Thread nD τ).loc main_arg8)) (ix1 j) := by
  blk_simp [iblk]
  have e : (win0_8.blk t).view.emb (ix2 0 j) = ix2 0 j := by blk_ext [idx8 t]
  rw [e, gain_held]
  pointwise []

theorem blk9 (j : Fin 512) : iblk m c 9 t (ix2 r j) = tables Cert.Ref4.angles (ix2 r j) := by
  blk_simp [iblk]
  have e : (win0_9.blk t).view.emb (ix2 r j) = ix2 r j := by blk_ext [idx9 t]
  rw [e, table_held]

end Cert.Proj

end
-- ==== Proof.ProjEq.lean ====
/-
  The five results of the projection of the sample rows are their reference's.
-/
module

public import proofs.«01_k».proof.Proof.ProjHost

@[expose] public section

set_option maxRecDepth 16384

noncomputable section

namespace Cert.Proj

open Idealize.ShloMosaic Idealize.ShloMosaic.TcCoe Idealize.ShloMosaic.StableHlo
open Cert.Kernel4Ideal Cert.Kernel4Ideal.Gen Cert.Kernel4Ideal.Value

variable (m : (ℓ : Loc nD τ sig) → Buf (Elt Ideal) ℓ) (c : Dev nD) (t : Fin grid0.N) (r : Fin 512)

/-- The point's normalised rows. -/
theorem hid_eq (k : Fin 1024) : k0_pay1 (F := Ideal) (iblk m c 0 t) (iblk m c 1 t) (ix2 r k) = Cert.Ref4.hid (m ((c.tc : Thread nD τ).loc main_arg0)) (m ((c.tc : Thread nD τ).loc main_arg1)) (ix3 (Cert.Ref4.bat r) (Cert.Ref4.tok r) k) := by
  rw [pay1_at, Cert.Ref4.hid_at]
  simp only [blk0, blk1]

theorem prod_first (j : Fin 416) : prod (iblk m c 0 t) (iblk m c 1 t) (iblk m c 2 t) r ⟨j.val, by omega⟩ = (Cert.Ref4.proj (Cert.Ref4.hid (m ((c.tc : Thread nD τ).loc main_arg0)) (m ((c.tc : Thread nD τ).loc main_arg1))) (m ((c.tc : Thread nD τ).loc main_arg2))) (ix3 (Cert.Ref4.bat r) (Cert.Ref4.tok r) ⟨j.val, by omega⟩) := by
  unfold prod
  rw [Cert.Ref4.proj_at]
  refine Finset.sum_congr rfl fun k _ => ?_
  rw [hid_eq, blk2, w1_first]

/-- The columns filled in are zeros. -/
theorem prod_pad (j : Fin 96) : prod (iblk m c 0 t) (iblk m c 1 t) (iblk m c 2 t) r ⟨416 + j.val, by omega⟩ = 0 := by
  unfold prod
  refine Finset.sum_eq_zero fun k _ => ?_
  rw [blk2, w1_pad, mul_zero]

theorem prod_rest (j : Fin 3072) : prod (iblk m c 0 t) (iblk m c 1 t) (iblk m c 2 t) r ⟨512 + j.val, by omega⟩ = (Cert.Ref4.proj (Cert.Ref4.hid (m ((c.tc : Thread nD τ).loc main_arg0)) (m ((c.tc : Thread nD τ).loc main_arg1))) (m ((c.tc : Thread nD τ).loc main_arg2))) (ix3 (Cert.Ref4.bat r) (Cert.Ref4.tok r) ⟨416 + j.val, by omega⟩) := by
  unfold prod
  rw [Cert.Ref4.proj_at]
  refine Finset.sum_congr rfl fun k _ => ?_
  rw [hid_eq, blk2, w1_rest]

/-! ## The mean over 32 of 128 lanes -/

/-- A sum over 128 lanes whose last 96 are zeros. -/
theorem sum_lanes (f : Fin 128 → EReal) (h : ∀ j : Fin 96, f ⟨32 + j.val, by omega⟩ = 0) : (∑ k : Fin 128, f k) = ∑ k : Fin 32, f ⟨k.val, by omega⟩ := by
  refine (Fin.sum_univ_add (a := 32) (b := 96) f).trans ?_
  rw [Finset.sum_eq_zero (s := Finset.univ) (f := fun i : Fin 96 => f (Fin.natAdd 32 i)) fun i _ => h i, add_zero]
  rfl

/-- Multiplying by the reciprocal of 32 is dividing by 32. -/
theorem mul_recip (x : EReal) : x * Ideal.ofBits FTy.f32 0x3D000000#32 = Ideal.div x (Ideal.ofBits FTy.f32 0x42000000#32) := by
  have e1 : Ideal.ofBits FTy.f32 0x3D000000#32 = (((32 : ℝ)⁻¹ : ℝ) : EReal) := by
    simp [Ideal.ofBits, Ideal.ieee, -EReal.coe_mul]; norm_num
  have e2 : Ideal.ofBits FTy.f32 0x42000000#32 = ((32 : ℝ) : EReal) := by
    simp [Ideal.ofBits, Ideal.ieee, -EReal.coe_mul]; norm_num
  rw [e1, e2, EReal.coe_inv]
  unfold Ideal.div
  rw [if_neg]
  intro h
  have : (32 : ℝ) = 0 := by exact_mod_cast h
  norm_num at this

/-- A lane of the key before its rotation. -/
theorem lane_eq (j : Fin 32) : lane (iblk m c 0 t) (iblk m c 1 t) (iblk m c 2 t) (iblk m c 8 t) r ⟨j.val, by omega⟩
    = Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8)) (ix3 (Cert.Ref4.bat r) (Cert.Ref4.tok r) j) := by
  have hp : ∀ k : Fin 32, prod (iblk m c 0 t) (iblk m c 1 t) (iblk m c 2 t) r ⟨384 + k.val, by omega⟩ = (Cert.Ref4.proj (Cert.Ref4.hid (m ((c.tc : Thread nD τ).loc main_arg0)) (m ((c.tc : Thread nD τ).loc main_arg1))) (m ((c.tc : Thread nD τ).loc main_arg2))) (ix3 (Cert.Ref4.bat r) (Cert.Ref4.tok r) ⟨384 + k.val, by omega⟩) :=
    fun k => prod_first m c t r ⟨384 + k.val, by omega⟩
  have hz : ∀ k : Fin 96, prod (iblk m c 0 t) (iblk m c 1 t) (iblk m c 2 t) r ⟨384 + (32 + k.val), by omega⟩ = 0 := fun k =>
    (congrArg (prod (iblk m c 0 t) (iblk m c 1 t) (iblk m c 2 t) r) (Fin.ext (by show 384 + (32 + k.val) = 416 + k.val; omega))).trans (prod_pad m c t r k)
  unfold lane
  rw [sum_lanes (fun k : Fin 128 => prod (iblk m c 0 t) (iblk m c 1 t) (iblk m c 2 t) r ⟨384 + k.val, by omega⟩ * prod (iblk m c 0 t) (iblk m c 1 t) (iblk m c 2 t) r ⟨384 + k.val, by omega⟩) (fun k => (congrArg (· * _) (hz k)).trans (zero_mul _)),
    mul_recip, Cert.Ref4.keys_at, blk8, gain_at]
  simp only [hp]

/-! ## The arrays -/

/-- The stick-breaking keys. -/
theorem final17 : (dats m 0 c).arrAt 17 cfg0.N = Cert.Ref4.skeys (Cert.Ref4.proj (Cert.Ref4.hid (m ((c.tc : Thread nD τ).loc main_arg0)) (m ((c.tc : Thread nD τ).loc main_arg1))) (m ((c.tc : Thread nD τ).loc main_arg2))) := by
  refine (dats m 0 c).arrAt_eq_of_covers 17 _ (by decide +kernel) fun t hf y => ?_
  blk_simp
  rw [after0_17]
  idx_vars y
  refine (out17_at y0 _ _ _ _ _ _ _ _ _ _ _ _ _ y1).trans (Eq.trans ?_ (congrArg _ (by blk_ext [idx17 t] : ix2 y0 y1 = _)))
  refine (congrArg (prod (iblk m c 0 t) (iblk m c 1 t) (iblk m c 2 t) y0) (Fin.ext (by show 1024 + y1.val = 512 + (512 + y1.val); omega))).trans ((prod_rest m c t y0 ⟨512 + y1.val, by omega⟩).trans (Eq.trans ?_ (Cert.Ref4.skeys_at y0 y1 _).symm))
  exact congrArg (fun q => (Cert.Ref4.proj (Cert.Ref4.hid (m ((c.tc : Thread nD τ).loc main_arg0)) (m ((c.tc : Thread nD τ).loc main_arg1))) (m ((c.tc : Thread nD τ).loc main_arg2))) (ix3 (Cert.Ref4.bat y0) (Cert.Ref4.tok y0) q)) (Fin.ext (by show 416 + (512 + y1.val) = 928 + y1.val; omega))

/-- The stick-breaking values. -/
theorem final18 : (dats m 0 c).arrAt 18 cfg0.N = Cert.Ref4.svals (Cert.Ref4.proj (Cert.Ref4.hid (m ((c.tc : Thread nD τ).loc main_arg0)) (m ((c.tc : Thread nD τ).loc main_arg1))) (m ((c.tc : Thread nD τ).loc main_arg2))) := by
  refine (dats m 0 c).arrAt_eq_of_covers 18 _ (by decide +kernel) fun t hf y => ?_
  blk_simp
  rw [after0_18]
  idx_vars y
  refine (out18_at y0 _ _ _ _ _ _ _ _ _ _ _ _ _ y1).trans (Eq.trans ?_ (congrArg _ (by blk_ext [idx18 t] : ix2 y0 y1 = _)))
  refine (congrArg (prod (iblk m c 0 t) (iblk m c 1 t) (iblk m c 2 t) y0) (Fin.ext (by show 1536 + y1.val = 512 + (1024 + y1.val); omega))).trans ((prod_rest m c t y0 ⟨1024 + y1.val, by omega⟩).trans (Eq.trans ?_ (Cert.Ref4.svals_at y0 y1 _).symm))
  exact congrArg (fun q => (Cert.Ref4.proj (Cert.Ref4.hid (m ((c.tc : Thread nD τ).loc main_arg0)) (m ((c.tc : Thread nD τ).loc main_arg1))) (m ((c.tc : Thread nD τ).loc main_arg2))) (ix3 (Cert.Ref4.bat y0) (Cert.Ref4.tok y0) q)) (Fin.ext (by show 416 + (1024 + y1.val) = 1440 + y1.val; omega))

/-- The differential attention's values. -/
theorem final21 : (dats m 0 c).arrAt 21 cfg0.N = Cert.Ref4.dvals (Cert.Ref4.proj (Cert.Ref4.hid (m ((c.tc : Thread nD τ).loc main_arg0)) (m ((c.tc : Thread nD τ).loc main_arg1))) (m ((c.tc : Thread nD τ).loc main_arg2))) := by
  refine (dats m 0 c).arrAt_eq_of_covers 21 _ (by decide +kernel) fun t hf y => ?_
  blk_simp
  rw [after0_21]
  idx_vars y
  refine (out21_at y0 _ _ _ _ _ _ _ _ _ _ _ _ _ y1).trans (Eq.trans ?_ (congrArg _ (by blk_ext [idx21 t] : ix2 y0 y1 = _)))
  refine (congrArg (prod (iblk m c 0 t) (iblk m c 1 t) (iblk m c 2 t) y0) (Fin.ext (by show 3072 + y1.val = 512 + (2560 + y1.val); omega))).trans ((prod_rest m c t y0 ⟨2560 + y1.val, by omega⟩).trans (Eq.trans ?_ (Cert.Ref4.dvals_at y0 y1 _).symm))
  exact congrArg (fun q => (Cert.Ref4.proj (Cert.Ref4.hid (m ((c.tc : Thread nD τ).loc main_arg0)) (m ((c.tc : Thread nD τ).loc main_arg1))) (m ((c.tc : Thread nD τ).loc main_arg2))) (ix3 (Cert.Ref4.bat y0) (Cert.Ref4.tok y0) q)) (Fin.ext (by show 416 + (2560 + y1.val) = 2976 + y1.val; omega))

/-- The latent rows. -/
theorem final14 : (dats m 0 c).arrAt 14 cfg0.N = Cert.Ref4.latent (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg5)) := by
  refine (dats m 0 c).arrAt_eq_of_covers 14 _ (by decide +kernel) fun t hf y => ?_
  blk_simp
  rw [after0_14]
  idx_vars y
  refine (out14_at y0 _ _ _ _ _ _ _ _ _ _ _ _ _ y1).trans (Eq.trans ?_ (congrArg _ (by blk_ext [idx14 t] : ix2 y0 y1 = _)))
  have hp : ∀ k : Fin 128, prod (iblk m c 0 t) (iblk m c 1 t) (iblk m c 2 t) y0 ⟨256 + k.val, by omega⟩ = (Cert.Ref4.proj (Cert.Ref4.hid (m ((c.tc : Thread nD τ).loc main_arg0)) (m ((c.tc : Thread nD τ).loc main_arg1))) (m ((c.tc : Thread nD τ).loc main_arg2))) (ix3 (Cert.Ref4.bat y0) (Cert.Ref4.tok y0) ⟨256 + k.val, by omega⟩) :=
    fun k => prod_first m c t y0 ⟨256 + k.val, by omega⟩
  rw [Cert.Ref4.latent_at, blk7]
  simp only [hp]

/-- The rotated key's first half. -/
theorem key_lo (i : Fin 16) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r ⟨i.val, by omega⟩) = Cert.Ref4.rotated (Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8))) Cert.Ref4.angles (ix2 r ⟨i.val, by omega⟩) := by
  refine (out15_lo r _ _ _ _ _ _ _ _ _ _ _ _ _ i).trans (Eq.trans ?_ (Cert.Ref4.rotated_lo r i _ _).symm)
  rw [blk9, blk9, cos_lo, sin_lo, mul_neg, ← sub_eq_add_neg]
  exact congrArg₂ (fun a b => a * _ - b * _) (lane_eq m c t r ⟨i.val, by omega⟩) (lane_eq m c t r ⟨16 + i.val, by omega⟩)

/-- The rotated key's second half. -/
theorem key_hi (i : Fin 16) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r ⟨16 + i.val, by omega⟩) = Cert.Ref4.rotated (Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8))) Cert.Ref4.angles (ix2 r ⟨16 + i.val, by omega⟩) := by
  refine (out15_hi r _ _ _ _ _ _ _ _ _ _ _ _ _ i).trans (Eq.trans ?_ (Cert.Ref4.rotated_hi r i _ _).symm)
  rw [blk9, blk9, cos_hi, sin_hi, add_comm]
  exact congrArg₂ (fun a b => a * _ + b * _) (lane_eq m c t r ⟨i.val, by omega⟩) (lane_eq m c t r ⟨16 + i.val, by omega⟩)

/-- The rotated key at one index. -/
theorem key_eq (j : Fin 32) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = Cert.Ref4.rotated (Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8))) Cert.Ref4.angles (ix2 r j) := by
  by_cases h : j.val < 16
  · exact key_lo m c t r ⟨j.val, h⟩
  · have e : j = ⟨16 + (⟨j.val - 16, by omega⟩ : Fin 16).val, by show 16 + (j.val - 16) < 32; omega⟩ := Fin.ext (by show j.val = 16 + (j.val - 16); omega)
    refine ((congrArg (fun q => out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r q)) e).trans (key_hi m c t r ⟨j.val - 16, by omega⟩)).trans (congrArg (fun q => Cert.Ref4.rotated (Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8))) Cert.Ref4.angles (ix2 r q)) e.symm)

/-- The rotated key. -/
theorem final15 : (dats m 0 c).arrAt 15 cfg0.N = Cert.Ref4.rotated (Cert.Ref4.keys (Cert.Ref4.proj (Cert.Ref4.hid (m ((c.tc : Thread nD τ).loc main_arg0)) (m ((c.tc : Thread nD τ).loc main_arg1))) (m ((c.tc : Thread nD τ).loc main_arg2))) (m ((c.tc : Thread nD τ).loc main_arg8))) Cert.Ref4.angles := by
  refine (dats m 0 c).arrAt_eq_of_covers 15 _ (by decide +kernel) fun t hf y => ?_
  blk_simp
  rw [after0_15]
  idx_vars y
  exact (key_eq m c t y0 y1).trans (congrArg _ (by blk_ext [idx15 t] : ix2 y0 y1 = _))

end Cert.Proj

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Equal
public import proofs.«01_k».proof.Proof.Pre
public import proofs.«01_k».proof.Proof.MergeEq
public import proofs.«01_k».proof.Proof.FfnEq
public import proofs.«01_k».proof.Proof.ProjEq
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_pre
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

/-- The kernel's result is the reference's, over the extended reals, wherever the queries, the first layer's cached keys and values, and the difference's vectors are finite. -/
theorem value : Cert.algebraic_KernelIdeal_ReferenceIdeal_pre_pre := by
  intro m g m' g' hp hag
  have hr : ∀ c : Dev Cert.KernelIdeal.nD, (Cert.KernelIdeal.Gen.dats m 0 c).arrAt 6 Cert.KernelIdeal.cfg0.N = Cert.ReferenceIdeal.Value.res_main_v92 m' c := fun c => by
    obtain ⟨h0, h1, h2, h3, h4⟩ := hag c
    obtain ⟨f0, f1, f2, f3⟩ := Cert.Pre.fn_real _ _ _ _ _ (congrFun (hp c) ix0)
    rw [Cert.Ref.res_eq, Cert.Attn.final_eq m c ⟨fun b p g h d => f0 _, f1, f2, fun a d => f3 _⟩, h0, h1, h2, h3, h4]
  refine ⟨fun c => (Cert.KernelIdeal.Gen.dats m 0 c).arrAt 6 Cert.KernelIdeal.cfg0.N, ?_, ?_⟩
  · run_from Cert.KernelIdeal.Value.run_blocks m g
  · run_from Cert.ReferenceIdeal.Value.run m' g'
    exact (hr c).symm

/-- The reference keeps its arguments, and declares no semaphore. -/
theorem frame_R : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The gated merge's result is its reference's, over the extended reals. -/
theorem value2 : Cert.algebraic_Kernel2Ideal_Reference2Ideal := by
  intro m g m' g' _ hag
  have hr : ∀ c : Dev Cert.Kernel2Ideal.nD, (Cert.Kernel2Ideal.Gen.dats m 0 c).arrAt 8 Cert.Kernel2Ideal.cfg0.N = Cert.Reference2Ideal.Value.res_main_v37 m' c := fun c => by
    obtain ⟨h0, h1, h2, h3, h4, h5, h6, h7, h8, h9⟩ := hag c
    rw [Cert.Ref2.res_eq, Cert.Merge.final_eq m c, h0, h1, h2, h3, h4, h5, h6, h7, h8, h9]
  refine ⟨fun c => (Cert.Kernel2Ideal.Gen.dats m 0 c).arrAt 8 Cert.Kernel2Ideal.cfg0.N, ?_, ?_⟩
  · run_from Cert.Kernel2Ideal.Value.run_blocks m g
  · run_from Cert.Reference2Ideal.Value.run m' g'
    exact (hr c).symm

/-- The merge's reference keeps its arguments, and declares no semaphore. -/
theorem frame_R2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The feed-forward part's reference keeps its arguments, and declares no semaphore. -/
theorem frame_R3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The feed-forward part's two results are its reference's, over the extended reals. -/
theorem value3 : Cert.algebraic_Kernel3Ideal_Reference3Ideal := by
  intro m g m' g' _ hag
  have hr : ∀ c : Dev Cert.Kernel3Ideal.nD, (Cert.Kernel3Ideal.Gen.dats m 0 c).arrAt 6 Cert.Kernel3Ideal.cfg0.N = Cert.Reference3Ideal.Value.res_main_v45 m' c := fun c => by
    obtain ⟨h0, h1, h2, h3, h4, h5⟩ := hag c
    rw [Cert.Ref3.res_eq, Cert.Ffn.final_eq m c, h0, h1, h2, h3, h4, h5]
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, ?_, ?_⟩
  · run_from Cert.Kernel3Ideal.Value.run_blocks m g
  · run_from Cert.Reference3Ideal.Value.run m' g'
    · exact (hr c).symm
    · obtain ⟨h0, h1, h2, h3, h4, h5⟩ := hag c
      rw [Cert.Ffn.final_eq7 m c, h0, h1, h2]
      rfl

/-- The sample projection's reference keeps its arguments, and declares no semaphore. -/
theorem frame_R4 : Cert.quiescent_Reference4Ideal := fun m g _ =>
  (θ_run Cert.Reference4Ideal.defs _ _).mono (fun r h => ⟨fun c => (h c).2.2.2.2.2, sem_eq_zero_of_no_sems (by decide) r.2⟩)
    (Cert.Reference4Ideal.Value.run (F := Ideal) m g)

set_option maxHeartbeats 2000000 in
/-- The sample projection's five results are its reference's, over the extended reals. -/
theorem value4 : Cert.algebraic_Kernel4Ideal_Reference4Ideal := by
  intro m g m' g' _ hag
  have hr : ∀ c : Dev Cert.Kernel4Ideal.nD, (Cert.Kernel4Ideal.Gen.dats m 0 c).arrAt 15 Cert.Kernel4Ideal.cfg0.N = Cert.Reference4Ideal.Value.res_main_v80 m' c := fun c => by
    obtain ⟨h0, h1, h2, h3, h4, h5, h6, h7, h8, h9, h10⟩ := hag c
    rw [Cert.Ref4.res_eq, Cert.Proj.final15 m c, h0, h1, h2, h8]
  have h14 : ∀ c : Dev Cert.Kernel4Ideal.nD, (Cert.Kernel4Ideal.Gen.dats m 0 c).arrAt 14 Cert.Kernel4Ideal.cfg0.N = Cert.Ref4.latent (Cert.Ref4.proj (Cert.Ref4.hid (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg2))) (m' ((c.tc : Thread Cert.Reference4Ideal.nD Cert.Reference4Ideal.τ).loc Cert.Reference4Ideal.main_arg5)) := fun c => by
    obtain ⟨h0, h1, h2, h3, h4, h5, h6, h7, h8, h9, h10⟩ := hag c
    rw [Cert.Proj.final14 m c, h0, h1, h2, h5]
  have h17 : ∀ c : Dev Cert.Kernel4Ideal.nD, (Cert.Kernel4Ideal.Gen.dats m 0 c).arrAt 17 Cert.Kernel4Ideal.cfg0.N = Cert.Ref4.skeys (Cert.Ref4.proj (Cert.Ref4.hid (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg2))) := fun c => by
    obtain ⟨h0, h1, h2, h3, h4, h5, h6, h7, h8, h9, h10⟩ := hag c
    rw [Cert.Proj.final17 m c, h0, h1, h2]
  have h18 : ∀ c : Dev Cert.Kernel4Ideal.nD, (Cert.Kernel4Ideal.Gen.dats m 0 c).arrAt 18 Cert.Kernel4Ideal.cfg0.N = Cert.Ref4.svals (Cert.Ref4.proj (Cert.Ref4.hid (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg2))) := fun c => by
    obtain ⟨h0, h1, h2, h3, h4, h5, h6, h7, h8, h9, h10⟩ := hag c
    rw [Cert.Proj.final18 m c, h0, h1, h2]
  have h21 : ∀ c : Dev Cert.Kernel4Ideal.nD, (Cert.Kernel4Ideal.Gen.dats m 0 c).arrAt 21 Cert.Kernel4Ideal.cfg0.N = Cert.Ref4.dvals (Cert.Ref4.proj (Cert.Ref4.hid (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg2))) := fun c => by
    obtain ⟨h0, h1, h2, h3, h4, h5, h6, h7, h8, h9, h10⟩ := hag c
    rw [Cert.Proj.final21 m c, h0, h1, h2]
  refine ⟨fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 17 Cert.Kernel4Ideal.cfg0.N, fun c => (Cert.Kernel4Ideal.Gen.dats m 0 c).arrAt 18 Cert.Kernel4Ideal.cfg0.N, fun c => (Cert.Kernel4Ideal.Gen.dats m 0 c).arrAt 21 Cert.Kernel4Ideal.cfg0.N, ?_, ?_⟩
  · run_from Cert.Kernel4Ideal.Value.run_blocks m g
  · run_from Cert.Reference4Ideal.Value.run m' g'
    · exact (h14 c).symm
    · exact (hr c).symm
    · exact (h17 c).symm
    · exact (h18 c).symm
    · exact (h21 c).symm

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_pre.Gen.facts, by
  refine ⟨fun m g _ => Cert.Kernel.Gen.frame m g, fun m g _ => Cert.KernelIdeal.Gen.frame m g, fun m g _ => Cert.KernelIdeal.Gen.frame m g,
    frame_R, fun m g _ => frame_R m g trivial, fun m g _ => Cert.Kernel2.Gen.frame m g, fun m g _ => Cert.Kernel2Ideal.Gen.frame m g, frame_R2,
    fun m g _ => Cert.Kernel3.Gen.frame m g, fun m g _ => Cert.Kernel3Ideal.Gen.frame m g, frame_R3,
    fun m g _ => Cert.Kernel4.Gen.frame m g, fun m g _ => Cert.Kernel4Ideal.Gen.frame m g, frame_R4, ?_, ?_, ?_, ?_, ?_, ?_, ?_, ?_⟩
  · exact ⟨IdealRules.named_const.statement Cert.KernelIdeal.κ "qscale" .f32 0x3E38AA3B#32 _ rfl, IdealRules.named_const.statement Cert.KernelIdeal.κ "log2e" .f32 0x3FB8AA3B#32 _ rfl⟩
  · exact value
  · exact trivial
  · exact value2
  · exact trivial
  · exact value3
  · exact trivial
  · exact value4⟩

end Cert.Proof

end
